-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale_log2e" .f32 0x3DA52B5C#32 (((Real.sqrt 320)⁻¹ * (Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x3x128x256 : Shape := ⟨4, ![12, 3, 128, 256]⟩
abbrev S12x3x128x64 : Shape := ⟨4, ![12, 3, 128, 64]⟩
abbrev S144x256 : Shape := ⟨2, ![144, 256]⟩
abbrev S12x3x64 : Shape := ⟨3, ![12, 3, 64]⟩
abbrev S12x24576x4x256 : Shape := ⟨4, ![12, 24576, 4, 256]⟩
abbrev S12x24576x4x8 : Shape := ⟨4, ![12, 24576, 4, 8]⟩
abbrev S12x24576x64 : Shape := ⟨3, ![12, 24576, 64]⟩
abbrev S12 : Shape := ⟨1, ![12]⟩
abbrev S12x3x4x256 : Shape := ⟨4, ![12, 3, 4, 256]⟩
abbrev S12x4x3x256 : Shape := ⟨4, ![12, 4, 3, 256]⟩
abbrev S_ : Shape := ⟨0, ![]⟩
abbrev S12x4x16x256 : Shape := ⟨4, ![12, 4, 16, 256]⟩
abbrev S12x16x64 : Shape := ⟨3, ![12, 16, 64]⟩
abbrev S12x4x8x24576 : Shape := ⟨4, ![12, 4, 8, 24576]⟩
abbrev S12x64x24576 : Shape := ⟨3, ![12, 64, 24576]⟩
abbrev S12x3x64x128 : Shape := ⟨4, ![12, 3, 64, 128]⟩
abbrev S12x3x128x1 : Shape := ⟨4, ![12, 3, 128, 1]⟩
abbrev S1x3x128x256 : Shape := ⟨4, ![1, 3, 128, 256]⟩
abbrev S1x3x64x128 : Shape := ⟨4, ![1, 3, 64, 128]⟩
abbrev S1x4x16x256 : Shape := ⟨4, ![1, 4, 16, 256]⟩
abbrev S1x16x64 : Shape := ⟨3, ![1, 16, 64]⟩
abbrev S1x512x4x128 : Shape := ⟨4, ![1, 512, 4, 128]⟩
abbrev S1 : Shape := ⟨1, ![1]⟩
abbrev S1x4x8x512 : Shape := ⟨4, ![1, 4, 8, 512]⟩
abbrev S1x64x512 : Shape := ⟨3, ![1, 64, 512]⟩
abbrev S1x3x128x1 : Shape := ⟨4, ![1, 3, 128, 1]⟩
abbrev S4x96x256 : Shape := ⟨3, ![4, 96, 256]⟩
abbrev S4x96x64 : Shape := ⟨3, ![4, 96, 64]⟩
abbrev S4x96x1 : Shape := ⟨3, ![4, 96, 1]⟩
abbrev S256x256 : Shape := ⟨2, ![256, 256]⟩
abbrev S1x1x32x256 : Shape := ⟨4, ![1, 1, 32, 256]⟩
abbrev S32x256 : Shape := ⟨2, ![32, 256]⟩
abbrev S96x256 : Shape := ⟨2, ![96, 256]⟩
abbrev S1x96x256 : Shape := ⟨3, ![1, 96, 256]⟩
abbrev S1x1x64x128 : Shape := ⟨4, ![1, 1, 64, 128]⟩
abbrev S64x128 : Shape := ⟨2, ![64, 128]⟩
abbrev S128x64 : Shape := ⟨2, ![128, 64]⟩
abbrev S32x64 : Shape := ⟨2, ![32, 64]⟩
abbrev S1x32x64 : Shape := ⟨3, ![1, 32, 64]⟩
abbrev S16x64 : Shape := ⟨2, ![16, 64]⟩
abbrev S96x16 : Shape := ⟨2, ![96, 16]⟩
abbrev S1x1x16x256 : Shape := ⟨4, ![1, 1, 16, 256]⟩
abbrev S16x256 : Shape := ⟨2, ![16, 256]⟩
abbrev S1x96x64 : Shape := ⟨3, ![1, 96, 64]⟩
abbrev S96x64 : Shape := ⟨2, ![96, 64]⟩
abbrev S96 : Shape := ⟨1, ![96]⟩
abbrev S96x1 : Shape := ⟨2, ![96, 1]⟩
abbrev S1x96x1 : Shape := ⟨3, ![1, 96, 1]⟩
abbrev S512x4x128 : Shape := ⟨3, ![512, 4, 128]⟩
abbrev S512x1x32 : Shape := ⟨3, ![512, 1, 32]⟩
abbrev S512x32 : Shape := ⟨2, ![512, 32]⟩
abbrev S32x512 : Shape := ⟨2, ![32, 512]⟩
abbrev S4x8x512 : Shape := ⟨3, ![4, 8, 512]⟩
abbrev S8x4x512 : Shape := ⟨3, ![8, 4, 512]⟩
abbrev S1x1x1x512 : Shape := ⟨4, ![1, 1, 1, 512]⟩
abbrev S1x512 : Shape := ⟨2, ![1, 512]⟩
abbrev S16x512 : Shape := ⟨2, ![16, 512]⟩
abbrev S64x512 : Shape := ⟨2, ![64, 512]⟩
abbrev S96x512 : Shape := ⟨2, ![96, 512]⟩
abbrev S256x512 : Shape := ⟨2, ![256, 512]⟩
abbrev S32x1 : Shape := ⟨2, ![32, 1]⟩
abbrev S1x1x32x1 : Shape := ⟨4, ![1, 1, 32, 1]⟩

abbrev nBuf : Space → Nat
  | .hbm => 20
  | .vmem => 25
  | .smem => 1
  | _ => 0

abbrev bufTy : (tb : Table) → Fin (tcTables nBuf tb) → BufTy
  | .hbm, ⟨0, _⟩ => ⟨S12x3x128x256, .bf16⟩
  | .hbm, ⟨1, _⟩ => ⟨S12x3x128x64, .bf16⟩
  | .hbm, ⟨2, _⟩ => ⟨S144x256, .bf16⟩
  | .hbm, ⟨3, _⟩ => ⟨S12x3x64, .bf16⟩
  | .hbm, ⟨4, _⟩ => ⟨S12x24576x4x256, .fp8e4m3⟩
  | .hbm, ⟨5, _⟩ => ⟨S12x24576x4x8, .i8⟩
  | .hbm, ⟨6, _⟩ => ⟨S12x24576x64, .bf16⟩
  | .hbm, ⟨7, _⟩ => ⟨S12x3x4x256, .bf16⟩
  | .hbm, ⟨8, _⟩ => ⟨S12x4x3x256, .bf16⟩
  | .hbm, ⟨9, _⟩ => ⟨S_, .i32⟩
  | .hbm, ⟨10, _⟩ => ⟨S_, .bf16⟩
  | .hbm, ⟨11, _⟩ => ⟨S12x4x16x256, .bf16⟩
  | .hbm, ⟨12, _⟩ => ⟨S_, .i32⟩
  | .hbm, ⟨13, _⟩ => ⟨S_, .bf16⟩
  | .hbm, ⟨14, _⟩ => ⟨S12x16x64, .bf16⟩
  | .hbm, ⟨15, _⟩ => ⟨S12x4x8x24576, .i8⟩
  | .hbm, ⟨16, _⟩ => ⟨S12x64x24576, .bf16⟩
  | .hbm, ⟨17, _⟩ => ⟨S12x3x64x128, .bf16⟩
  | .hbm, ⟨18, _⟩ => ⟨S12x3x128x256, .bf16⟩
  | .hbm, ⟨19, _⟩ => ⟨S12x3x128x1, .f32⟩
  | .local _ .vmem, ⟨0, _⟩ => ⟨S1x3x128x256, .bf16⟩
  | .local _ .vmem, ⟨1, _⟩ => ⟨S1x3x128x256, .bf16⟩
  | .local _ .vmem, ⟨2, _⟩ => ⟨S1x3x64x128, .bf16⟩
  | .local _ .vmem, ⟨3, _⟩ => ⟨S1x3x64x128, .bf16⟩
  | .local _ .vmem, ⟨4, _⟩ => ⟨S1x4x16x256, .bf16⟩
  | .local _ .vmem, ⟨5, _⟩ => ⟨S1x4x16x256, .bf16⟩
  | .local _ .vmem, ⟨6, _⟩ => ⟨S1x16x64, .bf16⟩
  | .local _ .vmem, ⟨7, _⟩ => ⟨S1x16x64, .bf16⟩
  | .local _ .vmem, ⟨8, _⟩ => ⟨S1x512x4x128, .fp8e4m3⟩
  | .local _ .vmem, ⟨9, _⟩ => ⟨S1x512x4x128, .fp8e4m3⟩
  | .local _ .vmem, ⟨10, _⟩ => ⟨S1x512x4x128, .fp8e4m3⟩
  | .local _ .vmem, ⟨11, _⟩ => ⟨S1x512x4x128, .fp8e4m3⟩
  | .local _ .vmem, ⟨12, _⟩ => ⟨S1x4x8x512, .i8⟩
  | .local _ .vmem, ⟨13, _⟩ => ⟨S1x4x8x512, .i8⟩
  | .local _ .vmem, ⟨14, _⟩ => ⟨S1x64x512, .bf16⟩
  | .local _ .vmem, ⟨15, _⟩ => ⟨S1x64x512, .bf16⟩
  | .local _ .vmem, ⟨16, _⟩ => ⟨S1x3x128x256, .bf16⟩
  | .local _ .vmem, ⟨17, _⟩ => ⟨S1x3x128x256, .bf16⟩
  | .local _ .vmem, ⟨18, _⟩ => ⟨S1x3x128x1, .f32⟩
  | .local _ .vmem, ⟨19, _⟩ => ⟨S1x3x128x1, .f32⟩
  | .local _ .vmem, ⟨20, _⟩ => ⟨S4x96x256, .bf16⟩
  | .local _ .vmem, ⟨21, _⟩ => ⟨S4x96x64, .bf16⟩
  | .local _ .vmem, ⟨22, _⟩ => ⟨S4x96x256, .f32⟩
  | .local _ .vmem, ⟨23, _⟩ => ⟨S4x96x1, .f32⟩
  | .local _ .vmem, ⟨24, _⟩ => ⟨S4x96x1, .f32⟩
  | .local _ .smem, ⟨0, _⟩ => ⟨S12, .i32⟩
  | _, _ => ⟨S12x3x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![12, 48], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c47_i32 : BitVec 32 := 47#32
  let v9 : BitVec 1 := Scalar.cmpi .eq arg1 c47_i32
  let v10 : BitVec 32 := Scalar.extui v9
  let c0_i32_3 : BitVec 32 := 0#32
  let v11 : BitVec 1 := Scalar.cmpi .ne v10 c0_i32_3
  v11

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (k0_off1_inb : ∀ i : grid0.Coords, ∀ a, (k0_off1 i) a + S1.size a ≤ S12.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S12) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c512_i32 : BitVec 32 := 512#32
  let v4 : BitVec 32 := Scalar.divsi v3 c512_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32 c0_i32_2
  let v11 : BitVec 32 := Scalar.extui v10
  let c0_i32_3 : BitVec 32 := 0#32
  let v12 : BitVec 1 := Scalar.cmpi .slt c512_i32 c0_i32_3
  let v13 : BitVec 32 := Scalar.extui v12
  let v14 : BitVec 32 := Scalar.subi v11 v13
  let v15 : BitVec 1 := Scalar.cmpi .ne v9 v14
  let v16 : BitVec 32 := Scalar.remsi v3 c512_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, v21.toNat, c0_i32_6.toNat, c0_i32_7.toNat]

def cc0_transform_5 (k0_off1_inb : ∀ i : grid0.Coords, ∀ a, (k0_off1 i) a + S1.size a ≤ S12.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S12) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c512_i32 : BitVec 32 := 512#32
  let v4 : BitVec 32 := Scalar.divsi v3 c512_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32 c0_i32_2
  let v11 : BitVec 32 := Scalar.extui v10
  let c0_i32_3 : BitVec 32 := 0#32
  let v12 : BitVec 1 := Scalar.cmpi .slt c512_i32 c0_i32_3
  let v13 : BitVec 32 := Scalar.extui v12
  let v14 : BitVec 32 := Scalar.subi v11 v13
  let v15 : BitVec 1 := Scalar.cmpi .ne v9 v14
  let v16 : BitVec 32 := Scalar.remsi v3 c512_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c1_i32_7 : BitVec 32 := 1#32
  let c0_i32_8 : BitVec 32 := 0#32
  ![arg0.toNat, v21.toNat, c0_i32_6.toNat, c1_i32_7.toNat]

def cc0_transform_6 (k0_off1_inb : ∀ i : grid0.Coords, ∀ a, (k0_off1 i) a + S1.size a ≤ S12.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S12) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c512_i32 : BitVec 32 := 512#32
  let v4 : BitVec 32 := Scalar.divsi v3 c512_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32 c0_i32_2
  let v11 : BitVec 32 := Scalar.extui v10
  let c0_i32_3 : BitVec 32 := 0#32
  let v12 : BitVec 1 := Scalar.cmpi .slt c512_i32 c0_i32_3
  let v13 : BitVec 32 := Scalar.extui v12
  let v14 : BitVec 32 := Scalar.subi v11 v13
  let v15 : BitVec 1 := Scalar.cmpi .ne v9 v14
  let v16 : BitVec 32 := Scalar.remsi v3 c512_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, c0_i32_6.toNat, c0_i32_7.toNat, v21.toNat]

def cc0_transform_7 (k0_off1_inb : ∀ i : grid0.Coords, ∀ a, (k0_off1 i) a + S1.size a ≤ S12.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S12) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c512_i32 : BitVec 32 := 512#32
  let v4 : BitVec 32 := Scalar.divsi v3 c512_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32 c0_i32_2
  let v11 : BitVec 32 := Scalar.extui v10
  let c0_i32_3 : BitVec 32 := 0#32
  let v12 : BitVec 1 := Scalar.cmpi .slt c512_i32 c0_i32_3
  let v13 : BitVec 32 := Scalar.extui v12
  let v14 : BitVec 32 := Scalar.subi v11 v13
  let v15 : BitVec 1 := Scalar.cmpi .ne v9 v14
  let v16 : BitVec 32 := Scalar.remsi v3 c512_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  ![arg0.toNat, c0_i32_6.toNat, v21.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x16x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x4x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x4x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x8x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x3x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x3x128x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "ln2" => some ((Real.log 2 : ℝ) : EReal)
  | "scale_log2e" => some (((Real.sqrt 320)⁻¹ * (Real.log 2)⁻¹ : ℝ) : EReal)
  | _ => none
-- ==== ReferenceIdeal.lean ====
abbrev S12x3x128x256 : Shape := ⟨4, ![12, 3, 128, 256]⟩
abbrev S12x3x128x64 : Shape := ⟨4, ![12, 3, 128, 64]⟩
abbrev S144x256 : Shape := ⟨2, ![144, 256]⟩
abbrev S12x3x64 : Shape := ⟨3, ![12, 3, 64]⟩
abbrev S12x24576x4x256 : Shape := ⟨4, ![12, 24576, 4, 256]⟩
abbrev S12x24576x4x8 : Shape := ⟨4, ![12, 24576, 4, 8]⟩
abbrev S12x24576x64 : Shape := ⟨3, ![12, 24576, 64]⟩
abbrev S12 : Shape := ⟨1, ![12]⟩
abbrev S_ : Shape := ⟨0, ![]⟩
abbrev S12x24576x4x8x32 : Shape := ⟨5, ![12, 24576, 4, 8, 32]⟩
abbrev S12x24576x4x8x1 : Shape := ⟨5, ![12, 24576, 4, 8, 1]⟩
abbrev S12x3x4x256 : Shape := ⟨4, ![12, 3, 4, 256]⟩
abbrev S12x3x4x32x256 : Shape := ⟨5, ![12, 3, 4, 32, 256]⟩
abbrev S12x4x24576x3x32 : Shape := ⟨5, ![12, 4, 24576, 3, 32]⟩
abbrev S12x3x4x32x24576 : Shape := ⟨5, ![12, 3, 4, 32, 24576]⟩
abbrev S12x3x128x24576 : Shape := ⟨4, ![12, 3, 128, 24576]⟩
abbrev S24576 : Shape := ⟨1, ![24576]⟩
abbrev S1x24576 : Shape := ⟨2, ![1, 24576]⟩
abbrev S12x1 : Shape := ⟨2, ![12, 1]⟩
abbrev S12x24576 : Shape := ⟨2, ![12, 24576]⟩
abbrev S12x1x1x24576 : Shape := ⟨4, ![12, 1, 1, 24576]⟩
abbrev S12x4x3x3x32 : Shape := ⟨5, ![12, 4, 3, 3, 32]⟩
abbrev S12x3x4x32x3 : Shape := ⟨5, ![12, 3, 4, 32, 3]⟩
abbrev S12x3x128x3 : Shape := ⟨4, ![12, 3, 128, 3]⟩
abbrev S3 : Shape := ⟨1, ![3]⟩
abbrev S1x3 : Shape := ⟨2, ![1, 3]⟩
abbrev S3x1 : Shape := ⟨2, ![3, 1]⟩
abbrev S3x3 : Shape := ⟨2, ![3, 3]⟩
abbrev S1x3x1x3 : Shape := ⟨4, ![1, 3, 1, 3]⟩
abbrev S12x3x128 : Shape := ⟨3, ![12, 3, 128]⟩
abbrev S12x3x128x1 : Shape := ⟨4, ![12, 3, 128, 1]⟩
abbrev S12x3 : Shape := ⟨2, ![12, 3]⟩
abbrev S12x3x1 : Shape := ⟨3, ![12, 3, 1]⟩
abbrev S12x4x256x3x32 : Shape := ⟨5, ![12, 4, 256, 3, 32]⟩
abbrev S12x3x4x32x1 : Shape := ⟨5, ![12, 3, 4, 32, 1]⟩

abbrev nBuf : Space → Nat
  | .hbm => 114
  | .vmem => 2
  | .smem => 0
  | _ => 0

abbrev bufTy : (tb : Table) → Fin (tcTables nBuf tb) → BufTy
  | .hbm, ⟨0, _⟩ => ⟨S12x3x128x256, .bf16⟩
  | .hbm, ⟨1, _⟩ => ⟨S12x3x128x64, .bf16⟩
  | .hbm, ⟨2, _⟩ => ⟨S144x256, .bf16⟩
  | .hbm, ⟨3, _⟩ => ⟨S12x3x64, .bf16⟩
  | .hbm, ⟨4, _⟩ => ⟨S12x24576x4x256, .fp8e4m3⟩
  | .hbm, ⟨5, _⟩ => ⟨S12x24576x4x8, .i8⟩
  | .hbm, ⟨6, _⟩ => ⟨S12x24576x64, .bf16⟩
  | .hbm, ⟨7, _⟩ => ⟨S12, .i32⟩
  | .hbm, ⟨8, _⟩ => ⟨S12x24576x4x256, .bf16⟩
  | .hbm, ⟨9, _⟩ => ⟨S12x24576x4x8, .i32⟩
  | .hbm, ⟨10, _⟩ => ⟨S_, .i32⟩
  | .hbm, ⟨11, _⟩ => ⟨S12x24576x4x8, .i32⟩
  | .hbm, ⟨12, _⟩ => ⟨S12x24576x4x8, .i32⟩
  | .hbm, ⟨13, _⟩ => ⟨S12x24576x4x8, .f32⟩
  | .hbm, ⟨14, _⟩ => ⟨S12x24576x4x8, .bf16⟩
  | .hbm, ⟨15, _⟩ => ⟨S12x24576x4x8x32, .bf16⟩
  | .hbm, ⟨16, _⟩ => ⟨S12x24576x4x8x1, .bf16⟩
  | .hbm, ⟨17, _⟩ => ⟨S12x24576x4x8x32, .bf16⟩
  | .hbm, ⟨18, _⟩ => ⟨S12x24576x4x8x32, .bf16⟩
  | .hbm, ⟨19, _⟩ => ⟨S12x24576x4x256, .bf16⟩
  | .hbm, ⟨20, _⟩ => ⟨S12x3x4x256, .bf16⟩
  | .hbm, ⟨21, _⟩ => ⟨S12x3x4x32x256, .bf16⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S12x4x24576x3x32, .f32⟩
  | .hbm, ⟨27, _⟩ => ⟨S12x3x4x32x24576, .f32⟩
  | .hbm, ⟨28, _⟩ => ⟨S12x3x128x24576, .f32⟩
  | .hbm, ⟨29, _⟩ => ⟨S12x3x128x24576, .f32⟩
  | .hbm, ⟨30, _⟩ => ⟨S24576, .i32⟩
  | .hbm, ⟨31, _⟩ => ⟨S1x24576, .i32⟩
  | .hbm, ⟨32, _⟩ => ⟨S12x1, .i32⟩
  | .hbm, ⟨33, _⟩ => ⟨S12x24576, .i32⟩
  | .hbm, ⟨34, _⟩ => ⟨S12x24576, .i32⟩
  | .hbm, ⟨35, _⟩ => ⟨S12x24576, .i1⟩
  | .hbm, ⟨36, _⟩ => ⟨S12x1x1x24576, .i1⟩
  | .hbm, ⟨37, _⟩ => ⟨S12x3x128x24576, .f32⟩
  | .hbm, ⟨38, _⟩ => ⟨S12x3x128x24576, .f32⟩
  | .hbm, ⟨39, _⟩ => ⟨S12x3x128x24576, .f32⟩
  | .hbm, ⟨40, _⟩ => ⟨S_, .f32⟩
  | .hbm, ⟨41, _⟩ => ⟨S_, .f32⟩
  | .hbm, ⟨42, _⟩ => ⟨S12x3x128x24576, .i1⟩
  | .hbm, ⟨43, _⟩ => ⟨S12x3x128x24576, .f32⟩
  | .hbm, ⟨44, _⟩ => ⟨S12x3x128x24576, .f32⟩
  | .hbm, ⟨45, _⟩ => ⟨S12x4x3x3x32, .f32⟩
  | .hbm, ⟨46, _⟩ => ⟨S12x3x4x32x3, .f32⟩
  | .hbm, ⟨47, _⟩ => ⟨S12x3x128x3, .f32⟩
  | .hbm, ⟨48, _⟩ => ⟨S12x3x128x3, .f32⟩
  | .hbm, ⟨49, _⟩ => ⟨S3, .i32⟩
  | .hbm, ⟨50, _⟩ => ⟨S1x3, .i32⟩
  | .hbm, ⟨51, _⟩ => ⟨S3, .i32⟩
  | .hbm, ⟨52, _⟩ => ⟨S3x1, .i32⟩
  | .hbm, ⟨53, _⟩ => ⟨S3x3, .i32⟩
  | .hbm, ⟨54, _⟩ => ⟨S3x3, .i32⟩
  | .hbm, ⟨55, _⟩ => ⟨S3x3, .i1⟩
  | .hbm, ⟨56, _⟩ => ⟨S1x3x1x3, .i1⟩
  | .hbm, ⟨57, _⟩ => ⟨S12x3x128x3, .f32⟩
  | .hbm, ⟨58, _⟩ => ⟨S12x3x128x3, .f32⟩
  | .hbm, ⟨59, _⟩ => ⟨S12x3x128x3, .f32⟩
  | .hbm, ⟨60, _⟩ => ⟨S_, .f32⟩
  | .hbm, ⟨61, _⟩ => ⟨S_, .f32⟩
  | .hbm, ⟨62, _⟩ => ⟨S12x3x128x3, .i1⟩
  | .hbm, ⟨63, _⟩ => ⟨S12x3x128x3, .f32⟩
  | .hbm, ⟨64, _⟩ => ⟨S12x3x128x3, .f32⟩
  | .hbm, ⟨65, _⟩ => ⟨S_, .f32⟩
  | .hbm, ⟨66, _⟩ => ⟨S12x3x128, .f32⟩
  | .hbm, ⟨67, _⟩ => ⟨S_, .f32⟩
  | .hbm, ⟨68, _⟩ => ⟨S12x3x128, .f32⟩
  | .hbm, ⟨69, _⟩ => ⟨S12x3x128, .f32⟩
  | .hbm, ⟨70, _⟩ => ⟨S12x3x128x1, .f32⟩
  | .hbm, ⟨71, _⟩ => ⟨S12x3x128x24576, .f32⟩
  | .hbm, ⟨72, _⟩ => ⟨S12x3x128x24576, .f32⟩
  | .hbm, ⟨73, _⟩ => ⟨S12x3x128x24576, .f32⟩
  | .hbm, ⟨74, _⟩ => ⟨S12x3x128x1, .f32⟩
  | .hbm, ⟨75, _⟩ => ⟨S12x3x128x3, .f32⟩
  | .hbm, ⟨76, _⟩ => ⟨S12x3x128x3, .f32⟩
  | .hbm, ⟨77, _⟩ => ⟨S12x3x128x3, .f32⟩
  | .hbm, ⟨78, _⟩ => ⟨S_, .f32⟩
  | .hbm, ⟨79, _⟩ => ⟨S12x3x128, .f32⟩
  | .hbm, ⟨80, _⟩ => ⟨S_, .f32⟩
  | .hbm, ⟨81, _⟩ => ⟨S12x3x128, .f32⟩
  | .hbm, ⟨82, _⟩ => ⟨S12x3x128, .f32⟩
  | .hbm, ⟨83, _⟩ => ⟨S12x1, .i32⟩
  | .hbm, ⟨84, _⟩ => ⟨S3, .i32⟩
  | .hbm, ⟨85, _⟩ => ⟨S1x3, .i32⟩
  | .hbm, ⟨86, _⟩ => ⟨S12x3, .i32⟩
  | .hbm, ⟨87, _⟩ => ⟨S12x3, .i32⟩
  | .hbm, ⟨88, _⟩ => ⟨S12x3, .i32⟩
  | .hbm, ⟨89, _⟩ => ⟨S_, .i32⟩
  | .hbm, ⟨90, _⟩ => ⟨S12x3, .i32⟩
  | .hbm, ⟨91, _⟩ => ⟨S12x3, .i32⟩
  | .hbm, ⟨92, _⟩ => ⟨S12x3, .f32⟩
  | .hbm, ⟨93, _⟩ => ⟨S12x3x128, .f32⟩
  | .hbm, ⟨94, _⟩ => ⟨S12x3x128, .f32⟩
  | .hbm, ⟨95, _⟩ => ⟨S12x3, .f32⟩
  | .hbm, ⟨96, _⟩ => ⟨S12x3x1, .f32⟩
  | .hbm, ⟨97, _⟩ => ⟨S12x3x128, .f32⟩
  | .hbm, ⟨98, _⟩ => ⟨S12x3x128, .f32⟩
  | .hbm, ⟨99, _⟩ => ⟨S12x3x128x24576, .bf16⟩
  | .hbm, ⟨100, _⟩ => ⟨S12x3x4x32x24576, .bf16⟩
  | .hbm, ⟨101, _⟩ => ⟨S12x3x128x3, .bf16⟩
  | .hbm, ⟨102, _⟩ => ⟨S12x3x4x32x3, .bf16⟩
  | .hbm, ⟨103, _⟩ => ⟨S12x4x256x3x32, .f32⟩
  | .hbm, ⟨104, _⟩ => ⟨S12x3x4x32x256, .f32⟩
  | .hbm, ⟨105, _⟩ => ⟨S12x4x256x3x32, .f32⟩
  | .hbm, ⟨106, _⟩ => ⟨S12x3x4x32x256, .f32⟩
  | .hbm, ⟨107, _⟩ => ⟨S12x3x4x32x256, .f32⟩
  | .hbm, ⟨108, _⟩ => ⟨S12x3x4x32x1, .f32⟩
  | .hbm, ⟨109, _⟩ => ⟨S12x3x4x32x256, .f32⟩
  | .hbm, ⟨110, _⟩ => ⟨S12x3x4x32x256, .f32⟩
  | .hbm, ⟨111, _⟩ => ⟨S12x3x128x256, .f32⟩
  | .hbm, ⟨112, _⟩ => ⟨S12x3x128x256, .bf16⟩
  | .hbm, ⟨113, _⟩ => ⟨S12x3x128x1, .f32⟩
  | .local _ .vmem, ⟨0, _⟩ => ⟨S12x24576x4x256, .fp8e4m3⟩
  | .local _ .vmem, ⟨1, _⟩ => ⟨S12x24576x4x256, .bf16⟩
  | _, _ => ⟨S12x3x128x256, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_1 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_2 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v45 : Ref sig .tc := ⟨.hbm, 64, rfl⟩
abbrev main_cst_3 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_5 : Ref sig .tc := ⟨.hbm, 78, rfl⟩
abbrev main_v57 : Ref sig .tc := ⟨.hbm, 79, rfl⟩
abbrev main_cst_6 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_7 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S12x24576x4x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x24576x4x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Word.lean ====
/-
  Words: the block of the cache that a grid point reads, as a function of the sequence's length word.
-/
module

public import Idealize.ShloMosaic.Lib.Affine
public import Idealize.ShloMosaic.Lib.WordCmp

@[expose] public section

noncomputable section

open Idealize.ShloMosaic

namespace Cert.Word

/-- The index of the last block that holds a visible position, from `x`, the greatest visible position (or zero): the
    quotient by 512, rounded towards minus infinity, as the index maps write it. -/
def quo (x : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt 512#32 0#32)) (Scalar.extui (Scalar.cmpi .slt 512#32 0#32))))
      (Scalar.cmpi .ne (Scalar.remsi x 512#32) 0#32))
    (Scalar.subi (Scalar.divsi x 512#32) 1#32) (Scalar.divsi x 512#32)

/-- The block a point reads: its own, or the last one with a visible position if that comes before. -/
def blk (t n : BitVec 32) : BitVec 32 := Scalar.minsi t (quo (Scalar.maxsi (Scalar.subi n 1#32) 0#32))

/-- A word read signed is the integer it is. -/
theorem isInt {x : BitVec 32} {e : Int} (h : x.toInt = e) : Affine.IsInt x e := by unfold Affine.IsInt; exact h

/-- The integer a word is, read signed. -/
theorem of_isInt {x : BitVec 32} {e : Int} (h : Affine.IsInt x e) : x.toInt = e := by unfold Affine.IsInt at h; exact h

/-- The quotient of a word that is not negative. -/
theorem quo_toInt (x : BitVec 32) (hx : 0 ≤ x.toInt) : (quo x).toInt = x.toInt / 512 := by
  have hd : (Scalar.divsi x 512#32).toInt = x.toInt / 512 :=
    of_isInt (Affine.divsi (isInt rfl) (isInt (by decide : (512#32 : BitVec 32).toInt = 512)) ⟨rfl, hx, by omega⟩)
  have hsel : quo x = Scalar.divsi x 512#32 := by
    unfold quo
    by_cases h0 : x = 0#32
    · subst h0; decide
    · have hpos : 0 < x.toInt := by
        rcases lt_or_eq_of_le hx with h | h
        · exact h
        · exact absurd (BitVec.eq_of_toInt_eq (by rw [← h]; rfl)) h0
      have h1 : Scalar.cmpi .sgt x 0#32 = 1#1 := by
        show BitVec.ofBool (BitVec.slt 0#32 x) = 1#1
        rw [BitVec.slt, decide_eq_true (by simpa using hpos)]; rfl
      have h2 : Scalar.cmpi .slt x 0#32 = 0#1 := by
        show BitVec.ofBool (BitVec.slt x 0#32) = 0#1
        rw [BitVec.slt, decide_eq_false (by simp; omega)]; rfl
      rw [h1, h2, show Scalar.cmpi .ne (Scalar.subi (Scalar.extui 1#1) (Scalar.extui 0#1))
        (Scalar.subi (Scalar.extui (Scalar.cmpi .sgt 512#32 0#32)) (Scalar.extui (Scalar.cmpi .slt 512#32 0#32))) = 0#1 from by decide]
      unfold Scalar.andi IntOp.andi
      rw [BitVec.zero_and]
      rfl
  rw [hsel, hd]

/-- The larger of a word and zero. -/
theorem max_zero_toInt (y : BitVec 32) : (Scalar.maxsi y 0#32).toInt = max y.toInt 0 := by
  unfold Scalar.maxsi IntOp.maxsi BitVec.slt
  split <;> rename_i h <;> simp at h <;> simp <;> omega

/-- The block a point reads, as an integer. -/
theorem blk_toInt (t : ℕ) (ht : t < 48) (n : BitVec 32) :
    (blk (BitVec.ofNat 32 t) n).toInt = min (t : Int) (max (Scalar.subi n 1#32).toInt 0 / 512) := by
  have hq := quo_toInt (Scalar.maxsi (Scalar.subi n 1#32) 0#32) (by rw [max_zero_toInt]; exact le_max_right _ _)
  rw [max_zero_toInt] at hq
  have ht' : (BitVec.ofNat 32 t).toInt = t := WordCmp.toInt_ofNat_of_lt (by omega)
  unfold blk Scalar.minsi IntOp.minsi BitVec.slt
  rw [hq, ht']
  split <;> rename_i h <;> simp only [decide_eq_true_eq] at h
  · rw [ht']; omega
  · rw [hq]; omega

/-- The block a point reads is one of the 48. -/
theorem blk_lt (t : ℕ) (ht : t < 48) (n : BitVec 32) : (blk (BitVec.ofNat 32 t) n).toNat < 48 := by
  have h := blk_toInt t ht n
  have h2 : 0 ≤ (blk (BitVec.ofNat 32 t) n).toInt := by rw [h]; omega
  have h3 : (blk (BitVec.ofNat 32 t) n).toInt < 48 := by rw [h]; omega
  have := BitVec.toInt_eq_toNat_cond (blk (BitVec.ofNat 32 t) n)
  split at this <;> omega

/-- A point with a visible position in its own block reads its own block. -/
theorem blk_eq (t : ℕ) (ht : t < 48) (n : BitVec 32) (h : (512 * t : Int) < n.toInt) :
    (blk (BitVec.ofNat 32 t) n).toNat = t := by
  have hb := blk_toInt t ht n
  have hs : (Scalar.subi n 1#32).toInt = n.toInt - 1 := by
    refine of_isInt (Affine.subi (isInt rfl) (isInt (by decide : (1#32 : BitVec 32).toInt = 1)) ⟨rfl, ?_, ?_⟩)
    · omega
    · have := BitVec.toInt_lt (x := n); omega
  rw [hs] at hb
  have := BitVec.toInt_eq_toNat_cond (blk (BitVec.ofNat 32 t) n)
  split at this <;> omega

end Cert.Word

end

end
-- ==== Proof.OkKernel.lean ====
/-
  The index maps of `Kernel` that read the table of lengths stay inside their arrays, whatever the table holds.
-/
module

public import proofs.«01_k».proof.Proof.Gen.Kernel.Frame.Runs
public import proofs.«01_k».proof.Proof.Word

@[expose] public section

set_option maxRecDepth 16384

noncomputable section

open Idealize.ShloMosaic Idealize.ShloMosaic.TcCoe Idealize.SL.Sem

namespace Cert.Kernel.Value

open Cert.Kernel Cert.Kernel.Gen

variable {F : FTy → Type} [FloatOps F]

/-- The length word a point's index maps read. -/
def lenW (pf : pre0.Contents (Elt F)) (i : grid0.Coords) : BitVec 32 :=
  pf.at 0 (Rect.unit (s := S12) (k0_off1 i) S1.size (k0_off1_inb i)) numel1_S1

/-- The index map of the first half of the codes. -/
theorem ix4_eq (pf : pre0.Contents (Elt F)) (i : grid0.Coords) : cc0_transform_4 k0_off1_inb numel1_S1 pf i
    = ![(BitVec.ofNat 32 (i 0).val).toNat, (Word.blk (BitVec.ofNat 32 (i 1).val) (lenW pf i)).toNat, 0, 0] := rfl

/-- The index map of the second half of the codes. -/
theorem ix5_eq (pf : pre0.Contents (Elt F)) (i : grid0.Coords) : cc0_transform_5 k0_off1_inb numel1_S1 pf i
    = ![(BitVec.ofNat 32 (i 0).val).toNat, (Word.blk (BitVec.ofNat 32 (i 1).val) (lenW pf i)).toNat, 0, 1] := rfl

/-- The index map of the scales. -/
theorem ix6_eq (pf : pre0.Contents (Elt F)) (i : grid0.Coords) : cc0_transform_6 k0_off1_inb numel1_S1 pf i
    = ![(BitVec.ofNat 32 (i 0).val).toNat, 0, 0, (Word.blk (BitVec.ofNat 32 (i 1).val) (lenW pf i)).toNat] := rfl

/-- The index map of the rotary keys. -/
theorem ix7_eq (pf : pre0.Contents (Elt F)) (i : grid0.Coords) : cc0_transform_7 k0_off1_inb numel1_S1 pf i
    = ![(BitVec.ofNat 32 (i 0).val).toNat, 0, (Word.blk (BitVec.ofNat 32 (i 1).val) (lenW pf i)).toNat] := rfl

/-- The batch coordinate as a word. -/
theorem batch_toNat (i : grid0.Coords) : (BitVec.ofNat 32 (i 0).val).toNat = (i 0).val := by
  have : (i 0).val < 12 := (i 0).isLt
  exact WordCmp.toNat_ofNat_of_lt (by omega)

/-- Every window whose index map reads the table has its blocks inside its array and transfers whole words. -/
theorem ok_all (pf : pre0.Contents (Elt F)) : ok0 pf := by
  refine ⟨fun i => ?_, fun i => ?_, fun i => ?_, fun i => ?_⟩
  all_goals
    have hb : (i 0).val < 12 := (i 0).isLt
    have ht : (i 1).val < 48 := (i 1).isLt
    have hw := Word.blk_lt (i 1).val ht (lenW pf i)
    have h0 := batch_toNat i
  · refine ⟨fun a => ?_, .inr (Affine.block_words_dvd (of_decide_eq_true rfl) (by decide))⟩
    rw [ix4_eq]
    match a with
    | 0 => show ((BitVec.ofNat 32 (i 0).val).toNat + 1) * 1 ≤ 12; omega
    | 1 => show ((Word.blk (BitVec.ofNat 32 (i 1).val) (lenW pf i)).toNat + 1) * 512 ≤ 24576; omega
    | 2 => show (0 + 1) * 4 ≤ 4; omega
    | 3 => show (0 + 1) * 128 ≤ 256; omega
  · refine ⟨fun a => ?_, .inr (Affine.block_words_dvd (of_decide_eq_true rfl) (by decide))⟩
    rw [ix5_eq]
    match a with
    | 0 => show ((BitVec.ofNat 32 (i 0).val).toNat + 1) * 1 ≤ 12; omega
    | 1 => show ((Word.blk (BitVec.ofNat 32 (i 1).val) (lenW pf i)).toNat + 1) * 512 ≤ 24576; omega
    | 2 => show (0 + 1) * 4 ≤ 4; omega
    | 3 => show (1 + 1) * 128 ≤ 256; omega
  · refine ⟨fun a => ?_, .inr (Affine.block_words_dvd (of_decide_eq_true rfl) (by decide))⟩
    rw [ix6_eq]
    match a with
    | 0 => show ((BitVec.ofNat 32 (i 0).val).toNat + 1) * 1 ≤ 12; omega
    | 1 => show (0 + 1) * 4 ≤ 4; omega
    | 2 => show (0 + 1) * 8 ≤ 8; omega
    | 3 => show ((Word.blk (BitVec.ofNat 32 (i 1).val) (lenW pf i)).toNat + 1) * 512 ≤ 24576; omega
  · refine ⟨fun a => ?_, .inr (Affine.block_words_dvd (of_decide_eq_true rfl) (by decide))⟩
    rw [ix7_eq]
    match a with
    | 0 => show ((BitVec.ofNat 32 (i 0).val).toNat + 1) * 1 ≤ 12; omega
    | 1 => show (0 + 1) * 64 ≤ 64; omega
    | 2 => show ((Word.blk (BitVec.ofNat 32 (i 1).val) (lenW pf i)).toNat + 1) * 512 ≤ 24576; omega

/-- The pipeline's side condition holds from every memory. -/
theorem ok (m : (ℓ : Loc nD τ sig) → Buf (Elt F) ℓ) : Ok m := ok_all _

end Cert.Kernel.Value

end

end
-- ==== Proof.OkKernelIdeal.lean ====
/-
  The index maps of `KernelIdeal` that read the table of lengths stay inside their arrays, whatever the table holds.
-/
module

public import proofs.«01_k».proof.Proof.Gen.KernelIdeal.Frame.Runs
public import proofs.«01_k».proof.Proof.Word

@[expose] public section

set_option maxRecDepth 16384

noncomputable section

open Idealize.ShloMosaic Idealize.ShloMosaic.TcCoe Idealize.SL.Sem

namespace Cert.KernelIdeal.Value

open Cert.KernelIdeal Cert.KernelIdeal.Gen

variable {F : FTy → Type} [FloatOps F] [Named F]

/-- The length word a point's index maps read. -/
def lenW (pf : pre0.Contents (Elt F)) (i : grid0.Coords) : BitVec 32 :=
  pf.at 0 (Rect.unit (s := S12) (k0_off1 i) S1.size (k0_off1_inb i)) numel1_S1

/-- The index map of the first half of the codes. -/
theorem ix4_eq (pf : pre0.Contents (Elt F)) (i : grid0.Coords) : cc0_transform_4 k0_off1_inb numel1_S1 pf i
    = ![(BitVec.ofNat 32 (i 0).val).toNat, (Word.blk (BitVec.ofNat 32 (i 1).val) (lenW pf i)).toNat, 0, 0] := rfl

/-- The index map of the second half of the codes. -/
theorem ix5_eq (pf : pre0.Contents (Elt F)) (i : grid0.Coords) : cc0_transform_5 k0_off1_inb numel1_S1 pf i
    = ![(BitVec.ofNat 32 (i 0).val).toNat, (Word.blk (BitVec.ofNat 32 (i 1).val) (lenW pf i)).toNat, 0, 1] := rfl

/-- The index map of the scales. -/
theorem ix6_eq (pf : pre0.Contents (Elt F)) (i : grid0.Coords) : cc0_transform_6 k0_off1_inb numel1_S1 pf i
    = ![(BitVec.ofNat 32 (i 0).val).toNat, 0, 0, (Word.blk (BitVec.ofNat 32 (i 1).val) (lenW pf i)).toNat] := rfl

/-- The index map of the rotary keys. -/
theorem ix7_eq (pf : pre0.Contents (Elt F)) (i : grid0.Coords) : cc0_transform_7 k0_off1_inb numel1_S1 pf i
    = ![(BitVec.ofNat 32 (i 0).val).toNat, 0, (Word.blk (BitVec.ofNat 32 (i 1).val) (lenW pf i)).toNat] := rfl

/-- The batch coordinate as a word. -/
theorem batch_toNat (i : grid0.Coords) : (BitVec.ofNat 32 (i 0).val).toNat = (i 0).val := by
  have : (i 0).val < 12 := (i 0).isLt
  exact WordCmp.toNat_ofNat_of_lt (by omega)

/-- Every window whose index map reads the table has its blocks inside its array and transfers whole words. -/
theorem ok_all (pf : pre0.Contents (Elt F)) : ok0 pf := by
  refine ⟨fun i => ?_, fun i => ?_, fun i => ?_, fun i => ?_⟩
  all_goals
    have hb : (i 0).val < 12 := (i 0).isLt
    have ht : (i 1).val < 48 := (i 1).isLt
    have hw := Word.blk_lt (i 1).val ht (lenW pf i)
    have h0 := batch_toNat i
  · refine ⟨fun a => ?_, .inr (Affine.block_words_dvd (of_decide_eq_true rfl) (by decide))⟩
    rw [ix4_eq]
    match a with
    | 0 => show ((BitVec.ofNat 32 (i 0).val).toNat + 1) * 1 ≤ 12; omega
    | 1 => show ((Word.blk (BitVec.ofNat 32 (i 1).val) (lenW pf i)).toNat + 1) * 512 ≤ 24576; omega
    | 2 => show (0 + 1) * 4 ≤ 4; omega
    | 3 => show (0 + 1) * 128 ≤ 256; omega
  · refine ⟨fun a => ?_, .inr (Affine.block_words_dvd (of_decide_eq_true rfl) (by decide))⟩
    rw [ix5_eq]
    match a with
    | 0 => show ((BitVec.ofNat 32 (i 0).val).toNat + 1) * 1 ≤ 12; omega
    | 1 => show ((Word.blk (BitVec.ofNat 32 (i 1).val) (lenW pf i)).toNat + 1) * 512 ≤ 24576; omega
    | 2 => show (0 + 1) * 4 ≤ 4; omega
    | 3 => show (1 + 1) * 128 ≤ 256; omega
  · refine ⟨fun a => ?_, .inr (Affine.block_words_dvd (of_decide_eq_true rfl) (by decide))⟩
    rw [ix6_eq]
    match a with
    | 0 => show ((BitVec.ofNat 32 (i 0).val).toNat + 1) * 1 ≤ 12; omega
    | 1 => show (0 + 1) * 4 ≤ 4; omega
    | 2 => show (0 + 1) * 8 ≤ 8; omega
    | 3 => show ((Word.blk (BitVec.ofNat 32 (i 1).val) (lenW pf i)).toNat + 1) * 512 ≤ 24576; omega
  · refine ⟨fun a => ?_, .inr (Affine.block_words_dvd (of_decide_eq_true rfl) (by decide))⟩
    rw [ix7_eq]
    match a with
    | 0 => show ((BitVec.ofNat 32 (i 0).val).toNat + 1) * 1 ≤ 12; omega
    | 1 => show (0 + 1) * 64 ≤ 64; omega
    | 2 => show ((Word.blk (BitVec.ofNat 32 (i 1).val) (lenW pf i)).toNat + 1) * 512 ≤ 24576; omega

/-- The pipeline's side condition holds from every memory. -/
theorem ok (m : (ℓ : Loc nD τ sig) → Buf (Elt F) ℓ) : Ok m := ok_all _

end Cert.KernelIdeal.Value

end

end
-- ==== Proof.Chunk.lean ====
/-
  One block of the cache as the kernel rebuilds it: the codes transposed, their rows reordered inside each group of
  thirty-two, times the power of two of their group.
-/
module

public import proofs.«01_k».proof.Proof.Gen.KernelIdeal.Skeleton
public import Idealize.ShloMosaic.Lib.Pipeline.ValueKit
public import Idealize.ShloMosaic.Lib.BitcastPair

@[expose] public section

set_option maxRecDepth 16384

noncomputable section

namespace Cert.KernelIdeal.Value

open Idealize.ShloMosaic Cert.KernelIdeal Cert.KernelIdeal.Gen

/-- The column of a latent that the kernel keeps in row `r` of a rebuilt block. -/
def perm (r : Fin 256) : Fin 256 := ⟨r.val / 32 * 32 + (r.val % 32 % 4 * 8 + r.val % 32 / 4), by omega⟩

/-- A scale byte as the number it stands for: the byte placed in the exponent field of a bfloat16. -/
def pow2 (e : BitVec 8) : EReal := Ideal.ofBits .bf16 (e.setWidth 16 <<< 7)

/-- Both halves of the word the kernel makes of a scale byte are the bfloat16 with that byte as its exponent. -/
theorem halves (e : BitVec 8) (k : ℕ) (hk : k < 2) :
    ((e.setWidth 32 <<< 7) ||| (e.setWidth 32 <<< 23)).extractLsb' (16 * k) 16 = e.setWidth 16 <<< 7 := by
  have h : ∀ (e : BitVec 8) (k : Fin 2),
      ((e.setWidth 32 <<< 7) ||| (e.setWidth 32 <<< 23)).extractLsb' (16 * k.val) 16 = e.setWidth 16 <<< 7 := by
    decide +kernel
  exact h e ⟨k, hk⟩

/-- Thirty-two rows of a rebuilt block, from the codes of one half and the scale bytes of their group. -/
def chunk (o : Fin 3 → ℕ) (h : S512x4x128.Slices o S512x1x32) (w : FVec Ideal S512x4x128 .fp8e4m3)
    (s : IVec S1x1x1x512 8) : FVec Ideal S32x512 .bf16 :=
  have v14 : FVec Ideal S512x1x32 .fp8e4m3 := extractStridedSlice S512x1x32 o w h
  have v15 : FVec Ideal S512x32 .fp8e4m3 := shapeCast S512x32 v14 shapeCasts_S512x1x32_S512x32
  have v16 : FVec Ideal S512x32 .bf16 := extf .bf16 v15 bitsLt_fp8e4m3_bf16
  have v17 : FVec Ideal S32x512 .bf16 := transpose S32x512 [1, 0] v16 transposes_S512x32_p1_0_S32x512
  have v18 : FVec Ideal S4x8x512 .bf16 := shapeCast S4x8x512 v17 shapeCasts_S32x512_S4x8x512
  have v19 : FVec Ideal S8x4x512 .bf16 := transpose S8x4x512 [1, 0, 2] v18 transposes_S4x8x512_p1_0_2_S8x4x512
  have v20 : FVec Ideal S32x512 .bf16 := shapeCast S32x512 v19 shapeCasts_S8x4x512_S32x512
  have v22 : IVec S1x512 8 := shapeCast S1x512 s shapeCasts_S1x1x1x512_S1x512
  have v23 : IVec S1x512 32 := extui 32 v22 natLt_8_32
  have v24 : IVec S1x512 32 := broadcast S1x512 7#32
  have v25 : IVec S1x512 32 := shli v23 v24
  have v26 : IVec S1x512 32 := broadcast S1x512 23#32
  have v27 : IVec S1x512 32 := shli v23 v26
  have v28 : IVec S1x512 32 := ori v25 v27
  have v29 : IVec S1x512 32 := shapeCast S1x512 v28 shapeCasts_S1x512_S1x512
  have v30 : IVec S16x512 32 := broadcastTo S16x512 v29 broadcasts_S1x512_S16x512
  have v31 : FVec Ideal S32x512 .bf16 := bitcastToFloat .bf16 (bitcast S32x512 16 v30 bitcasts_S16x512_w32_S32x512_w16)
  have v32 : FVec Ideal S32x512 .bf16 := mulf v20 v31
  v32

/-- What the rows of `chunk` hold. -/
theorem chunk_apply (l q : Fin 4) (h : S512x4x128.Slices ![0, l.val, 32 * q.val] S512x1x32)
    (w : FVec Ideal S512x4x128 .fp8e4m3) (s : IVec S1x1x1x512 8) (r : Fin 32) (p : Fin 512) :
    chunk ![0, l.val, 32 * q.val] h w s (ix2 r p)
      = w (ix3 p l ⟨32 * q.val + (r.val % 4 * 8 + r.val / 4), by omega⟩) * pow2 (s (ix4 0 0 0 p)) := by
  pointwise [chunk]
  rw [bitcast_32_16]
  refine congrArg₂ (· * ·) rfl (congrArg _ ?_)
  have e : ∀ (a : ℕ) (ha : ∀ b : Fin S16x512.rank, b.val + 2 = S16x512.rank → a < S16x512.size b),
      bitcasts_S16x512_w32_S32x512_w16.srcIdx (ix2 r p) a ha = ix2 ⟨a, ha 0 rfl⟩ p := fun a ha => by
    funext b
    fin_cases b <;> rfl
  rw [e]
  pointwise
  exact halves _ _ (Nat.mod_lt _ (by decide))

/-- A rebuilt block is its eight groups one below the other. -/
theorem cat_apply (f : Fin 8 → FVec Ideal S32x512 .bf16) (r : Fin 256) (p : Fin 512) :
    k0_pay130 (F := Ideal) (f 0) (f 1) (f 2) (f 3) (f 4) (f 5) (f 6) (f 7) (ix2 r p)
      = f ⟨r.val / 32, by omega⟩ (ix2 ⟨r.val % 32, by omega⟩ p) := by
  pointwise [k0_pay130]
  have hk : ∀ (k : Fin 8) (x : Fin 32), r.val = 32 * k.val + x.val →
      f k (ix2 x p) = f ⟨r.val / 32, by omega⟩ (ix2 ⟨r.val % 32, by omega⟩ p) := by
    intro k x h
    have h1 : (⟨r.val / 32, by omega⟩ : Fin 8) = k := Fin.ext (by show r.val / 32 = k.val; omega)
    have h2 : (⟨r.val % 32, by omega⟩ : Fin 32) = x := Fin.ext (by show r.val % 32 = x.val; omega)
    rw [h1, h2]
  have hr := r.isLt
  by_cases h0 : r.val < 32
  · rw [dif_pos h0]
    exact hk 0 ⟨r.val, h0⟩ (by show r.val = 32 * 0 + (r.val); omega)
  rw [dif_neg h0]
  by_cases h1 : r.val - 32 < 32
  · rw [dif_pos h1]
    exact hk 1 ⟨r.val - 32, h1⟩ (by show r.val = 32 * 1 + (r.val - 32); omega)
  rw [dif_neg h1]
  by_cases h2 : r.val - 32 - 32 < 32
  · rw [dif_pos h2]
    exact hk 2 ⟨r.val - 32 - 32, h2⟩ (by show r.val = 32 * 2 + (r.val - 32 - 32); omega)
  rw [dif_neg h2]
  by_cases h3 : r.val - 32 - 32 - 32 < 32
  · rw [dif_pos h3]
    exact hk 3 ⟨r.val - 32 - 32 - 32, h3⟩ (by show r.val = 32 * 3 + (r.val - 32 - 32 - 32); omega)
  rw [dif_neg h3]
  by_cases h4 : r.val - 32 - 32 - 32 - 32 < 32
  · rw [dif_pos h4]
    exact hk 4 ⟨r.val - 32 - 32 - 32 - 32, h4⟩ (by show r.val = 32 * 4 + (r.val - 32 - 32 - 32 - 32); omega)
  rw [dif_neg h4]
  by_cases h5 : r.val - 32 - 32 - 32 - 32 - 32 < 32
  · rw [dif_pos h5]
    exact hk 5 ⟨r.val - 32 - 32 - 32 - 32 - 32, h5⟩ (by show r.val = 32 * 5 + (r.val - 32 - 32 - 32 - 32 - 32); omega)
  rw [dif_neg h5]
  by_cases h6 : r.val - 32 - 32 - 32 - 32 - 32 - 32 < 32
  · rw [dif_pos h6]
    exact hk 6 ⟨r.val - 32 - 32 - 32 - 32 - 32 - 32, h6⟩ (by show r.val = 32 * 6 + (r.val - 32 - 32 - 32 - 32 - 32 - 32); omega)
  rw [dif_neg h6]
  exact hk 7 ⟨r.val - 32 - 32 - 32 - 32 - 32 - 32 - 32, by omega⟩ (by show r.val = 32 * 7 + (r.val - 32 - 32 - 32 - 32 - 32 - 32 - 32); omega)

end Cert.KernelIdeal.Value

end
end
-- ==== Proof.Online.lean ====
/-
  The mathematics of the running softmax over the extended reals. Nothing of the kernel is mentioned: scores, values,
  a running maximum, and the rescaling of what has been summed so far when the maximum grows.
-/
module

public import Idealize.ShloMosaic.PureOps.Ideal

@[expose] public section

noncomputable section

open Idealize.ShloMosaic

namespace Cert.Online

/-- The weight of a score `s` under the maximum `M`: two to the power `s - M`. -/
def wt (s M : EReal) : EReal := Ideal.exp2 (s - M)

/-- A power of two is not negative. -/
theorem exp2_nonneg (x : EReal) : 0 ≤ Ideal.exp2 x := by
  induction x with
  | bot => simp
  | top => simp
  | coe r =>
    rw [Ideal.exp2_coe]
    exact EReal.coe_nonneg.mpr (Real.rpow_nonneg (by norm_num) r)

/-- A weight is not negative. -/
theorem wt_nonneg (s M : EReal) : 0 ≤ wt s M := exp2_nonneg _

/-- Under an infinite maximum every weight is zero. -/
theorem wt_top (s : EReal) : wt s ⊤ = 0 := by
  unfold wt
  rw [sub_eq_add_neg, EReal.neg_top, EReal.add_bot, Ideal.exp2_bot]

/-- A masked score has weight zero under every maximum. -/
theorem wt_bot (M : EReal) : wt ⊥ M = 0 := by
  unfold wt
  rw [sub_eq_add_neg, EReal.bot_add, Ideal.exp2_bot]

/-- The weight between real numbers. -/
theorem wt_coe (s M : ℝ) : wt s M = ((2 : ℝ) ^ (s - M) : ℝ) := by
  unfold wt
  rw [← EReal.coe_sub, Ideal.exp2_coe]
  rfl

/-- Rescaling: a weight under `M` times the weight of `M` under the larger `M'` is the weight under `M'`. It holds for
    infinite maxima too, where both sides are zero. -/
theorem wt_mul_wt {s M M' : EReal} (h : s ≤ M) (h' : M ≤ M') : wt s M * wt M M' = wt s M' := by
  induction M' with
  | top => rw [wt_top, wt_top, mul_zero]
  | bot =>
    obtain rfl : M = ⊥ := le_bot_iff.mp h'
    rw [wt_bot, mul_zero, le_bot_iff.mp h, wt_bot]
  | coe m' =>
    induction M with
    | top => exact absurd h' (by simp)
    | bot => rw [wt_bot, mul_zero, le_bot_iff.mp h, wt_bot]
    | coe m =>
      induction s with
      | top => exact absurd h (by simp)
      | bot => rw [wt_bot, wt_bot, zero_mul]
      | coe r =>
        rw [wt_coe, wt_coe, wt_coe, ← EReal.coe_mul, ← Real.rpow_add (by norm_num)]
        congr 2
        ring

/-- The factor by which sums are rescaled is finite. -/
theorem wt_ne_top {M M' : EReal} (h : M ≤ M') : wt M M' ≠ ⊤ := by
  induction M' with
  | top => rw [wt_top]; exact EReal.zero_ne_top
  | bot => rw [le_bot_iff.mp h, wt_bot]; exact EReal.zero_ne_top
  | coe m' =>
    induction M with
    | top => exact absurd h (by simp)
    | bot => rw [wt_bot]; exact EReal.zero_ne_top
    | coe m => rw [wt_coe]; exact EReal.coe_ne_top _

/-- A finite factor that is not negative distributes over any finite sum of extended reals. -/
theorem sum_mul {ι : Type*} (P : Finset ι) (f : ι → EReal) {a : EReal} (h0 : 0 ≤ a) (ht : a ≠ ⊤) :
    (∑ k ∈ P, f k) * a = ∑ k ∈ P, f k * a := by
  classical
  induction P using Finset.induction_on with
  | empty => simp
  | insert k P hk ih =>
    rw [Finset.sum_insert hk, Finset.sum_insert hk, EReal.right_distrib_of_nonneg_of_ne_top h0 ht, ih]

/-- Rescaling a weighted sum from the maximum `M` to the larger `M'`. -/
theorem sum_rescale {ι : Type*} (P : Finset ι) (s v : ι → EReal) {M M' : EReal} (h : ∀ k ∈ P, s k ≤ M) (h' : M ≤ M') :
    (∑ k ∈ P, wt (s k) M * v k) * wt M M' = ∑ k ∈ P, wt (s k) M' * v k := by
  rw [sum_mul P _ (wt_nonneg _ _) (wt_ne_top h')]
  refine Finset.sum_congr rfl fun k hk => ?_
  rw [mul_right_comm, wt_mul_wt (h k hk) h']

section blocks

variable {n b : ℕ}

/-- The maximum of the first scores `sn` and of the blocks `0 … t - 1` of the others. -/
def mx (sn : Fin n → EReal) (sc : ℕ → Fin b → EReal) (t : ℕ) : EReal :=
  max (Finset.univ.sup sn) ((Finset.range t).sup fun u => Finset.univ.sup (sc u))

/-- The weighted sum of the values `vn` and of the blocks `0 … t - 1` of `vc`, under the maximum of the same scores. -/
def tot (sn : Fin n → EReal) (sc : ℕ → Fin b → EReal) (vn : Fin n → EReal) (vc : ℕ → Fin b → EReal) (t : ℕ) : EReal :=
  ∑ j, wt (sn j) (mx sn sc t) * vn j + ∑ u ∈ Finset.range t, ∑ p, wt (sc u p) (mx sn sc t) * vc u p

variable (sn : Fin n → EReal) (sc : ℕ → Fin b → EReal) (vn : Fin n → EReal) (vc : ℕ → Fin b → EReal) (t : ℕ)

/-- Before the first block the maximum is that of the first scores. -/
theorem mx_zero : mx sn sc 0 = Finset.univ.sup sn := by simp [mx]

/-- Before the first block the sum is that of the first values. -/
theorem tot_zero : tot sn sc vn vc 0 = ∑ j, wt (sn j) (Finset.univ.sup sn) * vn j := by simp [tot, mx_zero]

/-- One more block's maximum. -/
theorem mx_succ : mx sn sc (t + 1) = max (mx sn sc t) (Finset.univ.sup (sc t)) := by
  unfold mx
  rw [Finset.range_add_one, Finset.sup_insert, max_assoc]
  congr 1
  exact sup_comm _ _

/-- The maximum does not fall. -/
theorem mx_le_succ : mx sn sc t ≤ mx sn sc (t + 1) := by rw [mx_succ]; exact le_max_left _ _

/-- A first score is at most the maximum. -/
theorem sn_le_mx (j : Fin n) : sn j ≤ mx sn sc t :=
  le_trans (Finset.le_sup (f := sn) (Finset.mem_univ j)) (le_max_left _ _)

/-- A score of an earlier block is at most the maximum. -/
theorem sc_le_mx (u : ℕ) (hu : u < t) (p : Fin b) : sc u p ≤ mx sn sc t :=
  le_trans (Finset.le_sup (f := sc u) (Finset.mem_univ p))
    (le_trans (Finset.le_sup (f := fun u => Finset.univ.sup (sc u)) (Finset.mem_range.mpr hu)) (le_max_right _ _))

/-- One more block: what was summed is rescaled to the new maximum and the block's own terms are added. -/
theorem tot_succ : tot sn sc vn vc (t + 1)
    = tot sn sc vn vc t * wt (mx sn sc t) (mx sn sc (t + 1)) + ∑ p, wt (sc t p) (mx sn sc (t + 1)) * vc t p := by
  have hle := mx_le_succ sn sc t
  unfold tot
  rw [EReal.right_distrib_of_nonneg_of_ne_top (wt_nonneg _ _) (wt_ne_top hle),
    sum_rescale _ _ _ (fun j _ => sn_le_mx sn sc t j) hle, sum_mul _ _ (wt_nonneg _ _) (wt_ne_top hle),
    Finset.sum_range_succ, ← add_assoc]
  congr 2
  refine Finset.sum_congr rfl fun u hu => ?_
  exact (sum_rescale _ _ _ (fun p _ => sc_le_mx sn sc t u (Finset.mem_range.mp hu) p) hle).symm

/-- A block of masked scores leaves the maximum. -/
theorem mx_skip (h : ∀ p, sc t p = ⊥) : mx sn sc (t + 1) = mx sn sc t := by
  rw [mx_succ, show Finset.univ.sup (sc t) = ⊥ from Finset.sup_eq_bot_iff _ _ |>.mpr fun p _ => h p]
  exact max_bot_right _

/-- A block of masked scores leaves the sum. -/
theorem tot_skip (h : ∀ p, sc t p = ⊥) : tot sn sc vn vc (t + 1) = tot sn sc vn vc t := by
  unfold tot
  rw [mx_skip sn sc t h, Finset.sum_range_succ]
  congr 1
  rw [show (∑ p, wt (sc t p) (mx sn sc t) * vc t p) = 0 from Finset.sum_eq_zero fun p _ => by rw [h p, wt_bot, zero_mul],
    add_zero]

end blocks

/-- Scaling by a positive real number commutes with a maximum over a finite set. -/
theorem sup_mul {ι : Type*} (P : Finset ι) (f : ι → EReal) {a : ℝ} (ha : 0 < a) :
    P.sup f * (a : EReal) = P.sup fun k => f k * (a : EReal) := by
  have hmono : Monotone fun x : EReal => x * (a : EReal) := fun x y h =>
    mul_le_mul_of_nonneg_right h (EReal.coe_nonneg.mpr ha.le)
  exact Finset.comp_sup_eq_sup_comp (fun x : EReal => x * (a : EReal)) (fun x y => hmono.map_sup x y)
    (EReal.bot_mul_coe_of_pos ha)

/-- Two to the power `x` is e to the power `x · log 2`, on the extended reals. -/
theorem exp_mul_log2 (x : EReal) : Ideal.exp (x * ((Real.log 2 : ℝ) : EReal)) = Ideal.exp2 x := by
  have h2 : (0 : ℝ) < Real.log 2 := Real.log_pos (by norm_num)
  induction x with
  | bot => rw [EReal.bot_mul_coe_of_pos h2]; rfl
  | top => rw [EReal.top_mul_coe_of_pos h2]; rfl
  | coe r =>
    rw [← EReal.coe_mul, Ideal.exp2_coe]
    show ((Real.exp (r * Real.log 2) : ℝ) : EReal) = ((2 : ℝ) ^ r : ℝ)
    rw [Real.rpow_def_of_pos (by norm_num), mul_comm]

/-- A weight in base two is a weight in base e of the scaled score and maximum. -/
theorem exp_sub_mul_log2 (s M : EReal) :
    Ideal.exp (s * ((Real.log 2 : ℝ) : EReal) - M * ((Real.log 2 : ℝ) : EReal)) = wt s M := by
  have h2 : (0 : ℝ) < Real.log 2 := Real.log_pos (by norm_num)
  unfold wt
  rw [← exp_mul_log2, sub_eq_add_neg, sub_eq_add_neg,
    EReal.right_distrib_of_nonneg_of_ne_top (EReal.coe_nonneg.mpr h2.le) (EReal.coe_ne_top _), EReal.neg_mul]

end Cert.Online

end

end
-- ==== Proof.Update.lean ====
/-
  One latent's step over one block of the cache: the masked scores, the running maximum, the running sum of weights and
  the running weighted sum of values, each read at an index.
-/
module

public import proofs.«01_k».proof.Proof.Chunk
public import proofs.«01_k».proof.Proof.Online
public import Idealize.ShloMosaic.Lib.WordCmp

@[expose] public section

set_option maxRecDepth 16384

noncomputable section

namespace Cert.KernelIdeal.Value

open Idealize.ShloMosaic Cert.KernelIdeal Cert.KernelIdeal.Gen Cert.Online

/-- The pattern of the negative infinity is the bottom of the extended reals. -/
theorem ofBits_neg_inf : Ideal.ofBits .f32 0xFF800000#32 = ⊥ := by
  simp [Ideal.ofBits, Ideal.ieee]

/-- A maximum folded from the bottom is the supremum. -/
theorem fold_max_bot {ι : Type*} (s : Finset ι) (f : ι → EReal) : s.fold max ⊥ f = s.sup f := rfl

/-- A selection on a comparison of words, as a choice. -/
theorem select_ofBool {α : Type} (P : Prop) [Decidable P] (a b : α) :
    Scalar.select (BitVec.ofBool (decide P)) a b = if P then a else b := by
  by_cases h : P <;> simp [h, Scalar.select]

/-- The position of a block's key, as an integer. -/
theorem pos_toInt (t : ℕ) (ht : t < 48) (p : Fin 512) :
    (IntOp.addi (Scalar.muli (BitVec.ofNat 32 t) 512#32) (BitVec.ofNat 32 p.val)).toInt = 512 * t + p.val := by
  have hp := p.isLt
  rw [show Scalar.muli (BitVec.ofNat 32 t) 512#32 = BitVec.ofNat 32 (t * 512) from WordCmp.muli_ofNat t 512,
    WordCmp.addi_ofNat, WordCmp.toInt_ofNat_of_lt (by omega)]
  push_cast
  ring

/-- The masked scores of a block of keys. -/
theorem score_apply (t : ℕ) (ht : t < 48) (n : BitVec 32) (c0 c1 c2 c3 c4 c5 c6 c7 : FVec Ideal S32x512 .bf16)
    (k : Vec Ideal S1x64x512 .bf16) (q : Vec Ideal S1x96x256 .bf16) (qr : Vec Ideal S1x96x64 .bf16) (c : Ideal .f32)
    (i : Fin 96) (p : Fin 512) :
    k0_pay132 (F := Ideal) c (k0_pay129 (F := Ideal) (BitVec.ofNat 32 t) n)
        (k0_pay131 (F := Ideal) c0 c1 c2 c3 c4 c5 c6 c7 k q qr) (ix2 i p)
      = if (512 * t + p.val : ℤ) < n.toInt then
          ((∑ d : Fin 256, (q (ix3 0 i d) : EReal) * k0_pay130 (F := Ideal) c0 c1 c2 c3 c4 c5 c6 c7 (ix2 d p))
            + ∑ r : Fin 64, (qr (ix3 0 i r) : EReal) * (k (ix3 0 r p) : EReal)) * (c : EReal)
        else (⊥ : EReal) := by
  pointwise [k0_pay131, k0_pay128, k0_pay132, k0_pay129]
  rw [WordCmp.cmpi_slt_eq, select_ofBool, pos_toInt t ht, ofBits_neg_inf]

/-- The new running maximum. -/
theorem max_apply (c : Ideal .f32) (v : IVec S96x512 1) (s : FVec Ideal S96x512 .f32) (m : Vec Ideal S1x96x1 .f32)
    (i : Fin 96) :
    k0_pay137 (F := Ideal) c v s m (ix3 0 i 0)
      = max (m (ix3 0 i 0) : EReal) (Finset.univ.sup fun p : Fin 512 => k0_pay132 (F := Ideal) c v s (ix2 i p)) := by
  pointwise [k0_pay133, k0_pay134, k0_pay137]
  rw [ofBits_neg_inf, fold_max_bot]

/-- The new running sum of weights. -/
theorem sum_apply (c : Ideal .f32) (v : IVec S96x512 1) (s : FVec Ideal S96x512 .f32) (m l : Vec Ideal S1x96x1 .f32)
    (i : Fin 96) :
    k0_pay138 (F := Ideal) c v s m l (ix3 0 i 0)
      = (l (ix3 0 i 0) : EReal) * wt (m (ix3 0 i 0)) (k0_pay137 (F := Ideal) c v s m (ix3 0 i 0))
        + ∑ p : Fin 512, wt (k0_pay132 (F := Ideal) c v s (ix2 i p)) (k0_pay137 (F := Ideal) c v s m (ix3 0 i 0)) := by
  rw [max_apply]
  pointwise [k0_pay133, k0_pay134, k0_pay135, k0_pay136, k0_pay138]
  rw [ofBits_neg_inf]
  rfl

/-- The new running weighted sum of values. -/
theorem acc_apply (c : Ideal .f32) (v : IVec S96x512 1) (s : FVec Ideal S96x512 .f32) (ct : FVec Ideal S256x512 .bf16)
    (m : Vec Ideal S1x96x1 .f32) (a : Vec Ideal S1x96x256 .f32) (i : Fin 96) (d : Fin 256) :
    k0_pay139 (F := Ideal) c v ct s m a (ix3 0 i d)
      = (a (ix3 0 i d) : EReal) * wt (m (ix3 0 i 0)) (k0_pay137 (F := Ideal) c v s m (ix3 0 i 0))
        + ∑ p : Fin 512, wt (k0_pay132 (F := Ideal) c v s (ix2 i p)) (k0_pay137 (F := Ideal) c v s m (ix3 0 i 0))
            * (ct (ix2 d p) : EReal) := by
  rw [max_apply]
  pointwise [k0_pay133, k0_pay134, k0_pay135, k0_pay136, k0_pay139]
  rw [ofBits_neg_inf]
  rfl

end Cert.KernelIdeal.Value

end
end
-- ==== Proof.Init.lean ====
/-
  What the kernel prepares at the first point of a batch: the permutation matrix, the permuted queries, and the scores,
  maximum, sum and weighted sum of the new tokens.
-/
module

public import proofs.«01_k».proof.Proof.Update

@[expose] public section

set_option maxRecDepth 16384

noncomputable section

namespace Cert.KernelIdeal.Value

open Idealize.ShloMosaic Cert.KernelIdeal Cert.KernelIdeal.Gen Cert.Online

/-- The permutation matrix as the kernel builds it. -/
def pm : FVec Ideal S256x256 .bf16 :=
  k0_pay10 (F := Ideal) (k0_pay8 (iota .tc S256x256 32 [0] iota_S256x256_d0_w32)
      (iota .tc S256x256 32 [1] iota_S256x256_d1_w32) k0_pay5 k0_pay6 k0_pay7)
    (Scalar.ofBits .f32 0x00000000#32) (k0_pay9 (F := Ideal))

/-- A matrix that compares its row with a word of its column, where that word is the permuted column. -/
theorem select_perm (W : Fin 256 → BitVec 32) (h : ∀ r, W r = BitVec.ofNat 32 (perm r).val) (d r : Fin 256) :
    Scalar.select (IntOp.cmpi .eq (BitVec.ofNat 32 d.val) (W r)) (1 : EReal) 0 = if d = perm r then 1 else 0 := by
  have hd := d.isLt
  have hr := (perm r).isLt
  rw [h r]
  by_cases e : d = perm r
  · subst e
    simp [IntOp.cmpi, Scalar.select]
  · have hne : BitVec.ofNat 32 d.val ≠ BitVec.ofNat 32 (perm r).val := fun h' => e (Fin.ext (by
      have := congrArg BitVec.toNat h'
      simp only [BitVec.toNat_ofNat] at this
      omega))
    have hb : (BitVec.ofNat 32 d.val == BitVec.ofNat 32 (perm r).val) = false := beq_false_of_ne hne
    simp [IntOp.cmpi, Scalar.select, e, hb]

/-- The permutation matrix has a one where the row is the permuted column, and zeros elsewhere. -/
theorem pm_apply (d r : Fin 256) : pm (ix2 d r) = if d = perm r then (1 : EReal) else 0 := by
  pointwise [pm, k0_pay10, k0_pay8, k0_pay5, k0_pay6, k0_pay7, k0_pay9]
  revert d r
  exact select_perm _ (by decide +kernel)

/-- Which new tokens the query of row `i` sees. -/
def okm : IVec S96x16 1 := k0_pay40 k0_pay36 k0_pay37 k0_pay38 k0_pay39

theorem okm_apply (i : Fin 96) (j : Fin 16) :
    okm (ix2 i j) = BitVec.ofBool (decide (j.val ≤ i.val / 32 ∧ j.val < 3)) := by
  revert i j
  decide +kernel

/-- A sum against a column of the permutation matrix picks one term. -/
theorem sum_pm (f : Fin 256 → EReal) (r : Fin 256) : ∑ x, f x * (pm (ix2 x r) : EReal) = f (perm r) := by
  simp only [pm_apply, mul_ite, mul_one, mul_zero, Finset.sum_ite_eq', Finset.mem_univ, if_true]

/-- The permuted queries of one latent: row `i` is token `i / 32`, head `i % 32` of the latent. -/
theorem q_apply (v : IVec S256x256 1) (c : Ideal .f32) (w : FVec Ideal S256x256 .f32)
    (hP : k0_pay10 (F := Ideal) v c w = pm) (f : Fin 3 → Vec Ideal S1x1x32x256 .bf16) (i : Fin 96) (r : Fin 256) :
    k0_pay11 (F := Ideal) v c w (f 0) (f 1) (f 2) (ix3 0 i r)
      = f ⟨i.val / 32, by omega⟩ (ix4 0 0 ⟨i.val % 32, by omega⟩ (perm r)) := by
  pointwise [k0_pay11]
  rw [hP]
  refine (sum_pm _ r).trans ?_
  have hk : ∀ (k : Fin 3) (x : Fin 32), i.val = 32 * k.val + x.val →
      f k (ix4 0 0 x (perm r)) = f ⟨i.val / 32, by omega⟩ (ix4 0 0 ⟨i.val % 32, by omega⟩ (perm r)) := by
    intro k x h
    have h1 : (⟨i.val / 32, by omega⟩ : Fin 3) = k := Fin.ext (by show i.val / 32 = k.val; omega)
    have h2 : (⟨i.val % 32, by omega⟩ : Fin 32) = x := Fin.ext (by show i.val % 32 = x.val; omega)
    rw [h1, h2]
  have hi := i.isLt
  by_cases h0 : i.val < 32
  · rw [dif_pos h0]
    exact hk 0 ⟨i.val, h0⟩ (by show i.val = 32 * 0 + i.val; omega)
  rw [dif_neg h0]
  by_cases h1 : i.val - 32 < 32
  · rw [dif_pos h1]
    exact hk 1 ⟨i.val - 32, h1⟩ (by show i.val = 32 * 1 + (i.val - 32); omega)
  rw [dif_neg h1]
  exact hk 2 ⟨i.val - 32 - 32, by omega⟩ (by show i.val = 32 * 2 + (i.val - 32 - 32); omega)

/-- The permuted rows of the new tokens' latents. -/
theorem cnp_apply (cn : Vec Ideal S1x1x16x256 .bf16) (j : Fin 16) (r : Fin 256) :
    k0_pay49 (F := Ideal) pm cn (ix2 j r) = cn (ix4 0 0 j (perm r)) := by
  pointwise [k0_pay49]
  exact sum_pm (fun x => cn (ix4 0 0 j x)) r

/-- The masked scores of the new tokens. -/
theorem nscore_apply (kn : FVec Ideal S16x64 .bf16) (cn : Vec Ideal S1x1x16x256 .bf16)
    (q : Vec Ideal S1x96x256 .bf16) (qr : Vec Ideal S1x96x64 .bf16) (c : Ideal .f32) (i : Fin 96) (j : Fin 16) :
    k0_pay50 (F := Ideal) c pm kn okm cn q qr (ix2 i j)
      = if j.val ≤ i.val / 32 ∧ j.val < 3 then
          ((∑ r : Fin 256, (q (ix3 0 i r) : EReal) * (cn (ix4 0 0 j (perm r)) : EReal))
            + ∑ r : Fin 64, (qr (ix3 0 i r) : EReal) * (kn (ix2 j r) : EReal)) * (c : EReal)
        else (⊥ : EReal) := by
  pointwise [k0_pay50]
  rw [okm_apply, select_ofBool, ofBits_neg_inf]
  simp only [cnp_apply]

/-- The maximum over the new tokens. -/
theorem nmax_apply (kn : FVec Ideal S16x64 .bf16) (cn : Vec Ideal S1x1x16x256 .bf16)
    (q : Vec Ideal S1x96x256 .bf16) (qr : Vec Ideal S1x96x64 .bf16) (c : Ideal .f32) (i : Fin 96) :
    k0_pay53 (F := Ideal) c pm kn okm cn q qr (ix3 0 i 0)
      = Finset.univ.sup fun j : Fin 16 => (k0_pay50 (F := Ideal) c pm kn okm cn q qr (ix2 i j) : EReal) := by
  pointwise [k0_pay53, k0_pay51]
  rw [ofBits_neg_inf, fold_max_bot]

/-- The sum of the new tokens' weights. -/
theorem nsum_apply (kn : FVec Ideal S16x64 .bf16) (cn : Vec Ideal S1x1x16x256 .bf16)
    (q : Vec Ideal S1x96x256 .bf16) (qr : Vec Ideal S1x96x64 .bf16) (c : Ideal .f32) (i : Fin 96) :
    k0_pay55 (F := Ideal) (k0_pay54 (F := Ideal) c pm kn okm cn q qr) (ix3 0 i 0)
      = ∑ j : Fin 16, wt (k0_pay50 (F := Ideal) c pm kn okm cn q qr (ix2 i j))
          (k0_pay53 (F := Ideal) c pm kn okm cn q qr (ix3 0 i 0)) := by
  rw [nmax_apply]
  pointwise [k0_pay55, k0_pay54, k0_pay52, k0_pay51]
  rw [ofBits_neg_inf]
  rfl

/-- The weighted sum of the new tokens' latents. -/
theorem nacc_apply (kn : FVec Ideal S16x64 .bf16) (cn : Vec Ideal S1x1x16x256 .bf16)
    (q : Vec Ideal S1x96x256 .bf16) (qr : Vec Ideal S1x96x64 .bf16) (c : Ideal .f32) (i : Fin 96) (r : Fin 256) :
    k0_pay56 (F := Ideal) (k0_pay49 (F := Ideal) pm cn) (k0_pay52 (F := Ideal) c pm kn okm cn q qr) (ix3 0 i r)
      = ∑ j : Fin 16, wt (k0_pay50 (F := Ideal) c pm kn okm cn q qr (ix2 i j))
          (k0_pay53 (F := Ideal) c pm kn okm cn q qr (ix3 0 i 0)) * (cn (ix4 0 0 j (perm r)) : EReal) := by
  rw [nmax_apply]
  simp only [← cnp_apply]
  pointwise [k0_pay56, k0_pay52, k0_pay51]
  rw [ofBits_neg_inf]
  rfl

end Cert.KernelIdeal.Value

end
end
-- ==== Proof.Step.lean ====
/-
  One point's step over a block of the cache, for one latent: the printed operations composed, and what they leave at an
  index in terms of the blocks.
-/
module

public import proofs.«01_k».proof.Proof.Init

@[expose] public section

set_option maxRecDepth 16384

noncomputable section

namespace Cert.KernelIdeal.Value

open Idealize.ShloMosaic Cert.KernelIdeal Cert.KernelIdeal.Gen Cert.Online

/-- The scale of the scores: one over the square root of 320, in units of the logarithm of two. -/
def c2 : EReal := (((Real.sqrt 320)⁻¹ * (Real.log 2)⁻¹ : ℝ) : EReal)

/-- Every group of thirty-two columns of every latent lies in its half of the codes. -/
theorem slices_all : ∀ l q : Fin 4, S512x4x128.Slices ![0, l.val, 32 * q.val] S512x1x32 := by decide

/-- The eight groups of a rebuilt block of latent `l`. -/
def grp (l : Fin 4) (W0 W1 : Vec Ideal S1x512x4x128 .fp8e4m3) (S : Fin 8 → Vec Ideal S1x1x1x512 .i8) :
    Fin 8 → FVec Ideal S32x512 .bf16
  | 0 => chunk ![0, l.val, 32 * (0 : Fin 4).val] (slices_all l 0) (k0_pay70 (F := Ideal) W0) (S 0)
  | 1 => chunk ![0, l.val, 32 * (1 : Fin 4).val] (slices_all l 1) (k0_pay70 (F := Ideal) W0) (S 1)
  | 2 => chunk ![0, l.val, 32 * (2 : Fin 4).val] (slices_all l 2) (k0_pay70 (F := Ideal) W0) (S 2)
  | 3 => chunk ![0, l.val, 32 * (3 : Fin 4).val] (slices_all l 3) (k0_pay70 (F := Ideal) W0) (S 3)
  | 4 => chunk ![0, l.val, 32 * (0 : Fin 4).val] (slices_all l 0) (k0_pay70 (F := Ideal) W1) (S 4)
  | 5 => chunk ![0, l.val, 32 * (1 : Fin 4).val] (slices_all l 1) (k0_pay70 (F := Ideal) W1) (S 5)
  | 6 => chunk ![0, l.val, 32 * (2 : Fin 4).val] (slices_all l 2) (k0_pay70 (F := Ideal) W1) (S 6)
  | 7 => chunk ![0, l.val, 32 * (3 : Fin 4).val] (slices_all l 3) (k0_pay70 (F := Ideal) W1) (S 7)

/-- The rebuilt block of latent `l`, as printed: its eight groups from the codes and the scale bytes. -/
def blk (l : Fin 4) (W0 W1 : Vec Ideal S1x512x4x128 .fp8e4m3) (S0 S1 S2 S3 S4 S5 S6 S7 : Vec Ideal S1x1x1x512 .i8) :
    FVec Ideal S256x512 .bf16 :=
  k0_pay130 (F := Ideal)
    (chunk ![0, l.val, 32 * (0 : Fin 4).val] (slices_all l 0) (k0_pay70 (F := Ideal) W0) S0)
    (chunk ![0, l.val, 32 * (1 : Fin 4).val] (slices_all l 1) (k0_pay70 (F := Ideal) W0) S1)
    (chunk ![0, l.val, 32 * (2 : Fin 4).val] (slices_all l 2) (k0_pay70 (F := Ideal) W0) S2)
    (chunk ![0, l.val, 32 * (3 : Fin 4).val] (slices_all l 3) (k0_pay70 (F := Ideal) W0) S3)
    (chunk ![0, l.val, 32 * (0 : Fin 4).val] (slices_all l 0) (k0_pay70 (F := Ideal) W1) S4)
    (chunk ![0, l.val, 32 * (1 : Fin 4).val] (slices_all l 1) (k0_pay70 (F := Ideal) W1) S5)
    (chunk ![0, l.val, 32 * (2 : Fin 4).val] (slices_all l 2) (k0_pay70 (F := Ideal) W1) S6)
    (chunk ![0, l.val, 32 * (3 : Fin 4).val] (slices_all l 3) (k0_pay70 (F := Ideal) W1) S7)

/-- The cached latent at row `r` of the rebuilt block and key `p`: the code at the permuted column times its scale. -/
def cache (x4 x5 : Vec Ideal S1x512x4x128 .fp8e4m3) (x6 : Vec Ideal S1x4x8x512 .i8) (l : Fin 4) (r : Fin 256)
    (p : Fin 512) : EReal :=
  (if h : (perm r).val < 128 then (x4 (ix4 0 p l ⟨(perm r).val, h⟩) : EReal)
    else (x5 (ix4 0 p l ⟨(perm r).val - 128, by have := (perm r).isLt; omega⟩) : EReal))
    * pow2 (x6 (ix4 0 l ⟨r.val / 32, by omega⟩ p))

/-- One group of the rebuilt block. -/
theorem group_apply (x4 x5 : Vec Ideal S1x512x4x128 .fp8e4m3) (x6 : Vec Ideal S1x4x8x512 .i8)
    (l : Fin 4) (q : Fin 4) (half : Bool) (S : Vec Ideal S1x1x1x512 .i8) (r : Fin 256) (p : Fin 512)
    (hr : r.val / 32 = (if half then 4 else 0) + q.val)
    (hS : S (ix4 0 0 0 p) = x6 (ix4 0 l ⟨r.val / 32, by omega⟩ p)) :
    chunk ![0, l.val, 32 * q.val] (slices_all l q) (k0_pay70 (F := Ideal) (if half then x5 else x4)) S
        (ix2 ⟨r.val % 32, by omega⟩ p) = cache x4 x5 x6 l r p := by
  rw [chunk_apply, cache, hS]
  refine congrArg₂ (· * ·) ?_ rfl
  pointwise [k0_pay70]
  have hq := q.isLt
  have hv : (perm r).val = r.val / 32 * 32 + (r.val % 32 % 4 * 8 + r.val % 32 / 4) := rfl
  cases half
  · simp only [Bool.false_eq_true, if_false] at hr ⊢
    rw [dif_pos (by omega)]
    exact congrArg x4 (congrArg (ix4 0 p l) (Fin.ext (by show _ = (perm r).val; rw [hv]; show 32 * q.val + _ = _; omega)))
  · simp only [if_true] at hr ⊢
    rw [dif_neg (by omega)]
    exact congrArg x5 (congrArg (ix4 0 p l) (Fin.ext (by
      show _ = (perm r).val - 128; rw [hv]; show 32 * q.val + _ = _; omega)))

/-- The rebuilt block holds the cached latent. -/
theorem blk_apply (l : Fin 4) (x4 x5 : Vec Ideal S1x512x4x128 .fp8e4m3) (x6 : Vec Ideal S1x4x8x512 .i8)
    (S0 S1 S2 S3 S4 S5 S6 S7 : Vec Ideal S1x1x1x512 .i8)
    (h0 : ∀ p, S0 (ix4 0 0 0 p) = x6 (ix4 0 l 0 p)) (h1 : ∀ p, S1 (ix4 0 0 0 p) = x6 (ix4 0 l 1 p))
    (h2 : ∀ p, S2 (ix4 0 0 0 p) = x6 (ix4 0 l 2 p)) (h3 : ∀ p, S3 (ix4 0 0 0 p) = x6 (ix4 0 l 3 p))
    (h4 : ∀ p, S4 (ix4 0 0 0 p) = x6 (ix4 0 l 4 p)) (h5 : ∀ p, S5 (ix4 0 0 0 p) = x6 (ix4 0 l 5 p))
    (h6 : ∀ p, S6 (ix4 0 0 0 p) = x6 (ix4 0 l 6 p)) (h7 : ∀ p, S7 (ix4 0 0 0 p) = x6 (ix4 0 l 7 p))
    (r : Fin 256) (p : Fin 512) :
    blk l x4 x5 S0 S1 S2 S3 S4 S5 S6 S7 (ix2 r p) = cache x4 x5 x6 l r p := by
  let f : Fin 8 → FVec Ideal S32x512 .bf16 := grp l x4 x5 ![S0, S1, S2, S3, S4, S5, S6, S7]
  refine (cat_apply f r p).trans ?_
  have hj : ∀ (j : Fin 8), r.val / 32 = j.val → (⟨r.val / 32, by omega⟩ : Fin 8) = j := fun j h => Fin.ext h
  have hr := r.isLt
  have hc : r.val / 32 = 0 ∨ r.val / 32 = 1 ∨ r.val / 32 = 2 ∨ r.val / 32 = 3 ∨ r.val / 32 = 4 ∨ r.val / 32 = 5
      ∨ r.val / 32 = 6 ∨ r.val / 32 = 7 := by omega
  rcases hc with h | h | h | h | h | h | h | h
  · rw [hj 0 h]; exact group_apply x4 x5 x6 l 0 false S0 r p h (by rw [h0, hj 0 h])
  · rw [hj 1 h]; exact group_apply x4 x5 x6 l 1 false S1 r p h (by rw [h1, hj 1 h])
  · rw [hj 2 h]; exact group_apply x4 x5 x6 l 2 false S2 r p h (by rw [h2, hj 2 h])
  · rw [hj 3 h]; exact group_apply x4 x5 x6 l 3 false S3 r p h (by rw [h3, hj 3 h])
  · rw [hj 4 h]; exact group_apply x4 x5 x6 l 0 true S4 r p h (by rw [h4, hj 4 h])
  · rw [hj 5 h]; exact group_apply x4 x5 x6 l 1 true S5 r p h (by rw [h5, hj 5 h])
  · rw [hj 6 h]; exact group_apply x4 x5 x6 l 2 true S6 r p h (by rw [h6, hj 6 h])
  · rw [hj 7 h]; exact group_apply x4 x5 x6 l 3 true S7 r p h (by rw [h7, hj 7 h])

/-- The masked score of row `i` of latent `l` against key `p` of block `t`, from the blocks. -/
def score (x4 x5 : Vec Ideal S1x512x4x128 .fp8e4m3) (x6 : Vec Ideal S1x4x8x512 .i8) (x7 : Vec Ideal S1x64x512 .bf16)
    (n : BitVec 32) (qp : Vec Ideal S4x96x256 .bf16) (qrp : Vec Ideal S4x96x64 .bf16) (t : ℕ) (l : Fin 4) (i : Fin 96)
    (p : Fin 512) : EReal :=
  if (512 * t + p.val : ℤ) < n.toInt then
    ((∑ d : Fin 256, (qp (ix3 l i d) : EReal) * cache x4 x5 x6 l d p)
      + ∑ r : Fin 64, (qrp (ix3 l i r) : EReal) * (x7 (ix3 0 r p) : EReal)) * c2
  else ⊥

/-- The scores of a block as printed, before the mask. -/
def raw (l : Fin 4) (W0 W1 : Vec Ideal S1x512x4x128 .fp8e4m3) (S0 S1 S2 S3 S4 S5 S6 S7 : Vec Ideal S1x1x1x512 .i8)
    (K : Vec Ideal S1x64x512 .bf16) (Q : Vec Ideal S1x96x256 .bf16) (R : Vec Ideal S1x96x64 .bf16) :
    FVec Ideal S96x512 .f32 :=
  k0_pay131 (F := Ideal)
    (chunk ![0, l.val, 32 * (0 : Fin 4).val] (slices_all l 0) (k0_pay70 (F := Ideal) W0) S0)
    (chunk ![0, l.val, 32 * (1 : Fin 4).val] (slices_all l 1) (k0_pay70 (F := Ideal) W0) S1)
    (chunk ![0, l.val, 32 * (2 : Fin 4).val] (slices_all l 2) (k0_pay70 (F := Ideal) W0) S2)
    (chunk ![0, l.val, 32 * (3 : Fin 4).val] (slices_all l 3) (k0_pay70 (F := Ideal) W0) S3)
    (chunk ![0, l.val, 32 * (0 : Fin 4).val] (slices_all l 0) (k0_pay70 (F := Ideal) W1) S4)
    (chunk ![0, l.val, 32 * (1 : Fin 4).val] (slices_all l 1) (k0_pay70 (F := Ideal) W1) S5)
    (chunk ![0, l.val, 32 * (2 : Fin 4).val] (slices_all l 2) (k0_pay70 (F := Ideal) W1) S6)
    (chunk ![0, l.val, 32 * (3 : Fin 4).val] (slices_all l 3) (k0_pay70 (F := Ideal) W1) S7) K Q R

/-- The new maximum as printed. -/
def newM (c : Ideal .f32) (tw n : BitVec 32) (l : Fin 4) (W0 W1 : Vec Ideal S1x512x4x128 .fp8e4m3)
    (S0 S1 S2 S3 S4 S5 S6 S7 : Vec Ideal S1x1x1x512 .i8) (K : Vec Ideal S1x64x512 .bf16)
    (Q : Vec Ideal S1x96x256 .bf16) (R : Vec Ideal S1x96x64 .bf16) (M : Vec Ideal S1x96x1 .f32) :
    FVec Ideal S1x96x1 .f32 :=
  k0_pay137 (F := Ideal) c (k0_pay129 (F := Ideal) tw n) (raw l W0 W1 S0 S1 S2 S3 S4 S5 S6 S7 K Q R) M

/-- The new sum of weights as printed. -/
def newL (c : Ideal .f32) (tw n : BitVec 32) (l : Fin 4) (W0 W1 : Vec Ideal S1x512x4x128 .fp8e4m3)
    (S0 S1 S2 S3 S4 S5 S6 S7 : Vec Ideal S1x1x1x512 .i8) (K : Vec Ideal S1x64x512 .bf16)
    (Q : Vec Ideal S1x96x256 .bf16) (R : Vec Ideal S1x96x64 .bf16) (M L : Vec Ideal S1x96x1 .f32) :
    FVec Ideal S1x96x1 .f32 :=
  k0_pay138 (F := Ideal) c (k0_pay129 (F := Ideal) tw n) (raw l W0 W1 S0 S1 S2 S3 S4 S5 S6 S7 K Q R) M L

/-- The new weighted sum as printed. -/
def newA (c : Ideal .f32) (tw n : BitVec 32) (l : Fin 4) (W0 W1 : Vec Ideal S1x512x4x128 .fp8e4m3)
    (S0 S1 S2 S3 S4 S5 S6 S7 : Vec Ideal S1x1x1x512 .i8) (K : Vec Ideal S1x64x512 .bf16)
    (Q : Vec Ideal S1x96x256 .bf16) (R : Vec Ideal S1x96x64 .bf16) (M : Vec Ideal S1x96x1 .f32)
    (A : Vec Ideal S1x96x256 .f32) : FVec Ideal S1x96x256 .f32 :=
  k0_pay139 (F := Ideal) c (k0_pay129 (F := Ideal) tw n) (blk l W0 W1 S0 S1 S2 S3 S4 S5 S6 S7)
    (raw l W0 W1 S0 S1 S2 S3 S4 S5 S6 S7 K Q R) M A

section

variable (t : ℕ) (ht : t < 48) (n : BitVec 32) (l : Fin 4) (x4 x5 : Vec Ideal S1x512x4x128 .fp8e4m3)
  (x6 : Vec Ideal S1x4x8x512 .i8) (x7 : Vec Ideal S1x64x512 .bf16) (qp : Vec Ideal S4x96x256 .bf16)
  (qrp : Vec Ideal S4x96x64 .bf16) (c : Ideal .f32) (hc : c = c2)
  (S0 S1 S2 S3 S4 S5 S6 S7 : Vec Ideal S1x1x1x512 .i8)
  (h0 : ∀ p, S0 (ix4 0 0 0 p) = x6 (ix4 0 l 0 p)) (h1 : ∀ p, S1 (ix4 0 0 0 p) = x6 (ix4 0 l 1 p))
  (h2 : ∀ p, S2 (ix4 0 0 0 p) = x6 (ix4 0 l 2 p)) (h3 : ∀ p, S3 (ix4 0 0 0 p) = x6 (ix4 0 l 3 p))
  (h4 : ∀ p, S4 (ix4 0 0 0 p) = x6 (ix4 0 l 4 p)) (h5 : ∀ p, S5 (ix4 0 0 0 p) = x6 (ix4 0 l 5 p))
  (h6 : ∀ p, S6 (ix4 0 0 0 p) = x6 (ix4 0 l 6 p)) (h7 : ∀ p, S7 (ix4 0 0 0 p) = x6 (ix4 0 l 7 p))
  (Q : Vec Ideal S1x96x256 .bf16) (hQ : ∀ i d, Q (ix3 0 i d) = qp (ix3 l i d))
  (R : Vec Ideal S1x96x64 .bf16) (hR : ∀ i r, R (ix3 0 i r) = qrp (ix3 l i r))
  (M L : Vec Ideal S1x96x1 .f32) (A : Vec Ideal S1x96x256 .f32) (i : Fin 96) (d : Fin 256)

include ht hc h0 h1 h2 h3 h4 h5 h6 h7 hQ hR

/-- The masked scores of the printed step are the scores of the blocks. -/
theorem masked_apply (p : Fin 512) :
    k0_pay132 (F := Ideal) c (k0_pay129 (F := Ideal) (BitVec.ofNat 32 t) n)
        (raw l x4 x5 S0 S1 S2 S3 S4 S5 S6 S7 x7 Q R) (ix2 i p) = score x4 x5 x6 x7 n qp qrp t l i p := by
  rw [raw, score_apply t ht, score, hc]
  refine if_congr Iff.rfl ?_ rfl
  refine congrArg₂ (· * ·) (congrArg₂ (· + ·) (Finset.sum_congr rfl fun r _ => ?_) (Finset.sum_congr rfl fun r _ => ?_)) rfl
  · rw [hQ]
    exact congrArg₂ (· * ·) rfl (blk_apply l x4 x5 x6 S0 S1 S2 S3 S4 S5 S6 S7 h0 h1 h2 h3 h4 h5 h6 h7 r p)
  · rw [hR]

/-- The new maximum: the larger of the old one and the block's scores. -/
theorem newM_apply :
    newM c (BitVec.ofNat 32 t) n l x4 x5 S0 S1 S2 S3 S4 S5 S6 S7 x7 Q R M (ix3 0 i 0)
      = max (M (ix3 0 i 0) : EReal) (Finset.univ.sup (score x4 x5 x6 x7 n qp qrp t l i)) := by
  rw [newM, max_apply]
  simp only [masked_apply t ht n l x4 x5 x6 x7 qp qrp c hc S0 S1 S2 S3 S4 S5 S6 S7 h0 h1 h2 h3 h4 h5 h6 h7 Q hQ R hR]

/-- The new sum of weights: the old one rescaled, plus the block's weights. -/
theorem newL_apply :
    newL c (BitVec.ofNat 32 t) n l x4 x5 S0 S1 S2 S3 S4 S5 S6 S7 x7 Q R M L (ix3 0 i 0)
      = (L (ix3 0 i 0) : EReal) * wt (M (ix3 0 i 0))
            (max (M (ix3 0 i 0) : EReal) (Finset.univ.sup (score x4 x5 x6 x7 n qp qrp t l i)))
        + ∑ p : Fin 512, wt (score x4 x5 x6 x7 n qp qrp t l i p)
            (max (M (ix3 0 i 0) : EReal) (Finset.univ.sup (score x4 x5 x6 x7 n qp qrp t l i))) := by
  rw [newL, sum_apply, max_apply]
  simp only [masked_apply t ht n l x4 x5 x6 x7 qp qrp c hc S0 S1 S2 S3 S4 S5 S6 S7 h0 h1 h2 h3 h4 h5 h6 h7 Q hQ R hR]

/-- The new weighted sum: the old one rescaled, plus the block's weighted latents. -/
theorem newA_apply :
    newA c (BitVec.ofNat 32 t) n l x4 x5 S0 S1 S2 S3 S4 S5 S6 S7 x7 Q R M A (ix3 0 i d)
      = (A (ix3 0 i d) : EReal) * wt (M (ix3 0 i 0))
            (max (M (ix3 0 i 0) : EReal) (Finset.univ.sup (score x4 x5 x6 x7 n qp qrp t l i)))
        + ∑ p : Fin 512, wt (score x4 x5 x6 x7 n qp qrp t l i p)
            (max (M (ix3 0 i 0) : EReal) (Finset.univ.sup (score x4 x5 x6 x7 n qp qrp t l i)))
            * cache x4 x5 x6 l d p := by
  rw [newA, acc_apply, max_apply]
  simp only [masked_apply t ht n l x4 x5 x6 x7 qp qrp c hc S0 S1 S2 S3 S4 S5 S6 S7 h0 h1 h2 h3 h4 h5 h6 h7 Q hQ R hR,
    blk_apply l x4 x5 x6 S0 S1 S2 S3 S4 S5 S6 S7 h0 h1 h2 h3 h4 h5 h6 h7]

end

end Cert.KernelIdeal.Value

end
end
-- ==== Proof.Tile.lean ====
/-
  The step's operations at an index with the state's values named, and the indices of one latent's tile of the state.
-/
module

public import proofs.«01_k».proof.Proof.Step

@[expose] public section

set_option maxRecDepth 16384

noncomputable section

namespace Cert.KernelIdeal.Value

open Idealize.ShloMosaic Cert.KernelIdeal Cert.KernelIdeal.Gen Cert.Online

/-- The named constant of the kernel is the scale of the scores. -/
theorem c2_val : Named.named (F := Ideal) Cert.KernelIdeal.κ "scale_log2e" (φ := .f32) 1034234716#32 = c2 :=
  IdealRules.named_const.ideal_named_scalar _ _ _ _ rfl

/-- An index of one latent's column is its row. -/
theorem idx_1 (y : S1x96x1.Idx) (r : Fin 96) (h : (y 1).val = r.val) : y = ix3 0 r 0 := by
  funext a
  apply Fin.ext
  match a with
  | ⟨0, _⟩ => exact Nat.lt_one_iff.mp (y 0).isLt
  | ⟨1, _⟩ => exact h
  | ⟨2, _⟩ => exact Nat.lt_one_iff.mp (y 2).isLt

/-- An index of one latent's block is its row and column. -/
theorem idx_A (y : S1x96x256.Idx) (r : Fin 96) (d : Fin 256) (h : (y 1).val = r.val) (h' : (y 2).val = d.val) :
    y = ix3 0 r d := by
  funext a
  apply Fin.ext
  match a with
  | ⟨0, _⟩ => exact Nat.lt_one_iff.mp (y 0).isLt
  | ⟨1, _⟩ => exact h
  | ⟨2, _⟩ => exact h'

/-- The latent of a tile of one latent. -/
theorem lat_eq {k : ℕ} (l : Fin 4) (L : Fin 4) (a : ℕ) (ha : a < 1) (h : l.val = k + a) (hk : k = L.val) : l = L :=
  Fin.ext (by omega)

section

variable (t : ℕ) (ht : t < 48) (n : BitVec 32) (l : Fin 4) (x4 x5 : Vec Ideal S1x512x4x128 .fp8e4m3)
  (x6 : Vec Ideal S1x4x8x512 .i8) (x7 : Vec Ideal S1x64x512 .bf16) (qp : Vec Ideal S4x96x256 .bf16)
  (qrp : Vec Ideal S4x96x64 .bf16) (i : Fin 96) (d : Fin 256) (m lv av : EReal) (c : Ideal .f32) (hc : c = c2)
  (S0 S1 S2 S3 S4 S5 S6 S7 : Vec Ideal S1x1x1x512 .i8)
  (Q : Vec Ideal S1x96x256 .bf16)
  (R : Vec Ideal S1x96x64 .bf16)
  (M L : Vec Ideal S1x96x1 .f32) (A : Vec Ideal S1x96x256 .f32)
  (h0 : ∀ p, S0 (ix4 0 0 0 p) = x6 (ix4 0 l 0 p)) (h1 : ∀ p, S1 (ix4 0 0 0 p) = x6 (ix4 0 l 1 p))
  (h2 : ∀ p, S2 (ix4 0 0 0 p) = x6 (ix4 0 l 2 p)) (h3 : ∀ p, S3 (ix4 0 0 0 p) = x6 (ix4 0 l 3 p))
  (h4 : ∀ p, S4 (ix4 0 0 0 p) = x6 (ix4 0 l 4 p)) (h5 : ∀ p, S5 (ix4 0 0 0 p) = x6 (ix4 0 l 5 p))
  (h6 : ∀ p, S6 (ix4 0 0 0 p) = x6 (ix4 0 l 6 p)) (h7 : ∀ p, S7 (ix4 0 0 0 p) = x6 (ix4 0 l 7 p))
  (hQ : ∀ i d, Q (ix3 0 i d) = qp (ix3 l i d)) (hR : ∀ i r, R (ix3 0 i r) = qrp (ix3 l i r))
  (hM : M (ix3 0 i 0) = m) (hL : L (ix3 0 i 0) = lv) (hA : A (ix3 0 i d) = av)

include ht hc h0 h1 h2 h3 h4 h5 h6 h7 hQ hR hM

/-- The new maximum from the old one's value. -/
theorem newM_of :
    newM c (BitVec.ofNat 32 t) n l x4 x5 S0 S1 S2 S3 S4 S5 S6 S7 x7 Q R M (ix3 0 i 0)
      = max m (Finset.univ.sup (score x4 x5 x6 x7 n qp qrp t l i)) := by
  rw [newM_apply t ht n l x4 x5 x6 x7 qp qrp c hc S0 S1 S2 S3 S4 S5 S6 S7 h0 h1 h2 h3 h4 h5 h6 h7 Q hQ R hR, hM]

include hL in
/-- The new sum of weights from the old values. -/
theorem newL_of :
    newL c (BitVec.ofNat 32 t) n l x4 x5 S0 S1 S2 S3 S4 S5 S6 S7 x7 Q R M L (ix3 0 i 0)
      = lv * wt m (max m (Finset.univ.sup (score x4 x5 x6 x7 n qp qrp t l i)))
        + ∑ p : Fin 512, wt (score x4 x5 x6 x7 n qp qrp t l i p)
            (max m (Finset.univ.sup (score x4 x5 x6 x7 n qp qrp t l i))) := by
  rw [newL_apply t ht n l x4 x5 x6 x7 qp qrp c hc S0 S1 S2 S3 S4 S5 S6 S7 h0 h1 h2 h3 h4 h5 h6 h7 Q hQ R hR, hM, hL]

include hA in
/-- The new weighted sum from the old values. -/
theorem newA_of :
    newA c (BitVec.ofNat 32 t) n l x4 x5 S0 S1 S2 S3 S4 S5 S6 S7 x7 Q R M A (ix3 0 i d)
      = av * wt m (max m (Finset.univ.sup (score x4 x5 x6 x7 n qp qrp t l i)))
        + ∑ p : Fin 512, wt (score x4 x5 x6 x7 n qp qrp t l i p)
            (max m (Finset.univ.sup (score x4 x5 x6 x7 n qp qrp t l i))) * cache x4 x5 x6 l d p := by
  rw [newA_apply t ht n l x4 x5 x6 x7 qp qrp c hc S0 S1 S2 S3 S4 S5 S6 S7 h0 h1 h2 h3 h4 h5 h6 h7 Q hQ R hR, hM, hA]

end

end Cert.KernelIdeal.Value

end
end
-- ==== Proof.Start.lean ====
/-
  What the first point of a run puts into the state before it reads the cache: the permuted queries, the rotary queries,
  and the maximum, the sum of weights and the weighted sum over the new tokens.
-/
module

public import proofs.«01_k».proof.Proof.Tile
public import proofs.«01_k».proof.Proof.Gen.KernelIdeal.Frame

@[expose] public section

set_option maxRecDepth 16384

noncomputable section

open Idealize.ShloMosaic Idealize.ShloMosaic.TcCoe Idealize.SL.Sem Cert.Online
namespace Cert.KernelIdeal.Value
open Cert.KernelIdeal Cert.KernelIdeal.Gen

/-- Under a write list, an index that its later writes cover does not see the earlier ones. -/
theorem canon_append_of_cover {Val : EltTy → Type} {S : Shape} {e : EltTy} [∀ e, Nonempty (Val e)] (L' : List (View.Piece Val S e)) :
    ∀ (L : List (View.Piece Val S e)) (y : S.Idx) (_ : ∃ p ∈ L, y ∈ p.1.set), View.canon (L ++ L') y = View.canon L y
  | [], _, hy => by obtain ⟨p, hp, _⟩ := hy; exact absurd hp List.not_mem_nil
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_of_cover L' L y ?_
      obtain ⟨q, hq, hyq⟩ := hy
      rcases List.mem_cons.mp hq with rfl | hq'
      · exact absurd hyq hm
      · exact ⟨q, hq', hyq⟩

/-- A load after the writes of a list reads what the list leaves. -/
theorem readCov_ld {Val : EltTy → Type} {S : Shape} {e : EltTy} [∀ e, Nonempty (Val e)] {sig : RefSig} {κ : Kind} {sp : Space}
    (v : View sig κ sp S e) (L : List (View.Piece Val S e)) (r : Rect S) :
    v.readCov L r.toLoadRect = View.ld (View.canon L) r := View.readCov_eq_canon' v L r.toLoadRect

/-- The permuted query of row `i` of latent `l`: entry `d`. -/
def qI (x0 : Vec Ideal S1x3x128x256 .bf16) (l : Fin 4) (i : Fin 96) (d : Fin 256) : EReal :=
  x0 (ix4 0 ⟨i.val / 32, by omega⟩ ⟨32 * l.val + i.val % 32, by omega⟩ (perm d))

/-- The rotary query of row `i` of latent `l`: entry `r`. -/
def qrI (x1 : Vec Ideal S1x3x64x128 .bf16) (l : Fin 4) (i : Fin 96) (r : Fin 64) : EReal :=
  x1 (ix4 0 ⟨i.val / 32, by omega⟩ r ⟨32 * l.val + i.val % 32, by omega⟩)

/-- The masked score of row `i` of latent `l` against new token `j`. -/
def ns (x0 : Vec Ideal S1x3x128x256 .bf16) (x1 : Vec Ideal S1x3x64x128 .bf16) (x2 : Vec Ideal S1x4x16x256 .bf16)
    (x3 : Vec Ideal S1x16x64 .bf16) (l : Fin 4) (i : Fin 96) (j : Fin 16) : EReal :=
  if j.val ≤ i.val / 32 ∧ j.val < 3 then
    ((∑ r : Fin 256, qI x0 l i r * (x2 (ix4 0 l j (perm r)) : EReal)) + ∑ r : Fin 64, qrI x1 l i r * (x3 (ix3 0 j r) : EReal)) * c2
  else ⊥

section

variable (x0 : Vec Ideal S1x3x128x256 .bf16) (x1 : Vec Ideal S1x3x64x128 .bf16) (x2 : Vec Ideal S1x4x16x256 .bf16)
  (x3 : Vec Ideal S1x16x64 .bf16) (l : Fin 4) (i : Fin 96) (d : Fin 256)

/-- One latent's permuted queries, from the loads they are made of. -/
theorem q_of (v : IVec S256x256 1) (c : Ideal .f32) (w : FVec Ideal S256x256 .f32)
    (hP : k0_pay10 (F := Ideal) v c w = pm) (S0 S1 S2 : Vec Ideal S1x1x32x256 .bf16)
    (h0 : ∀ a d, S0 (ix4 0 0 a d) = x0 (ix4 0 0 ⟨32 * l.val + a.val, by omega⟩ d))
    (h1 : ∀ a d, S1 (ix4 0 0 a d) = x0 (ix4 0 1 ⟨32 * l.val + a.val, by omega⟩ d))
    (h2 : ∀ a d, S2 (ix4 0 0 a d) = x0 (ix4 0 2 ⟨32 * l.val + a.val, by omega⟩ d)) :
    k0_pay11 (F := Ideal) v c w S0 S1 S2 (ix3 0 i d) = qI x0 l i d := by
  let f : Fin 3 → Vec Ideal S1x1x32x256 .bf16 := ![S0, S1, S2]
  have hf : ∀ k a d, f k (ix4 0 0 a d) = x0 (ix4 0 k ⟨32 * l.val + a.val, by omega⟩ d) := by
    intro k a d
    match k with
    | 0 => exact h0 a d
    | 1 => exact h1 a d
    | 2 => exact h2 a d
  exact (q_apply v c w hP f i d).trans (hf _ _ _)

variable (c : Ideal .f32) (hc : c = c2) (kn : FVec Ideal S16x64 .bf16) (cn : Vec Ideal S1x1x16x256 .bf16)
  (q : Vec Ideal S1x96x256 .bf16) (qr : Vec Ideal S1x96x64 .bf16)
  (hkn : ∀ j r, kn (ix2 j r) = x3 (ix3 0 j r)) (hcn : ∀ j d, cn (ix4 0 0 j d) = x2 (ix4 0 l j d))
  (hq : ∀ i d, q (ix3 0 i d) = qI x0 l i d) (hqr : ∀ i r, qr (ix3 0 i r) = qrI x1 l i r)

include hc hkn hcn hq hqr

/-- The masked scores of the new tokens as printed. -/
theorem ns_of (j : Fin 16) : k0_pay50 (F := Ideal) c pm kn okm cn q qr (ix2 i j) = ns x0 x1 x2 x3 l i j := by
  rw [nscore_apply, ns, hc]
  simp only [hkn, hcn, hq, hqr]

/-- The first maximum, as printed. -/
theorem m0_of : k0_pay53 (F := Ideal) c pm kn okm cn q qr (ix3 0 i 0) = Finset.univ.sup (ns x0 x1 x2 x3 l i) := by
  rw [nmax_apply]
  simp only [ns_of x0 x1 x2 x3 l i c hc kn cn q qr hkn hcn hq hqr]

/-- The first sum of weights, as printed. -/
theorem l0_of : k0_pay55 (F := Ideal) (k0_pay54 (F := Ideal) c pm kn okm cn q qr) (ix3 0 i 0)
    = ∑ j : Fin 16, wt (ns x0 x1 x2 x3 l i j) (Finset.univ.sup (ns x0 x1 x2 x3 l i)) := by
  rw [nsum_apply, nmax_apply]
  simp only [ns_of x0 x1 x2 x3 l i c hc kn cn q qr hkn hcn hq hqr]

/-- The first weighted sum, as printed. -/
theorem a0_of : k0_pay56 (F := Ideal) (k0_pay49 (F := Ideal) pm cn) (k0_pay52 (F := Ideal) c pm kn okm cn q qr) (ix3 0 i d)
    = ∑ j : Fin 16, wt (ns x0 x1 x2 x3 l i j) (Finset.univ.sup (ns x0 x1 x2 x3 l i)) * (x2 (ix4 0 l j (perm d)) : EReal) := by
  rw [nacc_apply, nmax_apply]
  simp only [ns_of x0 x1 x2 x3 l i c hc kn cn q qr hkn hcn hq hqr, hcn]

end

/-- An index of a tile of the rotary queries is its row and column. -/
theorem idx_R (y : S1x32x64.Idx) (r : Fin 32) (d : Fin 64) (h : (y 1).val = r.val) (h' : (y 2).val = d.val) :
    y = ix3 0 r d := by
  funext a
  apply Fin.ext
  match a with
  | ⟨0, _⟩ => exact Nat.lt_one_iff.mp (y 0).isLt
  | ⟨1, _⟩ => exact h
  | ⟨2, _⟩ => exact h'

/-- Rotary queries of latent 0: a slice of one token's transposed block. -/
theorem rope_0 (x1 : Vec Ideal S1x3x64x128 .bf16) (j : Fin 3) (i : Fin 96) (a : Fin 32) (r : Fin 64) (W : Vec Ideal S1x1x64x128 .bf16)
    (hW : ∀ r s, W (ix4 0 0 r s) = x1 (ix4 0 j r s)) (hi : i.val = 32 * j.val + a.val) :
    k0_pay16 (F := Ideal) W (ix3 0 a r) = qrI x1 0 i r := by
  pointwise [k0_pay16, k0_pay15]
  rw [hW]
  have ha := a.isLt
  have h1 : (⟨i.val / 32, by omega⟩ : Fin 3) = j := Fin.ext (by show i.val / 32 = j.val; omega)
  unfold qrI
  rw [h1]
  exact congrArg x1 (congrArg (ix4 0 j r) (Fin.ext (by show a.val = 32 * 0 + i.val % 32; omega)))

/-- Rotary queries of latent 1: a slice of one token's transposed block. -/
theorem rope_1 (x1 : Vec Ideal S1x3x64x128 .bf16) (j : Fin 3) (i : Fin 96) (a : Fin 32) (r : Fin 64) (W : Vec Ideal S1x1x64x128 .bf16)
    (hW : ∀ r s, W (ix4 0 0 r s) = x1 (ix4 0 j r s)) (hi : i.val = 32 * j.val + a.val) :
    k0_pay17 (F := Ideal) W (ix3 0 a r) = qrI x1 1 i r := by
  pointwise [k0_pay17, k0_pay15]
  rw [hW]
  have ha := a.isLt
  have h1 : (⟨i.val / 32, by omega⟩ : Fin 3) = j := Fin.ext (by show i.val / 32 = j.val; omega)
  unfold qrI
  rw [h1]
  exact congrArg x1 (congrArg (ix4 0 j r) (Fin.ext (by show 32 + a.val = 32 * 1 + i.val % 32; omega)))

/-- Rotary queries of latent 2: a slice of one token's transposed block. -/
theorem rope_2 (x1 : Vec Ideal S1x3x64x128 .bf16) (j : Fin 3) (i : Fin 96) (a : Fin 32) (r : Fin 64) (W : Vec Ideal S1x1x64x128 .bf16)
    (hW : ∀ r s, W (ix4 0 0 r s) = x1 (ix4 0 j r s)) (hi : i.val = 32 * j.val + a.val) :
    k0_pay18 (F := Ideal) W (ix3 0 a r) = qrI x1 2 i r := by
  pointwise [k0_pay18, k0_pay15]
  rw [hW]
  have ha := a.isLt
  have h1 : (⟨i.val / 32, by omega⟩ : Fin 3) = j := Fin.ext (by show i.val / 32 = j.val; omega)
  unfold qrI
  rw [h1]
  exact congrArg x1 (congrArg (ix4 0 j r) (Fin.ext (by show 64 + a.val = 32 * 2 + i.val % 32; omega)))

/-- Rotary queries of latent 3: a slice of one token's transposed block. -/
theorem rope_3 (x1 : Vec Ideal S1x3x64x128 .bf16) (j : Fin 3) (i : Fin 96) (a : Fin 32) (r : Fin 64) (W : Vec Ideal S1x1x64x128 .bf16)
    (hW : ∀ r s, W (ix4 0 0 r s) = x1 (ix4 0 j r s)) (hi : i.val = 32 * j.val + a.val) :
    k0_pay19 (F := Ideal) W (ix3 0 a r) = qrI x1 3 i r := by
  pointwise [k0_pay19, k0_pay15]
  rw [hW]
  have ha := a.isLt
  have h1 : (⟨i.val / 32, by omega⟩ : Fin 3) = j := Fin.ext (by show i.val / 32 = j.val; omega)
  unfold qrI
  rw [h1]
  exact congrArg x1 (congrArg (ix4 0 j r) (Fin.ext (by show 96 + a.val = 32 * 3 + i.val % 32; omega)))

/-- The permuted queries the first point stores. -/
theorem start_q (c : Dev nD) (arg3 : Memref sig .tc .vmem S1x3x128x256 .bf16) (harg3 : arg3.IsWhole) (x0 : Vec Ideal S1x3x128x256 .bf16) (l : Fin 4) (r : Fin 96) (d : Fin 256) :
    View.canon (kernelRun0_A.sl.HS0_4 (F := Ideal) c arg3 harg3 x0) (ix3 l r d) = qI x0 l r d := by
  obtain ⟨v, hv⟩ : ∃ v : EReal, v = qI x0 l r d := ⟨_, rfl⟩
  rw [← hv]
  unfold kernelRun0_A.sl.HS0_4
  generalize hY : (ix3 l r d : S4x96x256.Idx) = Y
  have hY0 : (Y 0).val = l.val := by rw [← hY]; rfl
  have hY1 : (Y 1).val = r.val := by rw [← hY]; rfl
  have hY2 : (Y 2).val = d.val := by rw [← hY]; rfl
  clear hY
  canon_tiles y hy
  case piece0 =>
    obtain rfl : l = 3 := lat_eq (k := 3) l 3 (y 0) (y 0).isLt (by rw [← hY0, hy0]) rfl
    obtain rfl := idx_A y r d (by rw [← hY1, hy1]) (by rw [← hY2, hy2])
    refine Eq.trans (show _ = k0_pay11 (F := Ideal) _ _ _ _ _ _ (ix3 0 r d) from rfl) ?_
    simp only [View.readAt_eq_ld, Memref.IsWhole.read_unread]
    refine (q_of x0 3 r d _ _ _ rfl _ _ _ ?_ ?_ ?_).trans hv.symm
    all_goals (intros; pointwise)
  case piece1 =>
    obtain rfl : l = 2 := lat_eq (k := 2) l 2 (y 0) (y 0).isLt (by rw [← hY0, hy0]) rfl
    obtain rfl := idx_A y r d (by rw [← hY1, hy1]) (by rw [← hY2, hy2])
    refine Eq.trans (show _ = k0_pay11 (F := Ideal) _ _ _ _ _ _ (ix3 0 r d) from rfl) ?_
    simp only [View.readAt_eq_ld, Memref.IsWhole.read_unread]
    refine (q_of x0 2 r d _ _ _ rfl _ _ _ ?_ ?_ ?_).trans hv.symm
    all_goals (intros; pointwise)
  case piece2 =>
    obtain rfl : l = 1 := lat_eq (k := 1) l 1 (y 0) (y 0).isLt (by rw [← hY0, hy0]) rfl
    obtain rfl := idx_A y r d (by rw [← hY1, hy1]) (by rw [← hY2, hy2])
    refine Eq.trans (show _ = k0_pay11 (F := Ideal) _ _ _ _ _ _ (ix3 0 r d) from rfl) ?_
    simp only [View.readAt_eq_ld, Memref.IsWhole.read_unread]
    refine (q_of x0 1 r d _ _ _ rfl _ _ _ ?_ ?_ ?_).trans hv.symm
    all_goals (intros; pointwise)
  case piece3 =>
    obtain rfl : l = 0 := lat_eq (k := 0) l 0 (y 0) (y 0).isLt (by rw [← hY0, hy0]; exact (Nat.zero_add _).symm) rfl
    obtain rfl := idx_A y r d (by rw [← hY1, hy1]) (by rw [← hY2, hy2])
    refine Eq.trans (show _ = k0_pay11 (F := Ideal) _ _ _ _ _ _ (ix3 0 r d) from rfl) ?_
    simp only [View.readAt_eq_ld, Memref.IsWhole.read_unread]
    refine (q_of x0 0 r d _ _ _ rfl _ _ _ ?_ ?_ ?_).trans hv.symm
    all_goals (intros; pointwise)

/-- The rotary queries the first point stores. -/
theorem start_qr (c : Dev nD) (arg4 : Memref sig .tc .vmem S1x3x64x128 .bf16) (harg4 : arg4.IsWhole) (x1 : Vec Ideal S1x3x64x128 .bf16) (l : Fin 4) (i : Fin 96) (r : Fin 64) :
    View.canon (kernelRun0_A.sl.HS1_12 (F := Ideal) c arg4 harg4 x1) (ix3 l i r) = qrI x1 l i r := by
  obtain ⟨v, hv⟩ : ∃ v : EReal, v = qrI x1 l i r := ⟨_, rfl⟩
  rw [← hv]
  unfold kernelRun0_A.sl.HS1_12
  generalize hY : (ix3 l i r : S4x96x64.Idx) = Y
  have hY0 : (Y 0).val = l.val := by rw [← hY]; rfl
  have hY1 : (Y 1).val = i.val := by rw [← hY]; rfl
  have hY2 : (Y 2).val = r.val := by rw [← hY]; rfl
  clear hY
  canon_tiles y hy
  case piece0 =>
    obtain rfl : l = 3 := lat_eq (k := 3) l 3 (y 0) (y 0).isLt (by rw [← hY0, hy0]) rfl
    obtain ⟨a, rfl⟩ : ∃ a : Fin 32, y = ix3 0 a r := ⟨y 1, idx_R y (y 1) r rfl (by rw [← hY2, hy2])⟩
    have hi : i.val = 64 + a.val := by rw [← hY1, hy1]; rfl
    refine Eq.trans (show _ = k0_pay19 (F := Ideal) _ (ix3 0 a r) from rfl) ?_
    simp only [View.readAt_eq_ld, Memref.IsWhole.read_unread]
    refine (rope_3 x1 2 i a r _ ?_ hi).trans hv.symm
    intros; pointwise
  case piece1 =>
    obtain rfl : l = 2 := lat_eq (k := 2) l 2 (y 0) (y 0).isLt (by rw [← hY0, hy0]) rfl
    obtain ⟨a, rfl⟩ : ∃ a : Fin 32, y = ix3 0 a r := ⟨y 1, idx_R y (y 1) r rfl (by rw [← hY2, hy2])⟩
    have hi : i.val = 64 + a.val := by rw [← hY1, hy1]; rfl
    refine Eq.trans (show _ = k0_pay18 (F := Ideal) _ (ix3 0 a r) from rfl) ?_
    simp only [View.readAt_eq_ld, Memref.IsWhole.read_unread]
    refine (rope_2 x1 2 i a r _ ?_ hi).trans hv.symm
    intros; pointwise
  case piece2 =>
    obtain rfl : l = 1 := lat_eq (k := 1) l 1 (y 0) (y 0).isLt (by rw [← hY0, hy0]) rfl
    obtain ⟨a, rfl⟩ : ∃ a : Fin 32, y = ix3 0 a r := ⟨y 1, idx_R y (y 1) r rfl (by rw [← hY2, hy2])⟩
    have hi : i.val = 64 + a.val := by rw [← hY1, hy1]; rfl
    refine Eq.trans (show _ = k0_pay17 (F := Ideal) _ (ix3 0 a r) from rfl) ?_
    simp only [View.readAt_eq_ld, Memref.IsWhole.read_unread]
    refine (rope_1 x1 2 i a r _ ?_ hi).trans hv.symm
    intros; pointwise
  case piece3 =>
    obtain rfl : l = 0 := lat_eq (k := 0) l 0 (y 0) (y 0).isLt (by rw [← hY0, hy0]; exact (Nat.zero_add _).symm) rfl
    obtain ⟨a, rfl⟩ : ∃ a : Fin 32, y = ix3 0 a r := ⟨y 1, idx_R y (y 1) r rfl (by rw [← hY2, hy2])⟩
    have hi : i.val = 64 + a.val := by rw [← hY1, hy1]; rfl
    refine Eq.trans (show _ = k0_pay16 (F := Ideal) _ (ix3 0 a r) from rfl) ?_
    simp only [View.readAt_eq_ld, Memref.IsWhole.read_unread]
    refine (rope_0 x1 2 i a r _ ?_ hi).trans hv.symm
    intros; pointwise
  case piece4 =>
    obtain rfl : l = 3 := lat_eq (k := 3) l 3 (y 0) (y 0).isLt (by rw [← hY0, hy0]) rfl
    obtain ⟨a, rfl⟩ : ∃ a : Fin 32, y = ix3 0 a r := ⟨y 1, idx_R y (y 1) r rfl (by rw [← hY2, hy2])⟩
    have hi : i.val = 32 + a.val := by rw [← hY1, hy1]; rfl
    refine Eq.trans (show _ = k0_pay19 (F := Ideal) _ (ix3 0 a r) from rfl) ?_
    simp only [View.readAt_eq_ld, Memref.IsWhole.read_unread]
    refine (rope_3 x1 1 i a r _ ?_ hi).trans hv.symm
    intros; pointwise
  case piece5 =>
    obtain rfl : l = 2 := lat_eq (k := 2) l 2 (y 0) (y 0).isLt (by rw [← hY0, hy0]) rfl
    obtain ⟨a, rfl⟩ : ∃ a : Fin 32, y = ix3 0 a r := ⟨y 1, idx_R y (y 1) r rfl (by rw [← hY2, hy2])⟩
    have hi : i.val = 32 + a.val := by rw [← hY1, hy1]; rfl
    refine Eq.trans (show _ = k0_pay18 (F := Ideal) _ (ix3 0 a r) from rfl) ?_
    simp only [View.readAt_eq_ld, Memref.IsWhole.read_unread]
    refine (rope_2 x1 1 i a r _ ?_ hi).trans hv.symm
    intros; pointwise
  case piece6 =>
    obtain rfl : l = 1 := lat_eq (k := 1) l 1 (y 0) (y 0).isLt (by rw [← hY0, hy0]) rfl
    obtain ⟨a, rfl⟩ : ∃ a : Fin 32, y = ix3 0 a r := ⟨y 1, idx_R y (y 1) r rfl (by rw [← hY2, hy2])⟩
    have hi : i.val = 32 + a.val := by rw [← hY1, hy1]; rfl
    refine Eq.trans (show _ = k0_pay17 (F := Ideal) _ (ix3 0 a r) from rfl) ?_
    simp only [View.readAt_eq_ld, Memref.IsWhole.read_unread]
    refine (rope_1 x1 1 i a r _ ?_ hi).trans hv.symm
    intros; pointwise
  case piece7 =>
    obtain rfl : l = 0 := lat_eq (k := 0) l 0 (y 0) (y 0).isLt (by rw [← hY0, hy0]; exact (Nat.zero_add _).symm) rfl
    obtain ⟨a, rfl⟩ : ∃ a : Fin 32, y = ix3 0 a r := ⟨y 1, idx_R y (y 1) r rfl (by rw [← hY2, hy2])⟩
    have hi : i.val = 32 + a.val := by rw [← hY1, hy1]; rfl
    refine Eq.trans (show _ = k0_pay16 (F := Ideal) _ (ix3 0 a r) from rfl) ?_
    simp only [View.readAt_eq_ld, Memref.IsWhole.read_unread]
    refine (rope_0 x1 1 i a r _ ?_ hi).trans hv.symm
    intros; pointwise
  case piece8 =>
    obtain rfl : l = 3 := lat_eq (k := 3) l 3 (y 0) (y 0).isLt (by rw [← hY0, hy0]) rfl
    obtain ⟨a, rfl⟩ : ∃ a : Fin 32, y = ix3 0 a r := ⟨y 1, idx_R y (y 1) r rfl (by rw [← hY2, hy2])⟩
    have hi : i.val = 0 + a.val := by rw [← hY1, hy1]; exact (Nat.zero_add _).symm
    refine Eq.trans (show _ = k0_pay19 (F := Ideal) _ (ix3 0 a r) from rfl) ?_
    simp only [View.readAt_eq_ld, Memref.IsWhole.read_unread]
    refine (rope_3 x1 0 i a r _ ?_ hi).trans hv.symm
    intros; pointwise
  case piece9 =>
    obtain rfl : l = 2 := lat_eq (k := 2) l 2 (y 0) (y 0).isLt (by rw [← hY0, hy0]) rfl
    obtain ⟨a, rfl⟩ : ∃ a : Fin 32, y = ix3 0 a r := ⟨y 1, idx_R y (y 1) r rfl (by rw [← hY2, hy2])⟩
    have hi : i.val = 0 + a.val := by rw [← hY1, hy1]; exact (Nat.zero_add _).symm
    refine Eq.trans (show _ = k0_pay18 (F := Ideal) _ (ix3 0 a r) from rfl) ?_
    simp only [View.readAt_eq_ld, Memref.IsWhole.read_unread]
    refine (rope_2 x1 0 i a r _ ?_ hi).trans hv.symm
    intros; pointwise
  case piece10 =>
    obtain rfl : l = 1 := lat_eq (k := 1) l 1 (y 0) (y 0).isLt (by rw [← hY0, hy0]) rfl
    obtain ⟨a, rfl⟩ : ∃ a : Fin 32, y = ix3 0 a r := ⟨y 1, idx_R y (y 1) r rfl (by rw [← hY2, hy2])⟩
    have hi : i.val = 0 + a.val := by rw [← hY1, hy1]; exact (Nat.zero_add _).symm
    refine Eq.trans (show _ = k0_pay17 (F := Ideal) _ (ix3 0 a r) from rfl) ?_
    simp only [View.readAt_eq_ld, Memref.IsWhole.read_unread]
    refine (rope_1 x1 0 i a r _ ?_ hi).trans hv.symm
    intros; pointwise
  case piece11 =>
    obtain rfl : l = 0 := lat_eq (k := 0) l 0 (y 0) (y 0).isLt (by rw [← hY0, hy0]; exact (Nat.zero_add _).symm) rfl
    obtain ⟨a, rfl⟩ : ∃ a : Fin 32, y = ix3 0 a r := ⟨y 1, idx_R y (y 1) r rfl (by rw [← hY2, hy2])⟩
    have hi : i.val = 0 + a.val := by rw [← hY1, hy1]; exact (Nat.zero_add _).symm
    refine Eq.trans (show _ = k0_pay16 (F := Ideal) _ (ix3 0 a r) from rfl) ?_
    simp only [View.readAt_eq_ld, Memref.IsWhole.read_unread]
    refine (rope_0 x1 0 i a r _ ?_ hi).trans hv.symm
    intros; pointwise

/-- The maximum over the new tokens the first point stores. -/
theorem start_m (c : Dev nD) (arg3 : Memref sig .tc .vmem S1x3x128x256 .bf16) (harg3 : arg3.IsWhole) (arg4 : Memref sig .tc .vmem S1x3x64x128 .bf16) (harg4 : arg4.IsWhole) (arg5 : Memref sig .tc .vmem S1x4x16x256 .bf16) (harg5 : arg5.IsWhole) (arg6 : Memref sig .tc .vmem S1x16x64 .bf16) (harg6 : arg6.IsWhole) (arg13 : Memref sig .tc .vmem S4x96x256 .bf16) (arg14 : Memref sig .tc .vmem S4x96x64 .bf16) (x0 : Vec Ideal S1x3x128x256 .bf16) (x1 : Vec Ideal S1x3x64x128 .bf16) (x2 : Vec Ideal S1x4x16x256 .bf16) (x3 : Vec Ideal S1x16x64 .bf16) (l : Fin 4) (r : Fin 96) :
    View.canon (kernelRun0_A.sl.HS3_5 (F := Ideal) c arg3 harg3 arg4 harg4 arg5 harg5 arg6 harg6 arg13 arg14 x0 x1 x2 x3) (ix3 l r 0)
      = Finset.univ.sup (ns x0 x1 x2 x3 l r) := by
  obtain ⟨v, hv⟩ : ∃ v : EReal, v = Finset.univ.sup (ns x0 x1 x2 x3 l r) := ⟨_, rfl⟩
  rw [← hv]
  have hQ := start_q c arg3 harg3 x0
  have hR := start_qr c arg4 harg4 x1
  unfold kernelRun0_A.sl.HS3_5
  generalize hY : (ix3 l r 0 : S4x96x1.Idx) = Y
  have hY0 : (Y 0).val = l.val := by rw [← hY]; rfl
  have hY1 : (Y 1).val = r.val := by rw [← hY]; rfl
  clear hY
  refine (canon_append_of_cover [_] [_, _, _, _] Y (View.cover_of_tiled_head _ _ _ rfl Y)).trans ?_
  canon_tiles y hy
  case piece0 =>
    obtain rfl : l = 3 := lat_eq (k := 3) l 3 (y 0) (y 0).isLt (by rw [← hY0, hy0]) rfl
    obtain rfl := idx_1 y r (by rw [← hY1, hy1])
    refine Eq.trans (show _ = k0_pay53 (F := Ideal) _ pm _ okm _ _ _ (ix3 0 r 0) from rfl) ?_
    simp only [kernelRun0_A.sl.v300, kernelRun0_A.sl.v721, kernelRun0_A.sl.v366, kernelRun0_A.sl.v680, kernelRun0_A.sl.v297, kernelRun0_A.sl.v677, kernelRun0_A.sl.v267, kernelRun0_A.sl.v264, kernelRun0_A.sl.v633, kernelRun0_A.sl.v636, kernelRun0_A.sl.v363, kernelRun0_A.sl.v724, kernelRun0_A.sl.v768, kernelRun0_A.sl.v765, kernelRun0_A.sl.v333, kernelRun0_A.sl.v330, readCov_ld, View.readAt_eq_ld, Memref.IsWhole.read_unread]
    generalize View.canon (kernelRun0_A.sl.HS0_4 (F := Ideal) c arg3 harg3 x0) = Q at hQ ⊢
    generalize View.canon (kernelRun0_A.sl.HS1_12 (F := Ideal) c arg4 harg4 x1) = R at hR ⊢
    refine (m0_of x0 x1 x2 x3 3 r _ c2_val _ _ _ _ ?_ ?_ ?_ ?_).trans hv.symm
    · intro j e
      unfold kernelRun0_A.sl.r_6
      simp only [View.readAt_eq_ld, Memref.IsWhole.read_unread]
      pointwise [k0_pay35]
    · intro j e
      pointwise
    · intro a e
      refine Eq.trans ?_ (hQ 3 a e)
      pointwise
    · intro a e
      refine Eq.trans ?_ (hR 3 a e)
      pointwise
  case piece1 =>
    obtain rfl : l = 2 := lat_eq (k := 2) l 2 (y 0) (y 0).isLt (by rw [← hY0, hy0]) rfl
    obtain rfl := idx_1 y r (by rw [← hY1, hy1])
    refine Eq.trans (show _ = k0_pay53 (F := Ideal) _ pm _ okm _ _ _ (ix3 0 r 0) from rfl) ?_
    simp only [kernelRun0_A.sl.v300, kernelRun0_A.sl.v721, kernelRun0_A.sl.v366, kernelRun0_A.sl.v680, kernelRun0_A.sl.v297, kernelRun0_A.sl.v677, kernelRun0_A.sl.v267, kernelRun0_A.sl.v264, kernelRun0_A.sl.v633, kernelRun0_A.sl.v636, kernelRun0_A.sl.v363, kernelRun0_A.sl.v724, kernelRun0_A.sl.v768, kernelRun0_A.sl.v765, kernelRun0_A.sl.v333, kernelRun0_A.sl.v330, readCov_ld, View.readAt_eq_ld, Memref.IsWhole.read_unread]
    generalize View.canon (kernelRun0_A.sl.HS0_4 (F := Ideal) c arg3 harg3 x0) = Q at hQ ⊢
    generalize View.canon (kernelRun0_A.sl.HS1_12 (F := Ideal) c arg4 harg4 x1) = R at hR ⊢
    refine (m0_of x0 x1 x2 x3 2 r _ c2_val _ _ _ _ ?_ ?_ ?_ ?_).trans hv.symm
    · intro j e
      unfold kernelRun0_A.sl.r_6
      simp only [View.readAt_eq_ld, Memref.IsWhole.read_unread]
      pointwise [k0_pay35]
    · intro j e
      pointwise
    · intro a e
      refine Eq.trans ?_ (hQ 2 a e)
      pointwise
    · intro a e
      refine Eq.trans ?_ (hR 2 a e)
      pointwise
  case piece2 =>
    obtain rfl : l = 1 := lat_eq (k := 1) l 1 (y 0) (y 0).isLt (by rw [← hY0, hy0]) rfl
    obtain rfl := idx_1 y r (by rw [← hY1, hy1])
    refine Eq.trans (show _ = k0_pay53 (F := Ideal) _ pm _ okm _ _ _ (ix3 0 r 0) from rfl) ?_
    simp only [kernelRun0_A.sl.v300, kernelRun0_A.sl.v721, kernelRun0_A.sl.v366, kernelRun0_A.sl.v680, kernelRun0_A.sl.v297, kernelRun0_A.sl.v677, kernelRun0_A.sl.v267, kernelRun0_A.sl.v264, kernelRun0_A.sl.v633, kernelRun0_A.sl.v636, kernelRun0_A.sl.v363, kernelRun0_A.sl.v724, kernelRun0_A.sl.v768, kernelRun0_A.sl.v765, kernelRun0_A.sl.v333, kernelRun0_A.sl.v330, readCov_ld, View.readAt_eq_ld, Memref.IsWhole.read_unread]
    generalize View.canon (kernelRun0_A.sl.HS0_4 (F := Ideal) c arg3 harg3 x0) = Q at hQ ⊢
    generalize View.canon (kernelRun0_A.sl.HS1_12 (F := Ideal) c arg4 harg4 x1) = R at hR ⊢
    refine (m0_of x0 x1 x2 x3 1 r _ c2_val _ _ _ _ ?_ ?_ ?_ ?_).trans hv.symm
    · intro j e
      unfold kernelRun0_A.sl.r_6
      simp only [View.readAt_eq_ld, Memref.IsWhole.read_unread]
      pointwise [k0_pay35]
    · intro j e
      pointwise
    · intro a e
      refine Eq.trans ?_ (hQ 1 a e)
      pointwise
    · intro a e
      refine Eq.trans ?_ (hR 1 a e)
      pointwise
  case piece3 =>
    obtain rfl : l = 0 := lat_eq (k := 0) l 0 (y 0) (y 0).isLt (by rw [← hY0, hy0]; exact (Nat.zero_add _).symm) rfl
    obtain rfl := idx_1 y r (by rw [← hY1, hy1])
    refine Eq.trans (show _ = k0_pay53 (F := Ideal) _ pm _ okm _ _ _ (ix3 0 r 0) from rfl) ?_
    simp only [kernelRun0_A.sl.v300, kernelRun0_A.sl.v721, kernelRun0_A.sl.v366, kernelRun0_A.sl.v680, kernelRun0_A.sl.v297, kernelRun0_A.sl.v677, kernelRun0_A.sl.v267, kernelRun0_A.sl.v264, kernelRun0_A.sl.v633, kernelRun0_A.sl.v636, kernelRun0_A.sl.v363, kernelRun0_A.sl.v724, kernelRun0_A.sl.v768, kernelRun0_A.sl.v765, kernelRun0_A.sl.v333, kernelRun0_A.sl.v330, readCov_ld, View.readAt_eq_ld, Memref.IsWhole.read_unread]
    generalize View.canon (kernelRun0_A.sl.HS0_4 (F := Ideal) c arg3 harg3 x0) = Q at hQ ⊢
    generalize View.canon (kernelRun0_A.sl.HS1_12 (F := Ideal) c arg4 harg4 x1) = R at hR ⊢
    refine (m0_of x0 x1 x2 x3 0 r _ c2_val _ _ _ _ ?_ ?_ ?_ ?_).trans hv.symm
    · intro j e
      unfold kernelRun0_A.sl.r_6
      simp only [View.readAt_eq_ld, Memref.IsWhole.read_unread]
      pointwise [k0_pay35]
    · intro j e
      pointwise
    · intro a e
      refine Eq.trans ?_ (hQ 0 a e)
      pointwise
    · intro a e
      refine Eq.trans ?_ (hR 0 a e)
      pointwise

/-- The sum of the new tokens' weights the first point stores. -/
theorem start_l (c : Dev nD) (arg3 : Memref sig .tc .vmem S1x3x128x256 .bf16) (harg3 : arg3.IsWhole) (arg4 : Memref sig .tc .vmem S1x3x64x128 .bf16) (harg4 : arg4.IsWhole) (arg5 : Memref sig .tc .vmem S1x4x16x256 .bf16) (harg5 : arg5.IsWhole) (arg6 : Memref sig .tc .vmem S1x16x64 .bf16) (harg6 : arg6.IsWhole) (arg13 : Memref sig .tc .vmem S4x96x256 .bf16) (arg14 : Memref sig .tc .vmem S4x96x64 .bf16) (x0 : Vec Ideal S1x3x128x256 .bf16) (x1 : Vec Ideal S1x3x64x128 .bf16) (x2 : Vec Ideal S1x4x16x256 .bf16) (x3 : Vec Ideal S1x16x64 .bf16) (l : Fin 4) (r : Fin 96) :
    View.canon (kernelRun0_A.sl.HS4_5 (F := Ideal) c arg3 harg3 arg4 harg4 arg5 harg5 arg6 harg6 arg13 arg14 x0 x1 x2 x3) (ix3 l r 0)
      = ∑ j : Fin 16, wt (ns x0 x1 x2 x3 l r j) (Finset.univ.sup (ns x0 x1 x2 x3 l r)) := by
  obtain ⟨v, hv⟩ : ∃ v : EReal, v = ∑ j : Fin 16, wt (ns x0 x1 x2 x3 l r j) (Finset.univ.sup (ns x0 x1 x2 x3 l r)) := ⟨_, rfl⟩
  rw [← hv]
  have hQ := start_q c arg3 harg3 x0
  have hR := start_qr c arg4 harg4 x1
  unfold kernelRun0_A.sl.HS4_5
  generalize hY : (ix3 l r 0 : S4x96x1.Idx) = Y
  have hY0 : (Y 0).val = l.val := by rw [← hY]; rfl
  have hY1 : (Y 1).val = r.val := by rw [← hY]; rfl
  clear hY
  refine (canon_append_of_cover [_] [_, _, _, _] Y (View.cover_of_tiled_head _ _ _ rfl Y)).trans ?_
  canon_tiles y hy
  case piece0 =>
    obtain rfl : l = 3 := lat_eq (k := 3) l 3 (y 0) (y 0).isLt (by rw [← hY0, hy0]) rfl
    obtain rfl := idx_1 y r (by rw [← hY1, hy1])
    refine Eq.trans (show _ = k0_pay55 (F := Ideal) (k0_pay54 (F := Ideal) _ pm _ okm _ _ _) (ix3 0 r 0) from rfl) ?_
    simp only [kernelRun0_A.sl.v300, kernelRun0_A.sl.v721, kernelRun0_A.sl.v366, kernelRun0_A.sl.v680, kernelRun0_A.sl.v297, kernelRun0_A.sl.v677, kernelRun0_A.sl.v267, kernelRun0_A.sl.v264, kernelRun0_A.sl.v633, kernelRun0_A.sl.v636, kernelRun0_A.sl.v363, kernelRun0_A.sl.v724, kernelRun0_A.sl.v768, kernelRun0_A.sl.v765, kernelRun0_A.sl.v333, kernelRun0_A.sl.v330, readCov_ld, View.readAt_eq_ld, Memref.IsWhole.read_unread]
    generalize View.canon (kernelRun0_A.sl.HS0_4 (F := Ideal) c arg3 harg3 x0) = Q at hQ ⊢
    generalize View.canon (kernelRun0_A.sl.HS1_12 (F := Ideal) c arg4 harg4 x1) = R at hR ⊢
    refine (l0_of x0 x1 x2 x3 3 r _ c2_val _ _ _ _ ?_ ?_ ?_ ?_).trans hv.symm
    · intro j e
      unfold kernelRun0_A.sl.r_6
      simp only [View.readAt_eq_ld, Memref.IsWhole.read_unread]
      pointwise [k0_pay35]
    · intro j e
      pointwise
    · intro a e
      refine Eq.trans ?_ (hQ 3 a e)
      pointwise
    · intro a e
      refine Eq.trans ?_ (hR 3 a e)
      pointwise
  case piece1 =>
    obtain rfl : l = 2 := lat_eq (k := 2) l 2 (y 0) (y 0).isLt (by rw [← hY0, hy0]) rfl
    obtain rfl := idx_1 y r (by rw [← hY1, hy1])
    refine Eq.trans (show _ = k0_pay55 (F := Ideal) (k0_pay54 (F := Ideal) _ pm _ okm _ _ _) (ix3 0 r 0) from rfl) ?_
    simp only [kernelRun0_A.sl.v300, kernelRun0_A.sl.v721, kernelRun0_A.sl.v366, kernelRun0_A.sl.v680, kernelRun0_A.sl.v297, kernelRun0_A.sl.v677, kernelRun0_A.sl.v267, kernelRun0_A.sl.v264, kernelRun0_A.sl.v633, kernelRun0_A.sl.v636, kernelRun0_A.sl.v363, kernelRun0_A.sl.v724, kernelRun0_A.sl.v768, kernelRun0_A.sl.v765, kernelRun0_A.sl.v333, kernelRun0_A.sl.v330, readCov_ld, View.readAt_eq_ld, Memref.IsWhole.read_unread]
    generalize View.canon (kernelRun0_A.sl.HS0_4 (F := Ideal) c arg3 harg3 x0) = Q at hQ ⊢
    generalize View.canon (kernelRun0_A.sl.HS1_12 (F := Ideal) c arg4 harg4 x1) = R at hR ⊢
    refine (l0_of x0 x1 x2 x3 2 r _ c2_val _ _ _ _ ?_ ?_ ?_ ?_).trans hv.symm
    · intro j e
      unfold kernelRun0_A.sl.r_6
      simp only [View.readAt_eq_ld, Memref.IsWhole.read_unread]
      pointwise [k0_pay35]
    · intro j e
      pointwise
    · intro a e
      refine Eq.trans ?_ (hQ 2 a e)
      pointwise
    · intro a e
      refine Eq.trans ?_ (hR 2 a e)
      pointwise
  case piece2 =>
    obtain rfl : l = 1 := lat_eq (k := 1) l 1 (y 0) (y 0).isLt (by rw [← hY0, hy0]) rfl
    obtain rfl := idx_1 y r (by rw [← hY1, hy1])
    refine Eq.trans (show _ = k0_pay55 (F := Ideal) (k0_pay54 (F := Ideal) _ pm _ okm _ _ _) (ix3 0 r 0) from rfl) ?_
    simp only [kernelRun0_A.sl.v300, kernelRun0_A.sl.v721, kernelRun0_A.sl.v366, kernelRun0_A.sl.v680, kernelRun0_A.sl.v297, kernelRun0_A.sl.v677, kernelRun0_A.sl.v267, kernelRun0_A.sl.v264, kernelRun0_A.sl.v633, kernelRun0_A.sl.v636, kernelRun0_A.sl.v363, kernelRun0_A.sl.v724, kernelRun0_A.sl.v768, kernelRun0_A.sl.v765, kernelRun0_A.sl.v333, kernelRun0_A.sl.v330, readCov_ld, View.readAt_eq_ld, Memref.IsWhole.read_unread]
    generalize View.canon (kernelRun0_A.sl.HS0_4 (F := Ideal) c arg3 harg3 x0) = Q at hQ ⊢
    generalize View.canon (kernelRun0_A.sl.HS1_12 (F := Ideal) c arg4 harg4 x1) = R at hR ⊢
    refine (l0_of x0 x1 x2 x3 1 r _ c2_val _ _ _ _ ?_ ?_ ?_ ?_).trans hv.symm
    · intro j e
      unfold kernelRun0_A.sl.r_6
      simp only [View.readAt_eq_ld, Memref.IsWhole.read_unread]
      pointwise [k0_pay35]
    · intro j e
      pointwise
    · intro a e
      refine Eq.trans ?_ (hQ 1 a e)
      pointwise
    · intro a e
      refine Eq.trans ?_ (hR 1 a e)
      pointwise
  case piece3 =>
    obtain rfl : l = 0 := lat_eq (k := 0) l 0 (y 0) (y 0).isLt (by rw [← hY0, hy0]; exact (Nat.zero_add _).symm) rfl
    obtain rfl := idx_1 y r (by rw [← hY1, hy1])
    refine Eq.trans (show _ = k0_pay55 (F := Ideal) (k0_pay54 (F := Ideal) _ pm _ okm _ _ _) (ix3 0 r 0) from rfl) ?_
    simp only [kernelRun0_A.sl.v300, kernelRun0_A.sl.v721, kernelRun0_A.sl.v366, kernelRun0_A.sl.v680, kernelRun0_A.sl.v297, kernelRun0_A.sl.v677, kernelRun0_A.sl.v267, kernelRun0_A.sl.v264, kernelRun0_A.sl.v633, kernelRun0_A.sl.v636, kernelRun0_A.sl.v363, kernelRun0_A.sl.v724, kernelRun0_A.sl.v768, kernelRun0_A.sl.v765, kernelRun0_A.sl.v333, kernelRun0_A.sl.v330, readCov_ld, View.readAt_eq_ld, Memref.IsWhole.read_unread]
    generalize View.canon (kernelRun0_A.sl.HS0_4 (F := Ideal) c arg3 harg3 x0) = Q at hQ ⊢
    generalize View.canon (kernelRun0_A.sl.HS1_12 (F := Ideal) c arg4 harg4 x1) = R at hR ⊢
    refine (l0_of x0 x1 x2 x3 0 r _ c2_val _ _ _ _ ?_ ?_ ?_ ?_).trans hv.symm
    · intro j e
      unfold kernelRun0_A.sl.r_6
      simp only [View.readAt_eq_ld, Memref.IsWhole.read_unread]
      pointwise [k0_pay35]
    · intro j e
      pointwise
    · intro a e
      refine Eq.trans ?_ (hQ 0 a e)
      pointwise
    · intro a e
      refine Eq.trans ?_ (hR 0 a e)
      pointwise

/-- The weighted sum of the new tokens' latents the first point stores. -/
theorem start_a (c : Dev nD) (arg3 : Memref sig .tc .vmem S1x3x128x256 .bf16) (harg3 : arg3.IsWhole) (arg4 : Memref sig .tc .vmem S1x3x64x128 .bf16) (harg4 : arg4.IsWhole) (arg5 : Memref sig .tc .vmem S1x4x16x256 .bf16) (harg5 : arg5.IsWhole) (arg6 : Memref sig .tc .vmem S1x16x64 .bf16) (harg6 : arg6.IsWhole) (arg13 : Memref sig .tc .vmem S4x96x256 .bf16) (arg14 : Memref sig .tc .vmem S4x96x64 .bf16) (x0 : Vec Ideal S1x3x128x256 .bf16) (x1 : Vec Ideal S1x3x64x128 .bf16) (x2 : Vec Ideal S1x4x16x256 .bf16) (x3 : Vec Ideal S1x16x64 .bf16) (l : Fin 4) (r : Fin 96) (d : Fin 256) :
    View.canon (kernelRun0_A.sl.HS2_5 (F := Ideal) c arg3 harg3 arg4 harg4 arg5 harg5 arg6 harg6 arg13 arg14 x0 x1 x2 x3) (ix3 l r d)
      = ∑ j : Fin 16, wt (ns x0 x1 x2 x3 l r j) (Finset.univ.sup (ns x0 x1 x2 x3 l r)) * (x2 (ix4 0 l j (perm d)) : EReal) := by
  obtain ⟨v, hv⟩ : ∃ v : EReal, v = ∑ j : Fin 16, wt (ns x0 x1 x2 x3 l r j) (Finset.univ.sup (ns x0 x1 x2 x3 l r)) * (x2 (ix4 0 l j (perm d)) : EReal) := ⟨_, rfl⟩
  rw [← hv]
  have hQ := start_q c arg3 harg3 x0
  have hR := start_qr c arg4 harg4 x1
  unfold kernelRun0_A.sl.HS2_5
  generalize hY : (ix3 l r d : S4x96x256.Idx) = Y
  have hY0 : (Y 0).val = l.val := by rw [← hY]; rfl
  have hY1 : (Y 1).val = r.val := by rw [← hY]; rfl
  have hY2 : (Y 2).val = d.val := by rw [← hY]; rfl
  clear hY
  refine (canon_append_of_cover [_] [_, _, _, _] Y (View.cover_of_tiled_head _ _ _ rfl Y)).trans ?_
  canon_tiles y hy
  case piece0 =>
    obtain rfl : l = 3 := lat_eq (k := 3) l 3 (y 0) (y 0).isLt (by rw [← hY0, hy0]) rfl
    obtain rfl := idx_A y r d (by rw [← hY1, hy1]) (by rw [← hY2, hy2])
    refine Eq.trans (show _ = k0_pay56 (F := Ideal) (k0_pay49 (F := Ideal) pm _) (k0_pay52 (F := Ideal) _ pm _ okm _ _ _) (ix3 0 r d) from rfl) ?_
    simp only [kernelRun0_A.sl.v300, kernelRun0_A.sl.v721, kernelRun0_A.sl.v366, kernelRun0_A.sl.v680, kernelRun0_A.sl.v297, kernelRun0_A.sl.v677, kernelRun0_A.sl.v267, kernelRun0_A.sl.v264, kernelRun0_A.sl.v633, kernelRun0_A.sl.v636, kernelRun0_A.sl.v363, kernelRun0_A.sl.v724, kernelRun0_A.sl.v768, kernelRun0_A.sl.v765, kernelRun0_A.sl.v333, kernelRun0_A.sl.v330, readCov_ld, View.readAt_eq_ld, Memref.IsWhole.read_unread]
    generalize View.canon (kernelRun0_A.sl.HS0_4 (F := Ideal) c arg3 harg3 x0) = Q at hQ ⊢
    generalize View.canon (kernelRun0_A.sl.HS1_12 (F := Ideal) c arg4 harg4 x1) = R at hR ⊢
    refine (a0_of x0 x1 x2 x3 3 r d _ c2_val _ _ _ _ ?_ ?_ ?_ ?_).trans hv.symm
    · intro j e
      unfold kernelRun0_A.sl.r_6
      simp only [View.readAt_eq_ld, Memref.IsWhole.read_unread]
      pointwise [k0_pay35]
    · intro j e
      pointwise
    · intro a e
      refine Eq.trans ?_ (hQ 3 a e)
      pointwise
    · intro a e
      refine Eq.trans ?_ (hR 3 a e)
      pointwise
  case piece1 =>
    obtain rfl : l = 2 := lat_eq (k := 2) l 2 (y 0) (y 0).isLt (by rw [← hY0, hy0]) rfl
    obtain rfl := idx_A y r d (by rw [← hY1, hy1]) (by rw [← hY2, hy2])
    refine Eq.trans (show _ = k0_pay56 (F := Ideal) (k0_pay49 (F := Ideal) pm _) (k0_pay52 (F := Ideal) _ pm _ okm _ _ _) (ix3 0 r d) from rfl) ?_
    simp only [kernelRun0_A.sl.v300, kernelRun0_A.sl.v721, kernelRun0_A.sl.v366, kernelRun0_A.sl.v680, kernelRun0_A.sl.v297, kernelRun0_A.sl.v677, kernelRun0_A.sl.v267, kernelRun0_A.sl.v264, kernelRun0_A.sl.v633, kernelRun0_A.sl.v636, kernelRun0_A.sl.v363, kernelRun0_A.sl.v724, kernelRun0_A.sl.v768, kernelRun0_A.sl.v765, kernelRun0_A.sl.v333, kernelRun0_A.sl.v330, readCov_ld, View.readAt_eq_ld, Memref.IsWhole.read_unread]
    generalize View.canon (kernelRun0_A.sl.HS0_4 (F := Ideal) c arg3 harg3 x0) = Q at hQ ⊢
    generalize View.canon (kernelRun0_A.sl.HS1_12 (F := Ideal) c arg4 harg4 x1) = R at hR ⊢
    refine (a0_of x0 x1 x2 x3 2 r d _ c2_val _ _ _ _ ?_ ?_ ?_ ?_).trans hv.symm
    · intro j e
      unfold kernelRun0_A.sl.r_6
      simp only [View.readAt_eq_ld, Memref.IsWhole.read_unread]
      pointwise [k0_pay35]
    · intro j e
      pointwise
    · intro a e
      refine Eq.trans ?_ (hQ 2 a e)
      pointwise
    · intro a e
      refine Eq.trans ?_ (hR 2 a e)
      pointwise
  case piece2 =>
    obtain rfl : l = 1 := lat_eq (k := 1) l 1 (y 0) (y 0).isLt (by rw [← hY0, hy0]) rfl
    obtain rfl := idx_A y r d (by rw [← hY1, hy1]) (by rw [← hY2, hy2])
    refine Eq.trans (show _ = k0_pay56 (F := Ideal) (k0_pay49 (F := Ideal) pm _) (k0_pay52 (F := Ideal) _ pm _ okm _ _ _) (ix3 0 r d) from rfl) ?_
    simp only [kernelRun0_A.sl.v300, kernelRun0_A.sl.v721, kernelRun0_A.sl.v366, kernelRun0_A.sl.v680, kernelRun0_A.sl.v297, kernelRun0_A.sl.v677, kernelRun0_A.sl.v267, kernelRun0_A.sl.v264, kernelRun0_A.sl.v633, kernelRun0_A.sl.v636, kernelRun0_A.sl.v363, kernelRun0_A.sl.v724, kernelRun0_A.sl.v768, kernelRun0_A.sl.v765, kernelRun0_A.sl.v333, kernelRun0_A.sl.v330, readCov_ld, View.readAt_eq_ld, Memref.IsWhole.read_unread]
    generalize View.canon (kernelRun0_A.sl.HS0_4 (F := Ideal) c arg3 harg3 x0) = Q at hQ ⊢
    generalize View.canon (kernelRun0_A.sl.HS1_12 (F := Ideal) c arg4 harg4 x1) = R at hR ⊢
    refine (a0_of x0 x1 x2 x3 1 r d _ c2_val _ _ _ _ ?_ ?_ ?_ ?_).trans hv.symm
    · intro j e
      unfold kernelRun0_A.sl.r_6
      simp only [View.readAt_eq_ld, Memref.IsWhole.read_unread]
      pointwise [k0_pay35]
    · intro j e
      pointwise
    · intro a e
      refine Eq.trans ?_ (hQ 1 a e)
      pointwise
    · intro a e
      refine Eq.trans ?_ (hR 1 a e)
      pointwise
  case piece3 =>
    obtain rfl : l = 0 := lat_eq (k := 0) l 0 (y 0) (y 0).isLt (by rw [← hY0, hy0]; exact (Nat.zero_add _).symm) rfl
    obtain rfl := idx_A y r d (by rw [← hY1, hy1]) (by rw [← hY2, hy2])
    refine Eq.trans (show _ = k0_pay56 (F := Ideal) (k0_pay49 (F := Ideal) pm _) (k0_pay52 (F := Ideal) _ pm _ okm _ _ _) (ix3 0 r d) from rfl) ?_
    simp only [kernelRun0_A.sl.v300, kernelRun0_A.sl.v721, kernelRun0_A.sl.v366, kernelRun0_A.sl.v680, kernelRun0_A.sl.v297, kernelRun0_A.sl.v677, kernelRun0_A.sl.v267, kernelRun0_A.sl.v264, kernelRun0_A.sl.v633, kernelRun0_A.sl.v636, kernelRun0_A.sl.v363, kernelRun0_A.sl.v724, kernelRun0_A.sl.v768, kernelRun0_A.sl.v765, kernelRun0_A.sl.v333, kernelRun0_A.sl.v330, readCov_ld, View.readAt_eq_ld, Memref.IsWhole.read_unread]
    generalize View.canon (kernelRun0_A.sl.HS0_4 (F := Ideal) c arg3 harg3 x0) = Q at hQ ⊢
    generalize View.canon (kernelRun0_A.sl.HS1_12 (F := Ideal) c arg4 harg4 x1) = R at hR ⊢
    refine (a0_of x0 x1 x2 x3 0 r d _ c2_val _ _ _ _ ?_ ?_ ?_ ?_).trans hv.symm
    · intro j e
      unfold kernelRun0_A.sl.r_6
      simp only [View.readAt_eq_ld, Memref.IsWhole.read_unread]
      pointwise [k0_pay35]
    · intro j e
      pointwise
    · intro a e
      refine Eq.trans ?_ (hQ 0 a e)
      pointwise
    · intro a e
      refine Eq.trans ?_ (hR 0 a e)
      pointwise

end Cert.KernelIdeal.Value
end
end
-- ==== Proof.StartB.lean ====
/-
  What the first point of a run leaves in the scratch it does not carry over the block: the permuted and the rotary queries,
  and, when its block holds no key to read, the new tokens' maximum, sum of weights and weighted sum.
-/
module

public import proofs.«01_k».proof.Proof.Start
public import proofs.«01_k».proof.Proof.Gen.KernelIdeal.Frame

@[expose] public section

set_option maxRecDepth 16384

noncomputable section

open Idealize.ShloMosaic Idealize.ShloMosaic.TcCoe Idealize.SL.Sem Cert.Online
namespace Cert.KernelIdeal.Value
open Cert.KernelIdeal Cert.KernelIdeal.Gen

/-- At the first point of a run, with keys to read: the permuted queries. -/
theorem initQ_A (c : Dev nD) (i : grid0.Coords) (arg3 : Memref sig .tc .vmem S1x3x128x256 .bf16) (harg3 : arg3.IsWhole) (arg4 : Memref sig .tc .vmem S1x3x64x128 .bf16) (harg4 : arg4.IsWhole) (arg5 : Memref sig .tc .vmem S1x4x16x256 .bf16) (harg5 : arg5.IsWhole) (arg6 : Memref sig .tc .vmem S1x16x64 .bf16) (harg6 : arg6.IsWhole) (arg7 : Memref sig .tc .vmem S1x512x4x128 .fp8e4m3) (harg7 : arg7.IsWhole) (arg8 : Memref sig .tc .vmem S1x512x4x128 .fp8e4m3) (harg8 : arg8.IsWhole) (arg9 : Memref sig .tc .vmem S1x4x8x512 .i8) (harg9 : arg9.IsWhole) (arg10 : Memref sig .tc .vmem S1x64x512 .bf16) (harg10 : arg10.IsWhole) (arg11 : Memref sig .tc .vmem S1x3x128x256 .bf16) (harg11 : arg11.IsWhole) (arg12 : Memref sig .tc .vmem S1x3x128x1 .f32) (harg12 : arg12.IsWhole) (arg13 : Memref sig .tc .vmem S4x96x256 .bf16) (harg13 : arg13.IsWhole) (arg14 : Memref sig .tc .vmem S4x96x64 .bf16) (harg14 : arg14.IsWhole) (arg15 : Memref sig .tc .vmem S4x96x256 .f32) (harg15 : arg15.IsWhole) (arg16 : Memref sig .tc .vmem S4x96x1 .f32) (harg16 : arg16.IsWhole) (arg17 : Memref sig .tc .vmem S4x96x1 .f32) (harg17 : arg17.IsWhole) (hc0 : cond0_0 i) (hc2 : ¬cond0_2 i)
    (x0 : Vec Ideal S1x3x128x256 .bf16) (x1 : Vec Ideal S1x3x64x128 .bf16) (x2 : Vec Ideal S1x4x16x256 .bf16) (x3 : Vec Ideal S1x16x64 .bf16) (x4 : Vec Ideal S1x512x4x128 .fp8e4m3) (x5 : Vec Ideal S1x512x4x128 .fp8e4m3) (x6 : Vec Ideal S1x4x8x512 .i8) (x7 : Vec Ideal S1x64x512 .bf16) (xt0 : TbBuf0 (F := Ideal) c tbM0_0) (hc1 : cond0_1 i (tbM0_0.view.readAt (Elt Ideal) (Rect.unit (s := S12) (k0_off1 i) S1.size (k0_off1_inb i)).toLoadRect xt0 (Shape.Idx.first (numel1_S1.symm ▸ Nat.one_pos)))) (l : Fin 4) (r : Fin 96) (d : Fin 256) :
    sout0_A_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1 (ix3 l r d) = qI x0 l r d := by
  refine Eq.trans ?_ (start_q c arg3 harg3 x0 l r d)
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1)]
  rfl

/-- At the first point of a run, with keys to read: the rotary queries. -/
theorem initR_A (c : Dev nD) (i : grid0.Coords) (arg3 : Memref sig .tc .vmem S1x3x128x256 .bf16) (harg3 : arg3.IsWhole) (arg4 : Memref sig .tc .vmem S1x3x64x128 .bf16) (harg4 : arg4.IsWhole) (arg5 : Memref sig .tc .vmem S1x4x16x256 .bf16) (harg5 : arg5.IsWhole) (arg6 : Memref sig .tc .vmem S1x16x64 .bf16) (harg6 : arg6.IsWhole) (arg7 : Memref sig .tc .vmem S1x512x4x128 .fp8e4m3) (harg7 : arg7.IsWhole) (arg8 : Memref sig .tc .vmem S1x512x4x128 .fp8e4m3) (harg8 : arg8.IsWhole) (arg9 : Memref sig .tc .vmem S1x4x8x512 .i8) (harg9 : arg9.IsWhole) (arg10 : Memref sig .tc .vmem S1x64x512 .bf16) (harg10 : arg10.IsWhole) (arg11 : Memref sig .tc .vmem S1x3x128x256 .bf16) (harg11 : arg11.IsWhole) (arg12 : Memref sig .tc .vmem S1x3x128x1 .f32) (harg12 : arg12.IsWhole) (arg13 : Memref sig .tc .vmem S4x96x256 .bf16) (harg13 : arg13.IsWhole) (arg14 : Memref sig .tc .vmem S4x96x64 .bf16) (harg14 : arg14.IsWhole) (arg15 : Memref sig .tc .vmem S4x96x256 .f32) (harg15 : arg15.IsWhole) (arg16 : Memref sig .tc .vmem S4x96x1 .f32) (harg16 : arg16.IsWhole) (arg17 : Memref sig .tc .vmem S4x96x1 .f32) (harg17 : arg17.IsWhole) (hc0 : cond0_0 i) (hc2 : ¬cond0_2 i)
    (x0 : Vec Ideal S1x3x128x256 .bf16) (x1 : Vec Ideal S1x3x64x128 .bf16) (x2 : Vec Ideal S1x4x16x256 .bf16) (x3 : Vec Ideal S1x16x64 .bf16) (x4 : Vec Ideal S1x512x4x128 .fp8e4m3) (x5 : Vec Ideal S1x512x4x128 .fp8e4m3) (x6 : Vec Ideal S1x4x8x512 .i8) (x7 : Vec Ideal S1x64x512 .bf16) (xt0 : TbBuf0 (F := Ideal) c tbM0_0) (hc1 : cond0_1 i (tbM0_0.view.readAt (Elt Ideal) (Rect.unit (s := S12) (k0_off1 i) S1.size (k0_off1_inb i)).toLoadRect xt0 (Shape.Idx.first (numel1_S1.symm ▸ Nat.one_pos)))) (l : Fin 4) (r : Fin 96) (d : Fin 64) :
    sout0_A_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1 (ix3 l r d) = qrI x1 l r d := by
  refine Eq.trans ?_ (start_qr c arg4 harg4 x1 l r d)
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1)]
  rfl

/-- At the first point of a run, with no keys to read: the permuted queries. -/
theorem initQ_B (c : Dev nD) (i : grid0.Coords) (arg3 : Memref sig .tc .vmem S1x3x128x256 .bf16) (harg3 : arg3.IsWhole) (arg4 : Memref sig .tc .vmem S1x3x64x128 .bf16) (harg4 : arg4.IsWhole) (arg5 : Memref sig .tc .vmem S1x4x16x256 .bf16) (harg5 : arg5.IsWhole) (arg6 : Memref sig .tc .vmem S1x16x64 .bf16) (harg6 : arg6.IsWhole) (arg7 : Memref sig .tc .vmem S1x512x4x128 .fp8e4m3) (harg7 : arg7.IsWhole) (arg8 : Memref sig .tc .vmem S1x512x4x128 .fp8e4m3) (harg8 : arg8.IsWhole) (arg9 : Memref sig .tc .vmem S1x4x8x512 .i8) (harg9 : arg9.IsWhole) (arg10 : Memref sig .tc .vmem S1x64x512 .bf16) (harg10 : arg10.IsWhole) (arg11 : Memref sig .tc .vmem S1x3x128x256 .bf16) (harg11 : arg11.IsWhole) (arg12 : Memref sig .tc .vmem S1x3x128x1 .f32) (harg12 : arg12.IsWhole) (arg13 : Memref sig .tc .vmem S4x96x256 .bf16) (harg13 : arg13.IsWhole) (arg14 : Memref sig .tc .vmem S4x96x64 .bf16) (harg14 : arg14.IsWhole) (arg15 : Memref sig .tc .vmem S4x96x256 .f32) (harg15 : arg15.IsWhole) (arg16 : Memref sig .tc .vmem S4x96x1 .f32) (harg16 : arg16.IsWhole) (arg17 : Memref sig .tc .vmem S4x96x1 .f32) (harg17 : arg17.IsWhole) (hc0 : cond0_0 i) (hc2 : ¬cond0_2 i)
    (x0 : Vec Ideal S1x3x128x256 .bf16) (x1 : Vec Ideal S1x3x64x128 .bf16) (x2 : Vec Ideal S1x4x16x256 .bf16) (x3 : Vec Ideal S1x16x64 .bf16) (x4 : Vec Ideal S1x512x4x128 .fp8e4m3) (x5 : Vec Ideal S1x512x4x128 .fp8e4m3) (x6 : Vec Ideal S1x4x8x512 .i8) (x7 : Vec Ideal S1x64x512 .bf16) (xt0 : TbBuf0 (F := Ideal) c tbM0_0) (hc1 : ¬cond0_1 i (tbM0_0.view.readAt (Elt Ideal) (Rect.unit (s := S12) (k0_off1 i) S1.size (k0_off1_inb i)).toLoadRect xt0 (Shape.Idx.first (numel1_S1.symm ▸ Nat.one_pos)))) (l : Fin 4) (r : Fin 96) (d : Fin 256) :
    sout0_B_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1 (ix3 l r d) = qI x0 l r d := by
  refine Eq.trans ?_ (start_q c arg3 harg3 x0 l r d)
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1)]
  rfl

/-- At the first point of a run, with no keys to read: the rotary queries. -/
theorem initR_B (c : Dev nD) (i : grid0.Coords) (arg3 : Memref sig .tc .vmem S1x3x128x256 .bf16) (harg3 : arg3.IsWhole) (arg4 : Memref sig .tc .vmem S1x3x64x128 .bf16) (harg4 : arg4.IsWhole) (arg5 : Memref sig .tc .vmem S1x4x16x256 .bf16) (harg5 : arg5.IsWhole) (arg6 : Memref sig .tc .vmem S1x16x64 .bf16) (harg6 : arg6.IsWhole) (arg7 : Memref sig .tc .vmem S1x512x4x128 .fp8e4m3) (harg7 : arg7.IsWhole) (arg8 : Memref sig .tc .vmem S1x512x4x128 .fp8e4m3) (harg8 : arg8.IsWhole) (arg9 : Memref sig .tc .vmem S1x4x8x512 .i8) (harg9 : arg9.IsWhole) (arg10 : Memref sig .tc .vmem S1x64x512 .bf16) (harg10 : arg10.IsWhole) (arg11 : Memref sig .tc .vmem S1x3x128x256 .bf16) (harg11 : arg11.IsWhole) (arg12 : Memref sig .tc .vmem S1x3x128x1 .f32) (harg12 : arg12.IsWhole) (arg13 : Memref sig .tc .vmem S4x96x256 .bf16) (harg13 : arg13.IsWhole) (arg14 : Memref sig .tc .vmem S4x96x64 .bf16) (harg14 : arg14.IsWhole) (arg15 : Memref sig .tc .vmem S4x96x256 .f32) (harg15 : arg15.IsWhole) (arg16 : Memref sig .tc .vmem S4x96x1 .f32) (harg16 : arg16.IsWhole) (arg17 : Memref sig .tc .vmem S4x96x1 .f32) (harg17 : arg17.IsWhole) (hc0 : cond0_0 i) (hc2 : ¬cond0_2 i)
    (x0 : Vec Ideal S1x3x128x256 .bf16) (x1 : Vec Ideal S1x3x64x128 .bf16) (x2 : Vec Ideal S1x4x16x256 .bf16) (x3 : Vec Ideal S1x16x64 .bf16) (x4 : Vec Ideal S1x512x4x128 .fp8e4m3) (x5 : Vec Ideal S1x512x4x128 .fp8e4m3) (x6 : Vec Ideal S1x4x8x512 .i8) (x7 : Vec Ideal S1x64x512 .bf16) (xt0 : TbBuf0 (F := Ideal) c tbM0_0) (hc1 : ¬cond0_1 i (tbM0_0.view.readAt (Elt Ideal) (Rect.unit (s := S12) (k0_off1 i) S1.size (k0_off1_inb i)).toLoadRect xt0 (Shape.Idx.first (numel1_S1.symm ▸ Nat.one_pos)))) (l : Fin 4) (r : Fin 96) (d : Fin 64) :
    sout0_B_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1 (ix3 l r d) = qrI x1 l r d := by
  refine Eq.trans ?_ (start_qr c arg4 harg4 x1 l r d)
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1)]
  rfl

/-- At the first point of a run, with no keys to read: the new tokens' maximum. -/
theorem initM_B (c : Dev nD) (i : grid0.Coords) (arg3 : Memref sig .tc .vmem S1x3x128x256 .bf16) (harg3 : arg3.IsWhole) (arg4 : Memref sig .tc .vmem S1x3x64x128 .bf16) (harg4 : arg4.IsWhole) (arg5 : Memref sig .tc .vmem S1x4x16x256 .bf16) (harg5 : arg5.IsWhole) (arg6 : Memref sig .tc .vmem S1x16x64 .bf16) (harg6 : arg6.IsWhole) (arg7 : Memref sig .tc .vmem S1x512x4x128 .fp8e4m3) (harg7 : arg7.IsWhole) (arg8 : Memref sig .tc .vmem S1x512x4x128 .fp8e4m3) (harg8 : arg8.IsWhole) (arg9 : Memref sig .tc .vmem S1x4x8x512 .i8) (harg9 : arg9.IsWhole) (arg10 : Memref sig .tc .vmem S1x64x512 .bf16) (harg10 : arg10.IsWhole) (arg11 : Memref sig .tc .vmem S1x3x128x256 .bf16) (harg11 : arg11.IsWhole) (arg12 : Memref sig .tc .vmem S1x3x128x1 .f32) (harg12 : arg12.IsWhole) (arg13 : Memref sig .tc .vmem S4x96x256 .bf16) (harg13 : arg13.IsWhole) (arg14 : Memref sig .tc .vmem S4x96x64 .bf16) (harg14 : arg14.IsWhole) (arg15 : Memref sig .tc .vmem S4x96x256 .f32) (harg15 : arg15.IsWhole) (arg16 : Memref sig .tc .vmem S4x96x1 .f32) (harg16 : arg16.IsWhole) (arg17 : Memref sig .tc .vmem S4x96x1 .f32) (harg17 : arg17.IsWhole) (hc0 : cond0_0 i) (hc2 : ¬cond0_2 i)
    (x0 : Vec Ideal S1x3x128x256 .bf16) (x1 : Vec Ideal S1x3x64x128 .bf16) (x2 : Vec Ideal S1x4x16x256 .bf16) (x3 : Vec Ideal S1x16x64 .bf16) (x4 : Vec Ideal S1x512x4x128 .fp8e4m3) (x5 : Vec Ideal S1x512x4x128 .fp8e4m3) (x6 : Vec Ideal S1x4x8x512 .i8) (x7 : Vec Ideal S1x64x512 .bf16) (xt0 : TbBuf0 (F := Ideal) c tbM0_0) (hc1 : ¬cond0_1 i (tbM0_0.view.readAt (Elt Ideal) (Rect.unit (s := S12) (k0_off1 i) S1.size (k0_off1_inb i)).toLoadRect xt0 (Shape.Idx.first (numel1_S1.symm ▸ Nat.one_pos)))) (l : Fin 4) (r : Fin 96)  :
    sout0_B_3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1 (ix3 l r 0) = Finset.univ.sup (ns x0 x1 x2 x3 l r) := by
  refine Eq.trans ?_ (start_m c arg3 harg3 arg4 harg4 arg5 harg5 arg6 harg6 arg13 arg14 x0 x1 x2 x3 l r)
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1)]
  rfl

/-- At the first point of a run, with no keys to read: the new tokens' sum of weights. -/
theorem initL_B (c : Dev nD) (i : grid0.Coords) (arg3 : Memref sig .tc .vmem S1x3x128x256 .bf16) (harg3 : arg3.IsWhole) (arg4 : Memref sig .tc .vmem S1x3x64x128 .bf16) (harg4 : arg4.IsWhole) (arg5 : Memref sig .tc .vmem S1x4x16x256 .bf16) (harg5 : arg5.IsWhole) (arg6 : Memref sig .tc .vmem S1x16x64 .bf16) (harg6 : arg6.IsWhole) (arg7 : Memref sig .tc .vmem S1x512x4x128 .fp8e4m3) (harg7 : arg7.IsWhole) (arg8 : Memref sig .tc .vmem S1x512x4x128 .fp8e4m3) (harg8 : arg8.IsWhole) (arg9 : Memref sig .tc .vmem S1x4x8x512 .i8) (harg9 : arg9.IsWhole) (arg10 : Memref sig .tc .vmem S1x64x512 .bf16) (harg10 : arg10.IsWhole) (arg11 : Memref sig .tc .vmem S1x3x128x256 .bf16) (harg11 : arg11.IsWhole) (arg12 : Memref sig .tc .vmem S1x3x128x1 .f32) (harg12 : arg12.IsWhole) (arg13 : Memref sig .tc .vmem S4x96x256 .bf16) (harg13 : arg13.IsWhole) (arg14 : Memref sig .tc .vmem S4x96x64 .bf16) (harg14 : arg14.IsWhole) (arg15 : Memref sig .tc .vmem S4x96x256 .f32) (harg15 : arg15.IsWhole) (arg16 : Memref sig .tc .vmem S4x96x1 .f32) (harg16 : arg16.IsWhole) (arg17 : Memref sig .tc .vmem S4x96x1 .f32) (harg17 : arg17.IsWhole) (hc0 : cond0_0 i) (hc2 : ¬cond0_2 i)
    (x0 : Vec Ideal S1x3x128x256 .bf16) (x1 : Vec Ideal S1x3x64x128 .bf16) (x2 : Vec Ideal S1x4x16x256 .bf16) (x3 : Vec Ideal S1x16x64 .bf16) (x4 : Vec Ideal S1x512x4x128 .fp8e4m3) (x5 : Vec Ideal S1x512x4x128 .fp8e4m3) (x6 : Vec Ideal S1x4x8x512 .i8) (x7 : Vec Ideal S1x64x512 .bf16) (xt0 : TbBuf0 (F := Ideal) c tbM0_0) (hc1 : ¬cond0_1 i (tbM0_0.view.readAt (Elt Ideal) (Rect.unit (s := S12) (k0_off1 i) S1.size (k0_off1_inb i)).toLoadRect xt0 (Shape.Idx.first (numel1_S1.symm ▸ Nat.one_pos)))) (l : Fin 4) (r : Fin 96)  :
    sout0_B_4 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1 (ix3 l r 0) = ∑ j : Fin 16, wt (ns x0 x1 x2 x3 l r j) (Finset.univ.sup (ns x0 x1 x2 x3 l r)) := by
  refine Eq.trans ?_ (start_l c arg3 harg3 arg4 harg4 arg5 harg5 arg6 harg6 arg13 arg14 x0 x1 x2 x3 l r)
  unfold sout0_B_4
  rw [View.read_writes_eq_canon _ _ _ (scover0_B_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1)]
  rfl

/-- At the first point of a run, with no keys to read: the new tokens' weighted sum. -/
theorem initA_B (c : Dev nD) (i : grid0.Coords) (arg3 : Memref sig .tc .vmem S1x3x128x256 .bf16) (harg3 : arg3.IsWhole) (arg4 : Memref sig .tc .vmem S1x3x64x128 .bf16) (harg4 : arg4.IsWhole) (arg5 : Memref sig .tc .vmem S1x4x16x256 .bf16) (harg5 : arg5.IsWhole) (arg6 : Memref sig .tc .vmem S1x16x64 .bf16) (harg6 : arg6.IsWhole) (arg7 : Memref sig .tc .vmem S1x512x4x128 .fp8e4m3) (harg7 : arg7.IsWhole) (arg8 : Memref sig .tc .vmem S1x512x4x128 .fp8e4m3) (harg8 : arg8.IsWhole) (arg9 : Memref sig .tc .vmem S1x4x8x512 .i8) (harg9 : arg9.IsWhole) (arg10 : Memref sig .tc .vmem S1x64x512 .bf16) (harg10 : arg10.IsWhole) (arg11 : Memref sig .tc .vmem S1x3x128x256 .bf16) (harg11 : arg11.IsWhole) (arg12 : Memref sig .tc .vmem S1x3x128x1 .f32) (harg12 : arg12.IsWhole) (arg13 : Memref sig .tc .vmem S4x96x256 .bf16) (harg13 : arg13.IsWhole) (arg14 : Memref sig .tc .vmem S4x96x64 .bf16) (harg14 : arg14.IsWhole) (arg15 : Memref sig .tc .vmem S4x96x256 .f32) (harg15 : arg15.IsWhole) (arg16 : Memref sig .tc .vmem S4x96x1 .f32) (harg16 : arg16.IsWhole) (arg17 : Memref sig .tc .vmem S4x96x1 .f32) (harg17 : arg17.IsWhole) (hc0 : cond0_0 i) (hc2 : ¬cond0_2 i)
    (x0 : Vec Ideal S1x3x128x256 .bf16) (x1 : Vec Ideal S1x3x64x128 .bf16) (x2 : Vec Ideal S1x4x16x256 .bf16) (x3 : Vec Ideal S1x16x64 .bf16) (x4 : Vec Ideal S1x512x4x128 .fp8e4m3) (x5 : Vec Ideal S1x512x4x128 .fp8e4m3) (x6 : Vec Ideal S1x4x8x512 .i8) (x7 : Vec Ideal S1x64x512 .bf16) (xt0 : TbBuf0 (F := Ideal) c tbM0_0) (hc1 : ¬cond0_1 i (tbM0_0.view.readAt (Elt Ideal) (Rect.unit (s := S12) (k0_off1 i) S1.size (k0_off1_inb i)).toLoadRect xt0 (Shape.Idx.first (numel1_S1.symm ▸ Nat.one_pos)))) (l : Fin 4) (r : Fin 96) (d : Fin 256) :
    sout0_B_2 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1 (ix3 l r d) = ∑ j : Fin 16, wt (ns x0 x1 x2 x3 l r j) (Finset.univ.sup (ns x0 x1 x2 x3 l r)) * (x2 (ix4 0 l j (perm d)) : EReal) := by
  refine Eq.trans ?_ (start_a c arg3 harg3 arg4 harg4 arg5 harg5 arg6 harg6 arg13 arg14 x0 x1 x2 x3 l r d)
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1)]
  rfl

end Cert.KernelIdeal.Value
end
end
-- ==== Proof.StepA.lean ====
/-
  What the first point of a run leaves in the state when its block holds keys to read: the new tokens' maximum, sum of
  weights and weighted sum, carried over the block.
-/
module

public import Idealize.ShloMosaic.Lib.Pipeline.ReadBack
public import proofs.«01_k».proof.Proof.Start
public import proofs.«01_k».proof.Proof.Gen.KernelIdeal.Frame

@[expose] public section

set_option maxRecDepth 16384

noncomputable section

open Idealize.ShloMosaic Idealize.ShloMosaic.TcCoe Idealize.SL.Sem Cert.Online
namespace Cert.KernelIdeal.Value
open Cert.KernelIdeal Cert.KernelIdeal.Gen

/-- At the first point of a run, with keys to read: the new maximum of latent `l`, row `r`, over the new tokens and the block. -/
theorem stepM_A (c : Dev nD) (i : grid0.Coords) (arg3 : Memref sig .tc .vmem S1x3x128x256 .bf16) (harg3 : arg3.IsWhole) (arg4 : Memref sig .tc .vmem S1x3x64x128 .bf16) (harg4 : arg4.IsWhole) (arg5 : Memref sig .tc .vmem S1x4x16x256 .bf16) (harg5 : arg5.IsWhole) (arg6 : Memref sig .tc .vmem S1x16x64 .bf16) (harg6 : arg6.IsWhole) (arg7 : Memref sig .tc .vmem S1x512x4x128 .fp8e4m3) (harg7 : arg7.IsWhole) (arg8 : Memref sig .tc .vmem S1x512x4x128 .fp8e4m3) (harg8 : arg8.IsWhole) (arg9 : Memref sig .tc .vmem S1x4x8x512 .i8) (harg9 : arg9.IsWhole) (arg10 : Memref sig .tc .vmem S1x64x512 .bf16) (harg10 : arg10.IsWhole) (arg11 : Memref sig .tc .vmem S1x3x128x256 .bf16) (harg11 : arg11.IsWhole) (arg12 : Memref sig .tc .vmem S1x3x128x1 .f32) (harg12 : arg12.IsWhole) (arg13 : Memref sig .tc .vmem S4x96x256 .bf16) (harg13 : arg13.IsWhole) (arg14 : Memref sig .tc .vmem S4x96x64 .bf16) (harg14 : arg14.IsWhole) (arg15 : Memref sig .tc .vmem S4x96x256 .f32) (harg15 : arg15.IsWhole) (arg16 : Memref sig .tc .vmem S4x96x1 .f32) (harg16 : arg16.IsWhole) (arg17 : Memref sig .tc .vmem S4x96x1 .f32) (harg17 : arg17.IsWhole) (hc0 : cond0_0 i) (hc2 : ¬cond0_2 i)
    (x0 : Vec Ideal S1x3x128x256 .bf16) (x1 : Vec Ideal S1x3x64x128 .bf16) (x2 : Vec Ideal S1x4x16x256 .bf16) (x3 : Vec Ideal S1x16x64 .bf16) (x4 : Vec Ideal S1x512x4x128 .fp8e4m3) (x5 : Vec Ideal S1x512x4x128 .fp8e4m3) (x6 : Vec Ideal S1x4x8x512 .i8) (x7 : Vec Ideal S1x64x512 .bf16) (xt0 : TbBuf0 (F := Ideal) c tbM0_0) (hc1 : cond0_1 i (tbM0_0.view.readAt (Elt Ideal) (Rect.unit (s := S12) (k0_off1 i) S1.size (k0_off1_inb i)).toLoadRect xt0 (Shape.Idx.first (numel1_S1.symm ▸ Nat.one_pos)))) (n : BitVec 32)
    (hn : (tbM0_0.view.readAt (Elt Ideal) (Rect.unit (s := S12) (k0_off1 i) S1.size (k0_off1_inb i)).toLoadRect xt0 (Shape.Idx.first (numel1_S1.symm ▸ Nat.one_pos))) = n)
    (qp : Vec Ideal S4x96x256 .bf16) (hq : ∀ l i d, qp (ix3 l i d) = qI x0 l i d)
    (qrp : Vec Ideal S4x96x64 .bf16) (hqr : ∀ l i d, qrp (ix3 l i d) = qrI x1 l i d) (l : Fin 4) (r : Fin 96) :
    sout0_A_3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1 (ix3 l r 0)
      = (max (Finset.univ.sup (ns x0 x1 x2 x3 l r)) (Finset.univ.sup (score x4 x5 x6 x7 n qp qrp (i 1).val l r))) := by
  obtain ⟨v, hv⟩ : ∃ v : EReal, v = (max (Finset.univ.sup (ns x0 x1 x2 x3 l r)) (Finset.univ.sup (score x4 x5 x6 x7 n qp qrp (i 1).val l r))) := ⟨_, rfl⟩
  rw [← hv]
  have hQ := start_q c arg3 harg3 x0
  have hR := start_qr c arg4 harg4 x1
  have hM := start_m c arg3 harg3 arg4 harg4 arg5 harg5 arg6 harg6 arg13 arg14 x0 x1 x2 x3 l r
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1)]
  unfold kernelRun0_A
  dsimp only
  unfold kernelRun0_A.sl.HS3_8 kernelRun0_A.sl.HS3_7 kernelRun0_A.sl.HS3_6
  generalize hY : (ix3 l r 0 : S4x96x1.Idx) = Y
  have hY0 : (Y 0).val = l.val := by rw [← hY]; rfl
  have hY1 : (Y 1).val = r.val := by rw [← hY]; rfl
  clear hY
  refine (canon_append_of_cover (kernelRun0_A.sl.HS3_5 (F := Ideal) c arg3 harg3 arg4 harg4 arg5 harg5 arg6 harg6 arg13 arg14 x0 x1 x2 x3) [_, _, _, _] Y (View.cover_of_tiled_head _ _ _ rfl Y)).trans ?_
  canon_tiles y hy
  case piece0 =>
    obtain rfl : l = 3 := lat_eq (k := 3) l 3 (y 0) (y 0).isLt (by rw [← hY0, hy0]) rfl
    obtain rfl := idx_1 y r (by rw [← hY1, hy1])
    refine Eq.trans (show _ = newM _ _ _ 3 _ _ _ _ _ _ _ _ _ _ _ _ _ _ (ix3 0 r 0) from rfl) ?_
    rw [show kernelRun0_A.sl.r c i xt0 = n from hn]
    simp only [kernelRun0_A.sl.v300, kernelRun0_A.sl.v721, kernelRun0_A.sl.v710, kernelRun0_A.sl.v701, kernelRun0_A.sl.v366, kernelRun0_A.sl.v680, kernelRun0_A.sl.v297, kernelRun0_A.sl.v677, kernelRun0_A.sl.v688, kernelRun0_A.sl.v267, kernelRun0_A.sl.v264, kernelRun0_A.sl.v633, kernelRun0_A.sl.v666, kernelRun0_A.sl.v754, kernelRun0_A.sl.v644, kernelRun0_A.sl.v636, kernelRun0_A.sl.v789, kernelRun0_A.sl.v363, kernelRun0_A.sl.v724, kernelRun0_A.sl.v768, kernelRun0_A.sl.v745, kernelRun0_A.sl.v657, kernelRun0_A.sl.v776, kernelRun0_A.sl.v765, kernelRun0_A.sl.v732, kernelRun0_A.sl.v798, kernelRun0_A.sl.v333, kernelRun0_A.sl.v330, kernelRun0_A.sl.HS2_6, kernelRun0_A.sl.HS2_7, kernelRun0_A.sl.HS2_8, kernelRun0_A.sl.HS3_6, kernelRun0_A.sl.HS3_7, kernelRun0_A.sl.HS3_8, kernelRun0_A.sl.HS4_6, kernelRun0_A.sl.HS4_7, kernelRun0_A.sl.HS4_8, View.readAt_eq_ld, Memref.IsWhole.read_unread]
    simp (disch := decide) only [View.ld_unit_lit', ↓View.readCov_skip]
    simp only [readCov_ld]
    generalize View.canon (kernelRun0_A.sl.HS0_4 (F := Ideal) c arg3 harg3 x0) = Q at hQ ⊢
    generalize View.canon (kernelRun0_A.sl.HS1_12 (F := Ideal) c arg4 harg4 x1) = R at hR ⊢
    generalize View.canon (kernelRun0_A.sl.HS3_5 (F := Ideal) c arg3 harg3 arg4 harg4 arg5 harg5 arg6 harg6 arg13 arg14 x0 x1 x2 x3) = M at hM ⊢
    refine (newM_of (i 1).val (i 1).isLt n 3 x4 x5 x6 x7 qp qrp r _ _ c2_val _ _ _ _ _ _ _ _ _ _ _ ?_ ?_ ?_ ?_ ?_ ?_ ?_ ?_ ?hq ?hr ?hm).trans hv.symm
    case hq => intro a e; refine Eq.trans ?_ ((hQ 3 a e).trans (hq 3 a e).symm); pointwise
    case hr => intro a e; refine Eq.trans ?_ ((hR 3 a e).trans (hqr 3 a e).symm); pointwise
    case hm => refine Eq.trans ?_ hM; pointwise
    all_goals (intros; pointwise)
  case piece1 =>
    obtain rfl : l = 2 := lat_eq (k := 2) l 2 (y 0) (y 0).isLt (by rw [← hY0, hy0]) rfl
    obtain rfl := idx_1 y r (by rw [← hY1, hy1])
    refine Eq.trans (show _ = newM _ _ _ 2 _ _ _ _ _ _ _ _ _ _ _ _ _ _ (ix3 0 r 0) from rfl) ?_
    rw [show kernelRun0_A.sl.r c i xt0 = n from hn]
    simp only [kernelRun0_A.sl.v300, kernelRun0_A.sl.v721, kernelRun0_A.sl.v710, kernelRun0_A.sl.v701, kernelRun0_A.sl.v366, kernelRun0_A.sl.v680, kernelRun0_A.sl.v297, kernelRun0_A.sl.v677, kernelRun0_A.sl.v688, kernelRun0_A.sl.v267, kernelRun0_A.sl.v264, kernelRun0_A.sl.v633, kernelRun0_A.sl.v666, kernelRun0_A.sl.v754, kernelRun0_A.sl.v644, kernelRun0_A.sl.v636, kernelRun0_A.sl.v789, kernelRun0_A.sl.v363, kernelRun0_A.sl.v724, kernelRun0_A.sl.v768, kernelRun0_A.sl.v745, kernelRun0_A.sl.v657, kernelRun0_A.sl.v776, kernelRun0_A.sl.v765, kernelRun0_A.sl.v732, kernelRun0_A.sl.v798, kernelRun0_A.sl.v333, kernelRun0_A.sl.v330, kernelRun0_A.sl.HS2_6, kernelRun0_A.sl.HS2_7, kernelRun0_A.sl.HS2_8, kernelRun0_A.sl.HS3_6, kernelRun0_A.sl.HS3_7, kernelRun0_A.sl.HS3_8, kernelRun0_A.sl.HS4_6, kernelRun0_A.sl.HS4_7, kernelRun0_A.sl.HS4_8, View.readAt_eq_ld, Memref.IsWhole.read_unread]
    simp (disch := decide) only [View.ld_unit_lit', ↓View.readCov_skip]
    simp only [readCov_ld]
    generalize View.canon (kernelRun0_A.sl.HS0_4 (F := Ideal) c arg3 harg3 x0) = Q at hQ ⊢
    generalize View.canon (kernelRun0_A.sl.HS1_12 (F := Ideal) c arg4 harg4 x1) = R at hR ⊢
    generalize View.canon (kernelRun0_A.sl.HS3_5 (F := Ideal) c arg3 harg3 arg4 harg4 arg5 harg5 arg6 harg6 arg13 arg14 x0 x1 x2 x3) = M at hM ⊢
    refine (newM_of (i 1).val (i 1).isLt n 2 x4 x5 x6 x7 qp qrp r _ _ c2_val _ _ _ _ _ _ _ _ _ _ _ ?_ ?_ ?_ ?_ ?_ ?_ ?_ ?_ ?hq ?hr ?hm).trans hv.symm
    case hq => intro a e; refine Eq.trans ?_ ((hQ 2 a e).trans (hq 2 a e).symm); pointwise
    case hr => intro a e; refine Eq.trans ?_ ((hR 2 a e).trans (hqr 2 a e).symm); pointwise
    case hm => refine Eq.trans ?_ hM; pointwise
    all_goals (intros; pointwise)
  case piece2 =>
    obtain rfl : l = 1 := lat_eq (k := 1) l 1 (y 0) (y 0).isLt (by rw [← hY0, hy0]) rfl
    obtain rfl := idx_1 y r (by rw [← hY1, hy1])
    refine Eq.trans (show _ = newM _ _ _ 1 _ _ _ _ _ _ _ _ _ _ _ _ _ _ (ix3 0 r 0) from rfl) ?_
    rw [show kernelRun0_A.sl.r c i xt0 = n from hn]
    simp only [kernelRun0_A.sl.v300, kernelRun0_A.sl.v721, kernelRun0_A.sl.v710, kernelRun0_A.sl.v701, kernelRun0_A.sl.v366, kernelRun0_A.sl.v680, kernelRun0_A.sl.v297, kernelRun0_A.sl.v677, kernelRun0_A.sl.v688, kernelRun0_A.sl.v267, kernelRun0_A.sl.v264, kernelRun0_A.sl.v633, kernelRun0_A.sl.v666, kernelRun0_A.sl.v754, kernelRun0_A.sl.v644, kernelRun0_A.sl.v636, kernelRun0_A.sl.v789, kernelRun0_A.sl.v363, kernelRun0_A.sl.v724, kernelRun0_A.sl.v768, kernelRun0_A.sl.v745, kernelRun0_A.sl.v657, kernelRun0_A.sl.v776, kernelRun0_A.sl.v765, kernelRun0_A.sl.v732, kernelRun0_A.sl.v798, kernelRun0_A.sl.v333, kernelRun0_A.sl.v330, kernelRun0_A.sl.HS2_6, kernelRun0_A.sl.HS2_7, kernelRun0_A.sl.HS2_8, kernelRun0_A.sl.HS3_6, kernelRun0_A.sl.HS3_7, kernelRun0_A.sl.HS3_8, kernelRun0_A.sl.HS4_6, kernelRun0_A.sl.HS4_7, kernelRun0_A.sl.HS4_8, View.readAt_eq_ld, Memref.IsWhole.read_unread]
    simp (disch := decide) only [View.ld_unit_lit', ↓View.readCov_skip]
    simp only [readCov_ld]
    generalize View.canon (kernelRun0_A.sl.HS0_4 (F := Ideal) c arg3 harg3 x0) = Q at hQ ⊢
    generalize View.canon (kernelRun0_A.sl.HS1_12 (F := Ideal) c arg4 harg4 x1) = R at hR ⊢
    generalize View.canon (kernelRun0_A.sl.HS3_5 (F := Ideal) c arg3 harg3 arg4 harg4 arg5 harg5 arg6 harg6 arg13 arg14 x0 x1 x2 x3) = M at hM ⊢
    refine (newM_of (i 1).val (i 1).isLt n 1 x4 x5 x6 x7 qp qrp r _ _ c2_val _ _ _ _ _ _ _ _ _ _ _ ?_ ?_ ?_ ?_ ?_ ?_ ?_ ?_ ?hq ?hr ?hm).trans hv.symm
    case hq => intro a e; refine Eq.trans ?_ ((hQ 1 a e).trans (hq 1 a e).symm); pointwise
    case hr => intro a e; refine Eq.trans ?_ ((hR 1 a e).trans (hqr 1 a e).symm); pointwise
    case hm => refine Eq.trans ?_ hM; pointwise
    all_goals (intros; pointwise)
  case piece3 =>
    obtain rfl : l = 0 := lat_eq (k := 0) l 0 (y 0) (y 0).isLt (by rw [← hY0, hy0]; exact (Nat.zero_add _).symm) rfl
    obtain rfl := idx_1 y r (by rw [← hY1, hy1])
    refine Eq.trans (show _ = newM _ _ _ 0 _ _ _ _ _ _ _ _ _ _ _ _ _ _ (ix3 0 r 0) from rfl) ?_
    rw [show kernelRun0_A.sl.r c i xt0 = n from hn]
    simp only [kernelRun0_A.sl.v300, kernelRun0_A.sl.v721, kernelRun0_A.sl.v710, kernelRun0_A.sl.v701, kernelRun0_A.sl.v366, kernelRun0_A.sl.v680, kernelRun0_A.sl.v297, kernelRun0_A.sl.v677, kernelRun0_A.sl.v688, kernelRun0_A.sl.v267, kernelRun0_A.sl.v264, kernelRun0_A.sl.v633, kernelRun0_A.sl.v666, kernelRun0_A.sl.v754, kernelRun0_A.sl.v644, kernelRun0_A.sl.v636, kernelRun0_A.sl.v789, kernelRun0_A.sl.v363, kernelRun0_A.sl.v724, kernelRun0_A.sl.v768, kernelRun0_A.sl.v745, kernelRun0_A.sl.v657, kernelRun0_A.sl.v776, kernelRun0_A.sl.v765, kernelRun0_A.sl.v732, kernelRun0_A.sl.v798, kernelRun0_A.sl.v333, kernelRun0_A.sl.v330, kernelRun0_A.sl.HS2_6, kernelRun0_A.sl.HS2_7, kernelRun0_A.sl.HS2_8, kernelRun0_A.sl.HS3_6, kernelRun0_A.sl.HS3_7, kernelRun0_A.sl.HS3_8, kernelRun0_A.sl.HS4_6, kernelRun0_A.sl.HS4_7, kernelRun0_A.sl.HS4_8, View.readAt_eq_ld, Memref.IsWhole.read_unread]
    simp (disch := decide) only [View.ld_unit_lit', ↓View.readCov_skip]
    simp only [readCov_ld]
    generalize View.canon (kernelRun0_A.sl.HS0_4 (F := Ideal) c arg3 harg3 x0) = Q at hQ ⊢
    generalize View.canon (kernelRun0_A.sl.HS1_12 (F := Ideal) c arg4 harg4 x1) = R at hR ⊢
    generalize View.canon (kernelRun0_A.sl.HS3_5 (F := Ideal) c arg3 harg3 arg4 harg4 arg5 harg5 arg6 harg6 arg13 arg14 x0 x1 x2 x3) = M at hM ⊢
    refine (newM_of (i 1).val (i 1).isLt n 0 x4 x5 x6 x7 qp qrp r _ _ c2_val _ _ _ _ _ _ _ _ _ _ _ ?_ ?_ ?_ ?_ ?_ ?_ ?_ ?_ ?hq ?hr ?hm).trans hv.symm
    case hq => intro a e; refine Eq.trans ?_ ((hQ 0 a e).trans (hq 0 a e).symm); pointwise
    case hr => intro a e; refine Eq.trans ?_ ((hR 0 a e).trans (hqr 0 a e).symm); pointwise
    case hm => refine Eq.trans ?_ hM; pointwise
    all_goals (intros; pointwise)

/-- At the first point of a run, with keys to read: the new sum of weights of latent `l`, row `r`, over the new tokens and the block. -/
theorem stepL_A (c : Dev nD) (i : grid0.Coords) (arg3 : Memref sig .tc .vmem S1x3x128x256 .bf16) (harg3 : arg3.IsWhole) (arg4 : Memref sig .tc .vmem S1x3x64x128 .bf16) (harg4 : arg4.IsWhole) (arg5 : Memref sig .tc .vmem S1x4x16x256 .bf16) (harg5 : arg5.IsWhole) (arg6 : Memref sig .tc .vmem S1x16x64 .bf16) (harg6 : arg6.IsWhole) (arg7 : Memref sig .tc .vmem S1x512x4x128 .fp8e4m3) (harg7 : arg7.IsWhole) (arg8 : Memref sig .tc .vmem S1x512x4x128 .fp8e4m3) (harg8 : arg8.IsWhole) (arg9 : Memref sig .tc .vmem S1x4x8x512 .i8) (harg9 : arg9.IsWhole) (arg10 : Memref sig .tc .vmem S1x64x512 .bf16) (harg10 : arg10.IsWhole) (arg11 : Memref sig .tc .vmem S1x3x128x256 .bf16) (harg11 : arg11.IsWhole) (arg12 : Memref sig .tc .vmem S1x3x128x1 .f32) (harg12 : arg12.IsWhole) (arg13 : Memref sig .tc .vmem S4x96x256 .bf16) (harg13 : arg13.IsWhole) (arg14 : Memref sig .tc .vmem S4x96x64 .bf16) (harg14 : arg14.IsWhole) (arg15 : Memref sig .tc .vmem S4x96x256 .f32) (harg15 : arg15.IsWhole) (arg16 : Memref sig .tc .vmem S4x96x1 .f32) (harg16 : arg16.IsWhole) (arg17 : Memref sig .tc .vmem S4x96x1 .f32) (harg17 : arg17.IsWhole) (hc0 : cond0_0 i) (hc2 : ¬cond0_2 i)
    (x0 : Vec Ideal S1x3x128x256 .bf16) (x1 : Vec Ideal S1x3x64x128 .bf16) (x2 : Vec Ideal S1x4x16x256 .bf16) (x3 : Vec Ideal S1x16x64 .bf16) (x4 : Vec Ideal S1x512x4x128 .fp8e4m3) (x5 : Vec Ideal S1x512x4x128 .fp8e4m3) (x6 : Vec Ideal S1x4x8x512 .i8) (x7 : Vec Ideal S1x64x512 .bf16) (xt0 : TbBuf0 (F := Ideal) c tbM0_0) (hc1 : cond0_1 i (tbM0_0.view.readAt (Elt Ideal) (Rect.unit (s := S12) (k0_off1 i) S1.size (k0_off1_inb i)).toLoadRect xt0 (Shape.Idx.first (numel1_S1.symm ▸ Nat.one_pos)))) (n : BitVec 32)
    (hn : (tbM0_0.view.readAt (Elt Ideal) (Rect.unit (s := S12) (k0_off1 i) S1.size (k0_off1_inb i)).toLoadRect xt0 (Shape.Idx.first (numel1_S1.symm ▸ Nat.one_pos))) = n)
    (qp : Vec Ideal S4x96x256 .bf16) (hq : ∀ l i d, qp (ix3 l i d) = qI x0 l i d)
    (qrp : Vec Ideal S4x96x64 .bf16) (hqr : ∀ l i d, qrp (ix3 l i d) = qrI x1 l i d) (l : Fin 4) (r : Fin 96) :
    sout0_A_4 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1 (ix3 l r 0)
      = (∑ j : Fin 16, wt (ns x0 x1 x2 x3 l r j) (Finset.univ.sup (ns x0 x1 x2 x3 l r))) * wt (Finset.univ.sup (ns x0 x1 x2 x3 l r)) (max (Finset.univ.sup (ns x0 x1 x2 x3 l r)) (Finset.univ.sup (score x4 x5 x6 x7 n qp qrp (i 1).val l r))) + ∑ p : Fin 512, wt ((score x4 x5 x6 x7 n qp qrp (i 1).val l r) p) (max (Finset.univ.sup (ns x0 x1 x2 x3 l r)) (Finset.univ.sup (score x4 x5 x6 x7 n qp qrp (i 1).val l r))) := by
  obtain ⟨v, hv⟩ : ∃ v : EReal, v = (∑ j : Fin 16, wt (ns x0 x1 x2 x3 l r j) (Finset.univ.sup (ns x0 x1 x2 x3 l r))) * wt (Finset.univ.sup (ns x0 x1 x2 x3 l r)) (max (Finset.univ.sup (ns x0 x1 x2 x3 l r)) (Finset.univ.sup (score x4 x5 x6 x7 n qp qrp (i 1).val l r))) + ∑ p : Fin 512, wt ((score x4 x5 x6 x7 n qp qrp (i 1).val l r) p) (max (Finset.univ.sup (ns x0 x1 x2 x3 l r)) (Finset.univ.sup (score x4 x5 x6 x7 n qp qrp (i 1).val l r))) := ⟨_, rfl⟩
  rw [← hv]
  have hQ := start_q c arg3 harg3 x0
  have hR := start_qr c arg4 harg4 x1
  have hM := start_m c arg3 harg3 arg4 harg4 arg5 harg5 arg6 harg6 arg13 arg14 x0 x1 x2 x3 l r
  have hL := start_l c arg3 harg3 arg4 harg4 arg5 harg5 arg6 harg6 arg13 arg14 x0 x1 x2 x3 l r
  unfold sout0_A_4
  rw [View.read_writes_eq_canon _ _ _ (scover0_A_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1)]
  unfold kernelRun0_A
  dsimp only
  unfold kernelRun0_A.sl.HS4_8 kernelRun0_A.sl.HS4_7 kernelRun0_A.sl.HS4_6
  generalize hY : (ix3 l r 0 : S4x96x1.Idx) = Y
  have hY0 : (Y 0).val = l.val := by rw [← hY]; rfl
  have hY1 : (Y 1).val = r.val := by rw [← hY]; rfl
  clear hY
  refine (canon_append_of_cover (kernelRun0_A.sl.HS4_5 (F := Ideal) c arg3 harg3 arg4 harg4 arg5 harg5 arg6 harg6 arg13 arg14 x0 x1 x2 x3) [_, _, _, _] Y (View.cover_of_tiled_head _ _ _ rfl Y)).trans ?_
  canon_tiles y hy
  case piece0 =>
    obtain rfl : l = 3 := lat_eq (k := 3) l 3 (y 0) (y 0).isLt (by rw [← hY0, hy0]) rfl
    obtain rfl := idx_1 y r (by rw [← hY1, hy1])
    refine Eq.trans (show _ = newL _ _ _ 3 _ _ _ _ _ _ _ _ _ _ _ _ _ _ _ (ix3 0 r 0) from rfl) ?_
    rw [show kernelRun0_A.sl.r c i xt0 = n from hn]
    simp only [kernelRun0_A.sl.v300, kernelRun0_A.sl.v721, kernelRun0_A.sl.v710, kernelRun0_A.sl.v701, kernelRun0_A.sl.v366, kernelRun0_A.sl.v680, kernelRun0_A.sl.v297, kernelRun0_A.sl.v677, kernelRun0_A.sl.v688, kernelRun0_A.sl.v267, kernelRun0_A.sl.v264, kernelRun0_A.sl.v633, kernelRun0_A.sl.v666, kernelRun0_A.sl.v754, kernelRun0_A.sl.v644, kernelRun0_A.sl.v636, kernelRun0_A.sl.v789, kernelRun0_A.sl.v363, kernelRun0_A.sl.v724, kernelRun0_A.sl.v768, kernelRun0_A.sl.v745, kernelRun0_A.sl.v657, kernelRun0_A.sl.v776, kernelRun0_A.sl.v765, kernelRun0_A.sl.v732, kernelRun0_A.sl.v798, kernelRun0_A.sl.v333, kernelRun0_A.sl.v330, kernelRun0_A.sl.HS2_6, kernelRun0_A.sl.HS2_7, kernelRun0_A.sl.HS2_8, kernelRun0_A.sl.HS3_6, kernelRun0_A.sl.HS3_7, kernelRun0_A.sl.HS3_8, kernelRun0_A.sl.HS4_6, kernelRun0_A.sl.HS4_7, kernelRun0_A.sl.HS4_8, View.readAt_eq_ld, Memref.IsWhole.read_unread]
    simp (disch := decide) only [View.ld_unit_lit', ↓View.readCov_skip]
    simp only [readCov_ld]
    generalize View.canon (kernelRun0_A.sl.HS0_4 (F := Ideal) c arg3 harg3 x0) = Q at hQ ⊢
    generalize View.canon (kernelRun0_A.sl.HS1_12 (F := Ideal) c arg4 harg4 x1) = R at hR ⊢
    generalize View.canon (kernelRun0_A.sl.HS3_5 (F := Ideal) c arg3 harg3 arg4 harg4 arg5 harg5 arg6 harg6 arg13 arg14 x0 x1 x2 x3) = M at hM ⊢
    generalize View.canon (kernelRun0_A.sl.HS4_5 (F := Ideal) c arg3 harg3 arg4 harg4 arg5 harg5 arg6 harg6 arg13 arg14 x0 x1 x2 x3) = L at hL ⊢
    refine (newL_of (i 1).val (i 1).isLt n 3 x4 x5 x6 x7 qp qrp r _ _ _ c2_val _ _ _ _ _ _ _ _ _ _ _ _ ?_ ?_ ?_ ?_ ?_ ?_ ?_ ?_ ?hq ?hr ?hm ?hl).trans hv.symm
    case hq => intro a e; refine Eq.trans ?_ ((hQ 3 a e).trans (hq 3 a e).symm); pointwise
    case hr => intro a e; refine Eq.trans ?_ ((hR 3 a e).trans (hqr 3 a e).symm); pointwise
    case hm => refine Eq.trans ?_ hM; pointwise
    case hl => refine Eq.trans ?_ hL; pointwise
    all_goals (intros; pointwise)
  case piece1 =>
    obtain rfl : l = 2 := lat_eq (k := 2) l 2 (y 0) (y 0).isLt (by rw [← hY0, hy0]) rfl
    obtain rfl := idx_1 y r (by rw [← hY1, hy1])
    refine Eq.trans (show _ = newL _ _ _ 2 _ _ _ _ _ _ _ _ _ _ _ _ _ _ _ (ix3 0 r 0) from rfl) ?_
    rw [show kernelRun0_A.sl.r c i xt0 = n from hn]
    simp only [kernelRun0_A.sl.v300, kernelRun0_A.sl.v721, kernelRun0_A.sl.v710, kernelRun0_A.sl.v701, kernelRun0_A.sl.v366, kernelRun0_A.sl.v680, kernelRun0_A.sl.v297, kernelRun0_A.sl.v677, kernelRun0_A.sl.v688, kernelRun0_A.sl.v267, kernelRun0_A.sl.v264, kernelRun0_A.sl.v633, kernelRun0_A.sl.v666, kernelRun0_A.sl.v754, kernelRun0_A.sl.v644, kernelRun0_A.sl.v636, kernelRun0_A.sl.v789, kernelRun0_A.sl.v363, kernelRun0_A.sl.v724, kernelRun0_A.sl.v768, kernelRun0_A.sl.v745, kernelRun0_A.sl.v657, kernelRun0_A.sl.v776, kernelRun0_A.sl.v765, kernelRun0_A.sl.v732, kernelRun0_A.sl.v798, kernelRun0_A.sl.v333, kernelRun0_A.sl.v330, kernelRun0_A.sl.HS2_6, kernelRun0_A.sl.HS2_7, kernelRun0_A.sl.HS2_8, kernelRun0_A.sl.HS3_6, kernelRun0_A.sl.HS3_7, kernelRun0_A.sl.HS3_8, kernelRun0_A.sl.HS4_6, kernelRun0_A.sl.HS4_7, kernelRun0_A.sl.HS4_8, View.readAt_eq_ld, Memref.IsWhole.read_unread]
    simp (disch := decide) only [View.ld_unit_lit', ↓View.readCov_skip]
    simp only [readCov_ld]
    generalize View.canon (kernelRun0_A.sl.HS0_4 (F := Ideal) c arg3 harg3 x0) = Q at hQ ⊢
    generalize View.canon (kernelRun0_A.sl.HS1_12 (F := Ideal) c arg4 harg4 x1) = R at hR ⊢
    generalize View.canon (kernelRun0_A.sl.HS3_5 (F := Ideal) c arg3 harg3 arg4 harg4 arg5 harg5 arg6 harg6 arg13 arg14 x0 x1 x2 x3) = M at hM ⊢
    generalize View.canon (kernelRun0_A.sl.HS4_5 (F := Ideal) c arg3 harg3 arg4 harg4 arg5 harg5 arg6 harg6 arg13 arg14 x0 x1 x2 x3) = L at hL ⊢
    refine (newL_of (i 1).val (i 1).isLt n 2 x4 x5 x6 x7 qp qrp r _ _ _ c2_val _ _ _ _ _ _ _ _ _ _ _ _ ?_ ?_ ?_ ?_ ?_ ?_ ?_ ?_ ?hq ?hr ?hm ?hl).trans hv.symm
    case hq => intro a e; refine Eq.trans ?_ ((hQ 2 a e).trans (hq 2 a e).symm); pointwise
    case hr => intro a e; refine Eq.trans ?_ ((hR 2 a e).trans (hqr 2 a e).symm); pointwise
    case hm => refine Eq.trans ?_ hM; pointwise
    case hl => refine Eq.trans ?_ hL; pointwise
    all_goals (intros; pointwise)
  case piece2 =>
    obtain rfl : l = 1 := lat_eq (k := 1) l 1 (y 0) (y 0).isLt (by rw [← hY0, hy0]) rfl
    obtain rfl := idx_1 y r (by rw [← hY1, hy1])
    refine Eq.trans (show _ = newL _ _ _ 1 _ _ _ _ _ _ _ _ _ _ _ _ _ _ _ (ix3 0 r 0) from rfl) ?_
    rw [show kernelRun0_A.sl.r c i xt0 = n from hn]
    simp only [kernelRun0_A.sl.v300, kernelRun0_A.sl.v721, kernelRun0_A.sl.v710, kernelRun0_A.sl.v701, kernelRun0_A.sl.v366, kernelRun0_A.sl.v680, kernelRun0_A.sl.v297, kernelRun0_A.sl.v677, kernelRun0_A.sl.v688, kernelRun0_A.sl.v267, kernelRun0_A.sl.v264, kernelRun0_A.sl.v633, kernelRun0_A.sl.v666, kernelRun0_A.sl.v754, kernelRun0_A.sl.v644, kernelRun0_A.sl.v636, kernelRun0_A.sl.v789, kernelRun0_A.sl.v363, kernelRun0_A.sl.v724, kernelRun0_A.sl.v768, kernelRun0_A.sl.v745, kernelRun0_A.sl.v657, kernelRun0_A.sl.v776, kernelRun0_A.sl.v765, kernelRun0_A.sl.v732, kernelRun0_A.sl.v798, kernelRun0_A.sl.v333, kernelRun0_A.sl.v330, kernelRun0_A.sl.HS2_6, kernelRun0_A.sl.HS2_7, kernelRun0_A.sl.HS2_8, kernelRun0_A.sl.HS3_6, kernelRun0_A.sl.HS3_7, kernelRun0_A.sl.HS3_8, kernelRun0_A.sl.HS4_6, kernelRun0_A.sl.HS4_7, kernelRun0_A.sl.HS4_8, View.readAt_eq_ld, Memref.IsWhole.read_unread]
    simp (disch := decide) only [View.ld_unit_lit', ↓View.readCov_skip]
    simp only [readCov_ld]
    generalize View.canon (kernelRun0_A.sl.HS0_4 (F := Ideal) c arg3 harg3 x0) = Q at hQ ⊢
    generalize View.canon (kernelRun0_A.sl.HS1_12 (F := Ideal) c arg4 harg4 x1) = R at hR ⊢
    generalize View.canon (kernelRun0_A.sl.HS3_5 (F := Ideal) c arg3 harg3 arg4 harg4 arg5 harg5 arg6 harg6 arg13 arg14 x0 x1 x2 x3) = M at hM ⊢
    generalize View.canon (kernelRun0_A.sl.HS4_5 (F := Ideal) c arg3 harg3 arg4 harg4 arg5 harg5 arg6 harg6 arg13 arg14 x0 x1 x2 x3) = L at hL ⊢
    refine (newL_of (i 1).val (i 1).isLt n 1 x4 x5 x6 x7 qp qrp r _ _ _ c2_val _ _ _ _ _ _ _ _ _ _ _ _ ?_ ?_ ?_ ?_ ?_ ?_ ?_ ?_ ?hq ?hr ?hm ?hl).trans hv.symm
    case hq => intro a e; refine Eq.trans ?_ ((hQ 1 a e).trans (hq 1 a e).symm); pointwise
    case hr => intro a e; refine Eq.trans ?_ ((hR 1 a e).trans (hqr 1 a e).symm); pointwise
    case hm => refine Eq.trans ?_ hM; pointwise
    case hl => refine Eq.trans ?_ hL; pointwise
    all_goals (intros; pointwise)
  case piece3 =>
    obtain rfl : l = 0 := lat_eq (k := 0) l 0 (y 0) (y 0).isLt (by rw [← hY0, hy0]; exact (Nat.zero_add _).symm) rfl
    obtain rfl := idx_1 y r (by rw [← hY1, hy1])
    refine Eq.trans (show _ = newL _ _ _ 0 _ _ _ _ _ _ _ _ _ _ _ _ _ _ _ (ix3 0 r 0) from rfl) ?_
    rw [show kernelRun0_A.sl.r c i xt0 = n from hn]
    simp only [kernelRun0_A.sl.v300, kernelRun0_A.sl.v721, kernelRun0_A.sl.v710, kernelRun0_A.sl.v701, kernelRun0_A.sl.v366, kernelRun0_A.sl.v680, kernelRun0_A.sl.v297, kernelRun0_A.sl.v677, kernelRun0_A.sl.v688, kernelRun0_A.sl.v267, kernelRun0_A.sl.v264, kernelRun0_A.sl.v633, kernelRun0_A.sl.v666, kernelRun0_A.sl.v754, kernelRun0_A.sl.v644, kernelRun0_A.sl.v636, kernelRun0_A.sl.v789, kernelRun0_A.sl.v363, kernelRun0_A.sl.v724, kernelRun0_A.sl.v768, kernelRun0_A.sl.v745, kernelRun0_A.sl.v657, kernelRun0_A.sl.v776, kernelRun0_A.sl.v765, kernelRun0_A.sl.v732, kernelRun0_A.sl.v798, kernelRun0_A.sl.v333, kernelRun0_A.sl.v330, kernelRun0_A.sl.HS2_6, kernelRun0_A.sl.HS2_7, kernelRun0_A.sl.HS2_8, kernelRun0_A.sl.HS3_6, kernelRun0_A.sl.HS3_7, kernelRun0_A.sl.HS3_8, kernelRun0_A.sl.HS4_6, kernelRun0_A.sl.HS4_7, kernelRun0_A.sl.HS4_8, View.readAt_eq_ld, Memref.IsWhole.read_unread]
    simp (disch := decide) only [View.ld_unit_lit', ↓View.readCov_skip]
    simp only [readCov_ld]
    generalize View.canon (kernelRun0_A.sl.HS0_4 (F := Ideal) c arg3 harg3 x0) = Q at hQ ⊢
    generalize View.canon (kernelRun0_A.sl.HS1_12 (F := Ideal) c arg4 harg4 x1) = R at hR ⊢
    generalize View.canon (kernelRun0_A.sl.HS3_5 (F := Ideal) c arg3 harg3 arg4 harg4 arg5 harg5 arg6 harg6 arg13 arg14 x0 x1 x2 x3) = M at hM ⊢
    generalize View.canon (kernelRun0_A.sl.HS4_5 (F := Ideal) c arg3 harg3 arg4 harg4 arg5 harg5 arg6 harg6 arg13 arg14 x0 x1 x2 x3) = L at hL ⊢
    refine (newL_of (i 1).val (i 1).isLt n 0 x4 x5 x6 x7 qp qrp r _ _ _ c2_val _ _ _ _ _ _ _ _ _ _ _ _ ?_ ?_ ?_ ?_ ?_ ?_ ?_ ?_ ?hq ?hr ?hm ?hl).trans hv.symm
    case hq => intro a e; refine Eq.trans ?_ ((hQ 0 a e).trans (hq 0 a e).symm); pointwise
    case hr => intro a e; refine Eq.trans ?_ ((hR 0 a e).trans (hqr 0 a e).symm); pointwise
    case hm => refine Eq.trans ?_ hM; pointwise
    case hl => refine Eq.trans ?_ hL; pointwise
    all_goals (intros; pointwise)

/-- At the first point of a run, with keys to read: the new weighted sum of latent `l`, row `r`, over the new tokens and the block. -/
theorem stepA_A (c : Dev nD) (i : grid0.Coords) (arg3 : Memref sig .tc .vmem S1x3x128x256 .bf16) (harg3 : arg3.IsWhole) (arg4 : Memref sig .tc .vmem S1x3x64x128 .bf16) (harg4 : arg4.IsWhole) (arg5 : Memref sig .tc .vmem S1x4x16x256 .bf16) (harg5 : arg5.IsWhole) (arg6 : Memref sig .tc .vmem S1x16x64 .bf16) (harg6 : arg6.IsWhole) (arg7 : Memref sig .tc .vmem S1x512x4x128 .fp8e4m3) (harg7 : arg7.IsWhole) (arg8 : Memref sig .tc .vmem S1x512x4x128 .fp8e4m3) (harg8 : arg8.IsWhole) (arg9 : Memref sig .tc .vmem S1x4x8x512 .i8) (harg9 : arg9.IsWhole) (arg10 : Memref sig .tc .vmem S1x64x512 .bf16) (harg10 : arg10.IsWhole) (arg11 : Memref sig .tc .vmem S1x3x128x256 .bf16) (harg11 : arg11.IsWhole) (arg12 : Memref sig .tc .vmem S1x3x128x1 .f32) (harg12 : arg12.IsWhole) (arg13 : Memref sig .tc .vmem S4x96x256 .bf16) (harg13 : arg13.IsWhole) (arg14 : Memref sig .tc .vmem S4x96x64 .bf16) (harg14 : arg14.IsWhole) (arg15 : Memref sig .tc .vmem S4x96x256 .f32) (harg15 : arg15.IsWhole) (arg16 : Memref sig .tc .vmem S4x96x1 .f32) (harg16 : arg16.IsWhole) (arg17 : Memref sig .tc .vmem S4x96x1 .f32) (harg17 : arg17.IsWhole) (hc0 : cond0_0 i) (hc2 : ¬cond0_2 i)
    (x0 : Vec Ideal S1x3x128x256 .bf16) (x1 : Vec Ideal S1x3x64x128 .bf16) (x2 : Vec Ideal S1x4x16x256 .bf16) (x3 : Vec Ideal S1x16x64 .bf16) (x4 : Vec Ideal S1x512x4x128 .fp8e4m3) (x5 : Vec Ideal S1x512x4x128 .fp8e4m3) (x6 : Vec Ideal S1x4x8x512 .i8) (x7 : Vec Ideal S1x64x512 .bf16) (xt0 : TbBuf0 (F := Ideal) c tbM0_0) (hc1 : cond0_1 i (tbM0_0.view.readAt (Elt Ideal) (Rect.unit (s := S12) (k0_off1 i) S1.size (k0_off1_inb i)).toLoadRect xt0 (Shape.Idx.first (numel1_S1.symm ▸ Nat.one_pos)))) (n : BitVec 32)
    (hn : (tbM0_0.view.readAt (Elt Ideal) (Rect.unit (s := S12) (k0_off1 i) S1.size (k0_off1_inb i)).toLoadRect xt0 (Shape.Idx.first (numel1_S1.symm ▸ Nat.one_pos))) = n)
    (qp : Vec Ideal S4x96x256 .bf16) (hq : ∀ l i d, qp (ix3 l i d) = qI x0 l i d)
    (qrp : Vec Ideal S4x96x64 .bf16) (hqr : ∀ l i d, qrp (ix3 l i d) = qrI x1 l i d) (l : Fin 4) (r : Fin 96) (d : Fin 256) :
    sout0_A_2 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1 (ix3 l r d)
      = (∑ j : Fin 16, wt (ns x0 x1 x2 x3 l r j) (Finset.univ.sup (ns x0 x1 x2 x3 l r)) * (x2 (ix4 0 l j (perm d)) : EReal)) * wt (Finset.univ.sup (ns x0 x1 x2 x3 l r)) (max (Finset.univ.sup (ns x0 x1 x2 x3 l r)) (Finset.univ.sup (score x4 x5 x6 x7 n qp qrp (i 1).val l r))) + ∑ p : Fin 512, wt ((score x4 x5 x6 x7 n qp qrp (i 1).val l r) p) (max (Finset.univ.sup (ns x0 x1 x2 x3 l r)) (Finset.univ.sup (score x4 x5 x6 x7 n qp qrp (i 1).val l r))) * cache x4 x5 x6 l d p := by
  obtain ⟨v, hv⟩ : ∃ v : EReal, v = (∑ j : Fin 16, wt (ns x0 x1 x2 x3 l r j) (Finset.univ.sup (ns x0 x1 x2 x3 l r)) * (x2 (ix4 0 l j (perm d)) : EReal)) * wt (Finset.univ.sup (ns x0 x1 x2 x3 l r)) (max (Finset.univ.sup (ns x0 x1 x2 x3 l r)) (Finset.univ.sup (score x4 x5 x6 x7 n qp qrp (i 1).val l r))) + ∑ p : Fin 512, wt ((score x4 x5 x6 x7 n qp qrp (i 1).val l r) p) (max (Finset.univ.sup (ns x0 x1 x2 x3 l r)) (Finset.univ.sup (score x4 x5 x6 x7 n qp qrp (i 1).val l r))) * cache x4 x5 x6 l d p := ⟨_, rfl⟩
  rw [← hv]
  have hQ := start_q c arg3 harg3 x0
  have hR := start_qr c arg4 harg4 x1
  have hM := start_m c arg3 harg3 arg4 harg4 arg5 harg5 arg6 harg6 arg13 arg14 x0 x1 x2 x3 l r
  have hA := start_a c arg3 harg3 arg4 harg4 arg5 harg5 arg6 harg6 arg13 arg14 x0 x1 x2 x3 l r d
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1)]
  unfold kernelRun0_A
  dsimp only
  unfold kernelRun0_A.sl.HS2_8 kernelRun0_A.sl.HS2_7 kernelRun0_A.sl.HS2_6
  generalize hY : (ix3 l r d : S4x96x256.Idx) = Y
  have hY0 : (Y 0).val = l.val := by rw [← hY]; rfl
  have hY1 : (Y 1).val = r.val := by rw [← hY]; rfl
  have hY2 : (Y 2).val = d.val := by rw [← hY]; rfl
  clear hY
  refine (canon_append_of_cover (kernelRun0_A.sl.HS2_5 (F := Ideal) c arg3 harg3 arg4 harg4 arg5 harg5 arg6 harg6 arg13 arg14 x0 x1 x2 x3) [_, _, _, _] Y (View.cover_of_tiled_head _ _ _ rfl Y)).trans ?_
  canon_tiles y hy
  case piece0 =>
    obtain rfl : l = 3 := lat_eq (k := 3) l 3 (y 0) (y 0).isLt (by rw [← hY0, hy0]) rfl
    obtain rfl := idx_A y r d (by rw [← hY1, hy1]) (by rw [← hY2, hy2])
    refine Eq.trans (show _ = newA _ _ _ 3 _ _ _ _ _ _ _ _ _ _ _ _ _ _ _ (ix3 0 r d) from rfl) ?_
    rw [show kernelRun0_A.sl.r c i xt0 = n from hn]
    simp only [kernelRun0_A.sl.v300, kernelRun0_A.sl.v721, kernelRun0_A.sl.v710, kernelRun0_A.sl.v701, kernelRun0_A.sl.v366, kernelRun0_A.sl.v680, kernelRun0_A.sl.v297, kernelRun0_A.sl.v677, kernelRun0_A.sl.v688, kernelRun0_A.sl.v267, kernelRun0_A.sl.v264, kernelRun0_A.sl.v633, kernelRun0_A.sl.v666, kernelRun0_A.sl.v754, kernelRun0_A.sl.v644, kernelRun0_A.sl.v636, kernelRun0_A.sl.v789, kernelRun0_A.sl.v363, kernelRun0_A.sl.v724, kernelRun0_A.sl.v768, kernelRun0_A.sl.v745, kernelRun0_A.sl.v657, kernelRun0_A.sl.v776, kernelRun0_A.sl.v765, kernelRun0_A.sl.v732, kernelRun0_A.sl.v798, kernelRun0_A.sl.v333, kernelRun0_A.sl.v330, kernelRun0_A.sl.HS2_6, kernelRun0_A.sl.HS2_7, kernelRun0_A.sl.HS2_8, kernelRun0_A.sl.HS3_6, kernelRun0_A.sl.HS3_7, kernelRun0_A.sl.HS3_8, kernelRun0_A.sl.HS4_6, kernelRun0_A.sl.HS4_7, kernelRun0_A.sl.HS4_8, View.readAt_eq_ld, Memref.IsWhole.read_unread]
    simp (disch := decide) only [View.ld_unit_lit', ↓View.readCov_skip]
    simp only [readCov_ld]
    generalize View.canon (kernelRun0_A.sl.HS0_4 (F := Ideal) c arg3 harg3 x0) = Q at hQ ⊢
    generalize View.canon (kernelRun0_A.sl.HS1_12 (F := Ideal) c arg4 harg4 x1) = R at hR ⊢
    generalize View.canon (kernelRun0_A.sl.HS3_5 (F := Ideal) c arg3 harg3 arg4 harg4 arg5 harg5 arg6 harg6 arg13 arg14 x0 x1 x2 x3) = M at hM ⊢
    generalize View.canon (kernelRun0_A.sl.HS2_5 (F := Ideal) c arg3 harg3 arg4 harg4 arg5 harg5 arg6 harg6 arg13 arg14 x0 x1 x2 x3) = A at hA ⊢
    refine (newA_of (i 1).val (i 1).isLt n 3 x4 x5 x6 x7 qp qrp r d _ _ _ c2_val _ _ _ _ _ _ _ _ _ _ _ _ ?_ ?_ ?_ ?_ ?_ ?_ ?_ ?_ ?hq ?hr ?hm ?ha).trans hv.symm
    case hq => intro a e; refine Eq.trans ?_ ((hQ 3 a e).trans (hq 3 a e).symm); pointwise
    case hr => intro a e; refine Eq.trans ?_ ((hR 3 a e).trans (hqr 3 a e).symm); pointwise
    case hm => refine Eq.trans ?_ hM; pointwise
    case ha => refine Eq.trans ?_ hA; pointwise
    all_goals (intros; pointwise)
  case piece1 =>
    obtain rfl : l = 2 := lat_eq (k := 2) l 2 (y 0) (y 0).isLt (by rw [← hY0, hy0]) rfl
    obtain rfl := idx_A y r d (by rw [← hY1, hy1]) (by rw [← hY2, hy2])
    refine Eq.trans (show _ = newA _ _ _ 2 _ _ _ _ _ _ _ _ _ _ _ _ _ _ _ (ix3 0 r d) from rfl) ?_
    rw [show kernelRun0_A.sl.r c i xt0 = n from hn]
    simp only [kernelRun0_A.sl.v300, kernelRun0_A.sl.v721, kernelRun0_A.sl.v710, kernelRun0_A.sl.v701, kernelRun0_A.sl.v366, kernelRun0_A.sl.v680, kernelRun0_A.sl.v297, kernelRun0_A.sl.v677, kernelRun0_A.sl.v688, kernelRun0_A.sl.v267, kernelRun0_A.sl.v264, kernelRun0_A.sl.v633, kernelRun0_A.sl.v666, kernelRun0_A.sl.v754, kernelRun0_A.sl.v644, kernelRun0_A.sl.v636, kernelRun0_A.sl.v789, kernelRun0_A.sl.v363, kernelRun0_A.sl.v724, kernelRun0_A.sl.v768, kernelRun0_A.sl.v745, kernelRun0_A.sl.v657, kernelRun0_A.sl.v776, kernelRun0_A.sl.v765, kernelRun0_A.sl.v732, kernelRun0_A.sl.v798, kernelRun0_A.sl.v333, kernelRun0_A.sl.v330, kernelRun0_A.sl.HS2_6, kernelRun0_A.sl.HS2_7, kernelRun0_A.sl.HS2_8, kernelRun0_A.sl.HS3_6, kernelRun0_A.sl.HS3_7, kernelRun0_A.sl.HS3_8, kernelRun0_A.sl.HS4_6, kernelRun0_A.sl.HS4_7, kernelRun0_A.sl.HS4_8, View.readAt_eq_ld, Memref.IsWhole.read_unread]
    simp (disch := decide) only [View.ld_unit_lit', ↓View.readCov_skip]
    simp only [readCov_ld]
    generalize View.canon (kernelRun0_A.sl.HS0_4 (F := Ideal) c arg3 harg3 x0) = Q at hQ ⊢
    generalize View.canon (kernelRun0_A.sl.HS1_12 (F := Ideal) c arg4 harg4 x1) = R at hR ⊢
    generalize View.canon (kernelRun0_A.sl.HS3_5 (F := Ideal) c arg3 harg3 arg4 harg4 arg5 harg5 arg6 harg6 arg13 arg14 x0 x1 x2 x3) = M at hM ⊢
    generalize View.canon (kernelRun0_A.sl.HS2_5 (F := Ideal) c arg3 harg3 arg4 harg4 arg5 harg5 arg6 harg6 arg13 arg14 x0 x1 x2 x3) = A at hA ⊢
    refine (newA_of (i 1).val (i 1).isLt n 2 x4 x5 x6 x7 qp qrp r d _ _ _ c2_val _ _ _ _ _ _ _ _ _ _ _ _ ?_ ?_ ?_ ?_ ?_ ?_ ?_ ?_ ?hq ?hr ?hm ?ha).trans hv.symm
    case hq => intro a e; refine Eq.trans ?_ ((hQ 2 a e).trans (hq 2 a e).symm); pointwise
    case hr => intro a e; refine Eq.trans ?_ ((hR 2 a e).trans (hqr 2 a e).symm); pointwise
    case hm => refine Eq.trans ?_ hM; pointwise
    case ha => refine Eq.trans ?_ hA; pointwise
    all_goals (intros; pointwise)
  case piece2 =>
    obtain rfl : l = 1 := lat_eq (k := 1) l 1 (y 0) (y 0).isLt (by rw [← hY0, hy0]) rfl
    obtain rfl := idx_A y r d (by rw [← hY1, hy1]) (by rw [← hY2, hy2])
    refine Eq.trans (show _ = newA _ _ _ 1 _ _ _ _ _ _ _ _ _ _ _ _ _ _ _ (ix3 0 r d) from rfl) ?_
    rw [show kernelRun0_A.sl.r c i xt0 = n from hn]
    simp only [kernelRun0_A.sl.v300, kernelRun0_A.sl.v721, kernelRun0_A.sl.v710, kernelRun0_A.sl.v701, kernelRun0_A.sl.v366, kernelRun0_A.sl.v680, kernelRun0_A.sl.v297, kernelRun0_A.sl.v677, kernelRun0_A.sl.v688, kernelRun0_A.sl.v267, kernelRun0_A.sl.v264, kernelRun0_A.sl.v633, kernelRun0_A.sl.v666, kernelRun0_A.sl.v754, kernelRun0_A.sl.v644, kernelRun0_A.sl.v636, kernelRun0_A.sl.v789, kernelRun0_A.sl.v363, kernelRun0_A.sl.v724, kernelRun0_A.sl.v768, kernelRun0_A.sl.v745, kernelRun0_A.sl.v657, kernelRun0_A.sl.v776, kernelRun0_A.sl.v765, kernelRun0_A.sl.v732, kernelRun0_A.sl.v798, kernelRun0_A.sl.v333, kernelRun0_A.sl.v330, kernelRun0_A.sl.HS2_6, kernelRun0_A.sl.HS2_7, kernelRun0_A.sl.HS2_8, kernelRun0_A.sl.HS3_6, kernelRun0_A.sl.HS3_7, kernelRun0_A.sl.HS3_8, kernelRun0_A.sl.HS4_6, kernelRun0_A.sl.HS4_7, kernelRun0_A.sl.HS4_8, View.readAt_eq_ld, Memref.IsWhole.read_unread]
    simp (disch := decide) only [View.ld_unit_lit', ↓View.readCov_skip]
    simp only [readCov_ld]
    generalize View.canon (kernelRun0_A.sl.HS0_4 (F := Ideal) c arg3 harg3 x0) = Q at hQ ⊢
    generalize View.canon (kernelRun0_A.sl.HS1_12 (F := Ideal) c arg4 harg4 x1) = R at hR ⊢
    generalize View.canon (kernelRun0_A.sl.HS3_5 (F := Ideal) c arg3 harg3 arg4 harg4 arg5 harg5 arg6 harg6 arg13 arg14 x0 x1 x2 x3) = M at hM ⊢
    generalize View.canon (kernelRun0_A.sl.HS2_5 (F := Ideal) c arg3 harg3 arg4 harg4 arg5 harg5 arg6 harg6 arg13 arg14 x0 x1 x2 x3) = A at hA ⊢
    refine (newA_of (i 1).val (i 1).isLt n 1 x4 x5 x6 x7 qp qrp r d _ _ _ c2_val _ _ _ _ _ _ _ _ _ _ _ _ ?_ ?_ ?_ ?_ ?_ ?_ ?_ ?_ ?hq ?hr ?hm ?ha).trans hv.symm
    case hq => intro a e; refine Eq.trans ?_ ((hQ 1 a e).trans (hq 1 a e).symm); pointwise
    case hr => intro a e; refine Eq.trans ?_ ((hR 1 a e).trans (hqr 1 a e).symm); pointwise
    case hm => refine Eq.trans ?_ hM; pointwise
    case ha => refine Eq.trans ?_ hA; pointwise
    all_goals (intros; pointwise)
  case piece3 =>
    obtain rfl : l = 0 := lat_eq (k := 0) l 0 (y 0) (y 0).isLt (by rw [← hY0, hy0]; exact (Nat.zero_add _).symm) rfl
    obtain rfl := idx_A y r d (by rw [← hY1, hy1]) (by rw [← hY2, hy2])
    refine Eq.trans (show _ = newA _ _ _ 0 _ _ _ _ _ _ _ _ _ _ _ _ _ _ _ (ix3 0 r d) from rfl) ?_
    rw [show kernelRun0_A.sl.r c i xt0 = n from hn]
    simp only [kernelRun0_A.sl.v300, kernelRun0_A.sl.v721, kernelRun0_A.sl.v710, kernelRun0_A.sl.v701, kernelRun0_A.sl.v366, kernelRun0_A.sl.v680, kernelRun0_A.sl.v297, kernelRun0_A.sl.v677, kernelRun0_A.sl.v688, kernelRun0_A.sl.v267, kernelRun0_A.sl.v264, kernelRun0_A.sl.v633, kernelRun0_A.sl.v666, kernelRun0_A.sl.v754, kernelRun0_A.sl.v644, kernelRun0_A.sl.v636, kernelRun0_A.sl.v789, kernelRun0_A.sl.v363, kernelRun0_A.sl.v724, kernelRun0_A.sl.v768, kernelRun0_A.sl.v745, kernelRun0_A.sl.v657, kernelRun0_A.sl.v776, kernelRun0_A.sl.v765, kernelRun0_A.sl.v732, kernelRun0_A.sl.v798, kernelRun0_A.sl.v333, kernelRun0_A.sl.v330, kernelRun0_A.sl.HS2_6, kernelRun0_A.sl.HS2_7, kernelRun0_A.sl.HS2_8, kernelRun0_A.sl.HS3_6, kernelRun0_A.sl.HS3_7, kernelRun0_A.sl.HS3_8, kernelRun0_A.sl.HS4_6, kernelRun0_A.sl.HS4_7, kernelRun0_A.sl.HS4_8, View.readAt_eq_ld, Memref.IsWhole.read_unread]
    simp (disch := decide) only [View.ld_unit_lit', ↓View.readCov_skip]
    simp only [readCov_ld]
    generalize View.canon (kernelRun0_A.sl.HS0_4 (F := Ideal) c arg3 harg3 x0) = Q at hQ ⊢
    generalize View.canon (kernelRun0_A.sl.HS1_12 (F := Ideal) c arg4 harg4 x1) = R at hR ⊢
    generalize View.canon (kernelRun0_A.sl.HS3_5 (F := Ideal) c arg3 harg3 arg4 harg4 arg5 harg5 arg6 harg6 arg13 arg14 x0 x1 x2 x3) = M at hM ⊢
    generalize View.canon (kernelRun0_A.sl.HS2_5 (F := Ideal) c arg3 harg3 arg4 harg4 arg5 harg5 arg6 harg6 arg13 arg14 x0 x1 x2 x3) = A at hA ⊢
    refine (newA_of (i 1).val (i 1).isLt n 0 x4 x5 x6 x7 qp qrp r d _ _ _ c2_val _ _ _ _ _ _ _ _ _ _ _ _ ?_ ?_ ?_ ?_ ?_ ?_ ?_ ?_ ?hq ?hr ?hm ?ha).trans hv.symm
    case hq => intro a e; refine Eq.trans ?_ ((hQ 0 a e).trans (hq 0 a e).symm); pointwise
    case hr => intro a e; refine Eq.trans ?_ ((hR 0 a e).trans (hqr 0 a e).symm); pointwise
    case hm => refine Eq.trans ?_ hM; pointwise
    case ha => refine Eq.trans ?_ hA; pointwise
    all_goals (intros; pointwise)

end Cert.KernelIdeal.Value
end
end
-- ==== Proof.StepC.lean ====
/-
  What a point inside a run leaves in the state when its block holds keys to read: the maximum, the sum of weights and the weighted
  sum of every latent and row, from the state it found and the blocks.
-/
module

public import proofs.«01_k».proof.Proof.Tile
public import proofs.«01_k».proof.Proof.Gen.KernelIdeal.Frame

@[expose] public section

set_option maxRecDepth 16384

noncomputable section

open Idealize.ShloMosaic Idealize.ShloMosaic.TcCoe Idealize.SL.Sem Cert.Online
namespace Cert.KernelIdeal.Value
open Cert.KernelIdeal Cert.KernelIdeal.Gen

/-- At a point inside a run, with keys to read: the new maximum of latent `l`, row `r`. -/
theorem stepM_C (c : Dev nD) (i : grid0.Coords) (arg3 : Memref sig .tc .vmem S1x3x128x256 .bf16) (harg3 : arg3.IsWhole) (arg4 : Memref sig .tc .vmem S1x3x64x128 .bf16) (harg4 : arg4.IsWhole) (arg5 : Memref sig .tc .vmem S1x4x16x256 .bf16) (harg5 : arg5.IsWhole) (arg6 : Memref sig .tc .vmem S1x16x64 .bf16) (harg6 : arg6.IsWhole) (arg7 : Memref sig .tc .vmem S1x512x4x128 .fp8e4m3) (harg7 : arg7.IsWhole) (arg8 : Memref sig .tc .vmem S1x512x4x128 .fp8e4m3) (harg8 : arg8.IsWhole) (arg9 : Memref sig .tc .vmem S1x4x8x512 .i8) (harg9 : arg9.IsWhole) (arg10 : Memref sig .tc .vmem S1x64x512 .bf16) (harg10 : arg10.IsWhole) (arg11 : Memref sig .tc .vmem S1x3x128x256 .bf16) (harg11 : arg11.IsWhole) (arg12 : Memref sig .tc .vmem S1x3x128x1 .f32) (harg12 : arg12.IsWhole) (arg13 : Memref sig .tc .vmem S4x96x256 .bf16) (harg13 : arg13.IsWhole) (arg14 : Memref sig .tc .vmem S4x96x64 .bf16) (harg14 : arg14.IsWhole) (arg15 : Memref sig .tc .vmem S4x96x256 .f32) (harg15 : arg15.IsWhole) (arg16 : Memref sig .tc .vmem S4x96x1 .f32) (harg16 : arg16.IsWhole) (arg17 : Memref sig .tc .vmem S4x96x1 .f32) (harg17 : arg17.IsWhole) (hc0 : ¬cond0_0 i) (hc2 : ¬cond0_2 i)
    (x0 : Vec Ideal S1x3x128x256 .bf16) (x1 : Vec Ideal S1x3x64x128 .bf16) (x2 : Vec Ideal S1x4x16x256 .bf16) (x3 : Vec Ideal S1x16x64 .bf16) (x4 : Vec Ideal S1x512x4x128 .fp8e4m3) (x5 : Vec Ideal S1x512x4x128 .fp8e4m3) (x6 : Vec Ideal S1x4x8x512 .i8) (x7 : Vec Ideal S1x64x512 .bf16) (xt0 : TbBuf0 (F := Ideal) c tbM0_0) (xs0 : Vec Ideal S4x96x256 .bf16) (xs1 : Vec Ideal S4x96x64 .bf16) (xs2 : Vec Ideal S4x96x256 .f32) (xs3 : Vec Ideal S4x96x1 .f32) (xs4 : Vec Ideal S4x96x1 .f32) (hc1 : cond0_1 i (tbM0_0.view.readAt (Elt Ideal) (Rect.unit (s := S12) (k0_off1 i) S1.size (k0_off1_inb i)).toLoadRect xt0 (Shape.Idx.first (numel1_S1.symm ▸ Nat.one_pos)))) (n : BitVec 32)
    (hn : (tbM0_0.view.readAt (Elt Ideal) (Rect.unit (s := S12) (k0_off1 i) S1.size (k0_off1_inb i)).toLoadRect xt0 (Shape.Idx.first (numel1_S1.symm ▸ Nat.one_pos))) = n) (l : Fin 4) (r : Fin 96) :
    sout0_C_3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1 (ix3 l r 0)
      = (max (xs3 (ix3 l r 0) : EReal) (Finset.univ.sup (score x4 x5 x6 x7 n xs0 xs1 (i 1).val l r))) := by
  obtain ⟨v, hv⟩ : ∃ v : EReal, v = (max (xs3 (ix3 l r 0) : EReal) (Finset.univ.sup (score x4 x5 x6 x7 n xs0 xs1 (i 1).val l r))) := ⟨_, rfl⟩
  rw [← hv]
  unfold sout0_C_3
  rw [View.read_writes_eq_canon _ _ _ (scover0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1)]
  unfold kernelRun0_C
  dsimp only
  generalize hY : (ix3 l r 0 : S4x96x1.Idx) = Y
  have hY0 : (Y 0).val = l.val := by rw [← hY]; rfl
  have hY1 : (Y 1).val = r.val := by rw [← hY]; rfl
  clear hY
  canon_tiles y hy
  case piece0 =>
    obtain rfl : l = 3 := lat_eq (k := 3) l 3 (y 0) (y 0).isLt (by rw [← hY0, hy0]) rfl
    obtain rfl := idx_1 y r (by rw [← hY1, hy1])
    refine Eq.trans (show _ = newM _ _ _ 3 _ _ _ _ _ _ _ _ _ _ _ _ _ _ (ix3 0 r 0) from rfl) ?_
    rw [show kernelRun0_C.sl.r c i xt0 = n from hn]
    simp only [kernelRun0_C.sl.v754, kernelRun0_C.sl.v745, kernelRun0_C.sl.v701, kernelRun0_C.sl.v710, kernelRun0_C.sl.v688, kernelRun0_C.sl.v732, kernelRun0_C.sl.v776, kernelRun0_C.sl.v789, kernelRun0_C.sl.v798, View.readAt_eq_ld, Memref.IsWhole.read_unread]
    simp (disch := decide) only [View.ld_unit_lit']
    refine (newM_of (i 1).val (i 1).isLt n 3 x4 x5 x6 x7 xs0 xs1 r (xs3 (ix3 3 r 0)) _ c2_val _ _ _ _ _ _ _ _ _ _ _ ?_ ?_ ?_ ?_ ?_ ?_ ?_ ?_ ?_ ?_ ?_).trans hv.symm
    all_goals (intros; pointwise)
  case piece1 =>
    obtain rfl : l = 2 := lat_eq (k := 2) l 2 (y 0) (y 0).isLt (by rw [← hY0, hy0]) rfl
    obtain rfl := idx_1 y r (by rw [← hY1, hy1])
    refine Eq.trans (show _ = newM _ _ _ 2 _ _ _ _ _ _ _ _ _ _ _ _ _ _ (ix3 0 r 0) from rfl) ?_
    rw [show kernelRun0_C.sl.r c i xt0 = n from hn]
    simp only [kernelRun0_C.sl.v754, kernelRun0_C.sl.v745, kernelRun0_C.sl.v701, kernelRun0_C.sl.v710, kernelRun0_C.sl.v688, kernelRun0_C.sl.v732, kernelRun0_C.sl.v776, kernelRun0_C.sl.v789, kernelRun0_C.sl.v798, View.readAt_eq_ld, Memref.IsWhole.read_unread]
    simp (disch := decide) only [View.ld_unit_lit']
    refine (newM_of (i 1).val (i 1).isLt n 2 x4 x5 x6 x7 xs0 xs1 r (xs3 (ix3 2 r 0)) _ c2_val _ _ _ _ _ _ _ _ _ _ _ ?_ ?_ ?_ ?_ ?_ ?_ ?_ ?_ ?_ ?_ ?_).trans hv.symm
    all_goals (intros; pointwise)
  case piece2 =>
    obtain rfl : l = 1 := lat_eq (k := 1) l 1 (y 0) (y 0).isLt (by rw [← hY0, hy0]) rfl
    obtain rfl := idx_1 y r (by rw [← hY1, hy1])
    refine Eq.trans (show _ = newM _ _ _ 1 _ _ _ _ _ _ _ _ _ _ _ _ _ _ (ix3 0 r 0) from rfl) ?_
    rw [show kernelRun0_C.sl.r c i xt0 = n from hn]
    simp only [kernelRun0_C.sl.v754, kernelRun0_C.sl.v745, kernelRun0_C.sl.v701, kernelRun0_C.sl.v710, kernelRun0_C.sl.v688, kernelRun0_C.sl.v732, kernelRun0_C.sl.v776, kernelRun0_C.sl.v789, kernelRun0_C.sl.v798, View.readAt_eq_ld, Memref.IsWhole.read_unread]
    simp (disch := decide) only [View.ld_unit_lit']
    refine (newM_of (i 1).val (i 1).isLt n 1 x4 x5 x6 x7 xs0 xs1 r (xs3 (ix3 1 r 0)) _ c2_val _ _ _ _ _ _ _ _ _ _ _ ?_ ?_ ?_ ?_ ?_ ?_ ?_ ?_ ?_ ?_ ?_).trans hv.symm
    all_goals (intros; pointwise)
  case piece3 =>
    obtain rfl : l = 0 := lat_eq (k := 0) l 0 (y 0) (y 0).isLt (by rw [← hY0, hy0]; exact (Nat.zero_add _).symm) rfl
    obtain rfl := idx_1 y r (by rw [← hY1, hy1])
    refine Eq.trans (show _ = newM _ _ _ 0 _ _ _ _ _ _ _ _ _ _ _ _ _ _ (ix3 0 r 0) from rfl) ?_
    rw [show kernelRun0_C.sl.r c i xt0 = n from hn]
    simp only [kernelRun0_C.sl.v754, kernelRun0_C.sl.v745, kernelRun0_C.sl.v701, kernelRun0_C.sl.v710, kernelRun0_C.sl.v688, kernelRun0_C.sl.v732, kernelRun0_C.sl.v776, kernelRun0_C.sl.v789, kernelRun0_C.sl.v798, View.readAt_eq_ld, Memref.IsWhole.read_unread]
    simp (disch := decide) only [View.ld_unit_lit']
    refine (newM_of (i 1).val (i 1).isLt n 0 x4 x5 x6 x7 xs0 xs1 r (xs3 (ix3 0 r 0)) _ c2_val _ _ _ _ _ _ _ _ _ _ _ ?_ ?_ ?_ ?_ ?_ ?_ ?_ ?_ ?_ ?_ ?_).trans hv.symm
    all_goals (intros; pointwise)

/-- At a point inside a run, with keys to read: the new sum of weights of latent `l`, row `r`. -/
theorem stepL_C (c : Dev nD) (i : grid0.Coords) (arg3 : Memref sig .tc .vmem S1x3x128x256 .bf16) (harg3 : arg3.IsWhole) (arg4 : Memref sig .tc .vmem S1x3x64x128 .bf16) (harg4 : arg4.IsWhole) (arg5 : Memref sig .tc .vmem S1x4x16x256 .bf16) (harg5 : arg5.IsWhole) (arg6 : Memref sig .tc .vmem S1x16x64 .bf16) (harg6 : arg6.IsWhole) (arg7 : Memref sig .tc .vmem S1x512x4x128 .fp8e4m3) (harg7 : arg7.IsWhole) (arg8 : Memref sig .tc .vmem S1x512x4x128 .fp8e4m3) (harg8 : arg8.IsWhole) (arg9 : Memref sig .tc .vmem S1x4x8x512 .i8) (harg9 : arg9.IsWhole) (arg10 : Memref sig .tc .vmem S1x64x512 .bf16) (harg10 : arg10.IsWhole) (arg11 : Memref sig .tc .vmem S1x3x128x256 .bf16) (harg11 : arg11.IsWhole) (arg12 : Memref sig .tc .vmem S1x3x128x1 .f32) (harg12 : arg12.IsWhole) (arg13 : Memref sig .tc .vmem S4x96x256 .bf16) (harg13 : arg13.IsWhole) (arg14 : Memref sig .tc .vmem S4x96x64 .bf16) (harg14 : arg14.IsWhole) (arg15 : Memref sig .tc .vmem S4x96x256 .f32) (harg15 : arg15.IsWhole) (arg16 : Memref sig .tc .vmem S4x96x1 .f32) (harg16 : arg16.IsWhole) (arg17 : Memref sig .tc .vmem S4x96x1 .f32) (harg17 : arg17.IsWhole) (hc0 : ¬cond0_0 i) (hc2 : ¬cond0_2 i)
    (x0 : Vec Ideal S1x3x128x256 .bf16) (x1 : Vec Ideal S1x3x64x128 .bf16) (x2 : Vec Ideal S1x4x16x256 .bf16) (x3 : Vec Ideal S1x16x64 .bf16) (x4 : Vec Ideal S1x512x4x128 .fp8e4m3) (x5 : Vec Ideal S1x512x4x128 .fp8e4m3) (x6 : Vec Ideal S1x4x8x512 .i8) (x7 : Vec Ideal S1x64x512 .bf16) (xt0 : TbBuf0 (F := Ideal) c tbM0_0) (xs0 : Vec Ideal S4x96x256 .bf16) (xs1 : Vec Ideal S4x96x64 .bf16) (xs2 : Vec Ideal S4x96x256 .f32) (xs3 : Vec Ideal S4x96x1 .f32) (xs4 : Vec Ideal S4x96x1 .f32) (hc1 : cond0_1 i (tbM0_0.view.readAt (Elt Ideal) (Rect.unit (s := S12) (k0_off1 i) S1.size (k0_off1_inb i)).toLoadRect xt0 (Shape.Idx.first (numel1_S1.symm ▸ Nat.one_pos)))) (n : BitVec 32)
    (hn : (tbM0_0.view.readAt (Elt Ideal) (Rect.unit (s := S12) (k0_off1 i) S1.size (k0_off1_inb i)).toLoadRect xt0 (Shape.Idx.first (numel1_S1.symm ▸ Nat.one_pos))) = n) (l : Fin 4) (r : Fin 96) :
    sout0_C_4 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1 (ix3 l r 0)
      = (xs4 (ix3 l r 0) : EReal) * wt (xs3 (ix3 l r 0)) (max (xs3 (ix3 l r 0) : EReal) (Finset.univ.sup (score x4 x5 x6 x7 n xs0 xs1 (i 1).val l r))) + ∑ p : Fin 512, wt ((score x4 x5 x6 x7 n xs0 xs1 (i 1).val l r) p) (max (xs3 (ix3 l r 0) : EReal) (Finset.univ.sup (score x4 x5 x6 x7 n xs0 xs1 (i 1).val l r))) := by
  obtain ⟨v, hv⟩ : ∃ v : EReal, v = (xs4 (ix3 l r 0) : EReal) * wt (xs3 (ix3 l r 0)) (max (xs3 (ix3 l r 0) : EReal) (Finset.univ.sup (score x4 x5 x6 x7 n xs0 xs1 (i 1).val l r))) + ∑ p : Fin 512, wt ((score x4 x5 x6 x7 n xs0 xs1 (i 1).val l r) p) (max (xs3 (ix3 l r 0) : EReal) (Finset.univ.sup (score x4 x5 x6 x7 n xs0 xs1 (i 1).val l r))) := ⟨_, rfl⟩
  rw [← hv]
  unfold sout0_C_4
  rw [View.read_writes_eq_canon _ _ _ (scover0_C_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1)]
  unfold kernelRun0_C
  dsimp only
  generalize hY : (ix3 l r 0 : S4x96x1.Idx) = Y
  have hY0 : (Y 0).val = l.val := by rw [← hY]; rfl
  have hY1 : (Y 1).val = r.val := by rw [← hY]; rfl
  clear hY
  canon_tiles y hy
  case piece0 =>
    obtain rfl : l = 3 := lat_eq (k := 3) l 3 (y 0) (y 0).isLt (by rw [← hY0, hy0]) rfl
    obtain rfl := idx_1 y r (by rw [← hY1, hy1])
    refine Eq.trans (show _ = newL _ _ _ 3 _ _ _ _ _ _ _ _ _ _ _ _ _ _ _ (ix3 0 r 0) from rfl) ?_
    rw [show kernelRun0_C.sl.r c i xt0 = n from hn]
    simp only [kernelRun0_C.sl.v754, kernelRun0_C.sl.v745, kernelRun0_C.sl.v701, kernelRun0_C.sl.v710, kernelRun0_C.sl.v688, kernelRun0_C.sl.v732, kernelRun0_C.sl.v776, kernelRun0_C.sl.v789, kernelRun0_C.sl.v798, View.readAt_eq_ld, Memref.IsWhole.read_unread]
    simp (disch := decide) only [View.ld_unit_lit']
    refine (newL_of (i 1).val (i 1).isLt n 3 x4 x5 x6 x7 xs0 xs1 r (xs3 (ix3 3 r 0)) (xs4 (ix3 3 r 0)) _ c2_val _ _ _ _ _ _ _ _ _ _ _ _ ?_ ?_ ?_ ?_ ?_ ?_ ?_ ?_ ?_ ?_ ?_ ?_).trans hv.symm
    all_goals (intros; pointwise)
  case piece1 =>
    obtain rfl : l = 2 := lat_eq (k := 2) l 2 (y 0) (y 0).isLt (by rw [← hY0, hy0]) rfl
    obtain rfl := idx_1 y r (by rw [← hY1, hy1])
    refine Eq.trans (show _ = newL _ _ _ 2 _ _ _ _ _ _ _ _ _ _ _ _ _ _ _ (ix3 0 r 0) from rfl) ?_
    rw [show kernelRun0_C.sl.r c i xt0 = n from hn]
    simp only [kernelRun0_C.sl.v754, kernelRun0_C.sl.v745, kernelRun0_C.sl.v701, kernelRun0_C.sl.v710, kernelRun0_C.sl.v688, kernelRun0_C.sl.v732, kernelRun0_C.sl.v776, kernelRun0_C.sl.v789, kernelRun0_C.sl.v798, View.readAt_eq_ld, Memref.IsWhole.read_unread]
    simp (disch := decide) only [View.ld_unit_lit']
    refine (newL_of (i 1).val (i 1).isLt n 2 x4 x5 x6 x7 xs0 xs1 r (xs3 (ix3 2 r 0)) (xs4 (ix3 2 r 0)) _ c2_val _ _ _ _ _ _ _ _ _ _ _ _ ?_ ?_ ?_ ?_ ?_ ?_ ?_ ?_ ?_ ?_ ?_ ?_).trans hv.symm
    all_goals (intros; pointwise)
  case piece2 =>
    obtain rfl : l = 1 := lat_eq (k := 1) l 1 (y 0) (y 0).isLt (by rw [← hY0, hy0]) rfl
    obtain rfl := idx_1 y r (by rw [← hY1, hy1])
    refine Eq.trans (show _ = newL _ _ _ 1 _ _ _ _ _ _ _ _ _ _ _ _ _ _ _ (ix3 0 r 0) from rfl) ?_
    rw [show kernelRun0_C.sl.r c i xt0 = n from hn]
    simp only [kernelRun0_C.sl.v754, kernelRun0_C.sl.v745, kernelRun0_C.sl.v701, kernelRun0_C.sl.v710, kernelRun0_C.sl.v688, kernelRun0_C.sl.v732, kernelRun0_C.sl.v776, kernelRun0_C.sl.v789, kernelRun0_C.sl.v798, View.readAt_eq_ld, Memref.IsWhole.read_unread]
    simp (disch := decide) only [View.ld_unit_lit']
    refine (newL_of (i 1).val (i 1).isLt n 1 x4 x5 x6 x7 xs0 xs1 r (xs3 (ix3 1 r 0)) (xs4 (ix3 1 r 0)) _ c2_val _ _ _ _ _ _ _ _ _ _ _ _ ?_ ?_ ?_ ?_ ?_ ?_ ?_ ?_ ?_ ?_ ?_ ?_).trans hv.symm
    all_goals (intros; pointwise)
  case piece3 =>
    obtain rfl : l = 0 := lat_eq (k := 0) l 0 (y 0) (y 0).isLt (by rw [← hY0, hy0]; exact (Nat.zero_add _).symm) rfl
    obtain rfl := idx_1 y r (by rw [← hY1, hy1])
    refine Eq.trans (show _ = newL _ _ _ 0 _ _ _ _ _ _ _ _ _ _ _ _ _ _ _ (ix3 0 r 0) from rfl) ?_
    rw [show kernelRun0_C.sl.r c i xt0 = n from hn]
    simp only [kernelRun0_C.sl.v754, kernelRun0_C.sl.v745, kernelRun0_C.sl.v701, kernelRun0_C.sl.v710, kernelRun0_C.sl.v688, kernelRun0_C.sl.v732, kernelRun0_C.sl.v776, kernelRun0_C.sl.v789, kernelRun0_C.sl.v798, View.readAt_eq_ld, Memref.IsWhole.read_unread]
    simp (disch := decide) only [View.ld_unit_lit']
    refine (newL_of (i 1).val (i 1).isLt n 0 x4 x5 x6 x7 xs0 xs1 r (xs3 (ix3 0 r 0)) (xs4 (ix3 0 r 0)) _ c2_val _ _ _ _ _ _ _ _ _ _ _ _ ?_ ?_ ?_ ?_ ?_ ?_ ?_ ?_ ?_ ?_ ?_ ?_).trans hv.symm
    all_goals (intros; pointwise)

/-- At a point inside a run, with keys to read: the new weighted sum of latent `l`, row `r`. -/
theorem stepA_C (c : Dev nD) (i : grid0.Coords) (arg3 : Memref sig .tc .vmem S1x3x128x256 .bf16) (harg3 : arg3.IsWhole) (arg4 : Memref sig .tc .vmem S1x3x64x128 .bf16) (harg4 : arg4.IsWhole) (arg5 : Memref sig .tc .vmem S1x4x16x256 .bf16) (harg5 : arg5.IsWhole) (arg6 : Memref sig .tc .vmem S1x16x64 .bf16) (harg6 : arg6.IsWhole) (arg7 : Memref sig .tc .vmem S1x512x4x128 .fp8e4m3) (harg7 : arg7.IsWhole) (arg8 : Memref sig .tc .vmem S1x512x4x128 .fp8e4m3) (harg8 : arg8.IsWhole) (arg9 : Memref sig .tc .vmem S1x4x8x512 .i8) (harg9 : arg9.IsWhole) (arg10 : Memref sig .tc .vmem S1x64x512 .bf16) (harg10 : arg10.IsWhole) (arg11 : Memref sig .tc .vmem S1x3x128x256 .bf16) (harg11 : arg11.IsWhole) (arg12 : Memref sig .tc .vmem S1x3x128x1 .f32) (harg12 : arg12.IsWhole) (arg13 : Memref sig .tc .vmem S4x96x256 .bf16) (harg13 : arg13.IsWhole) (arg14 : Memref sig .tc .vmem S4x96x64 .bf16) (harg14 : arg14.IsWhole) (arg15 : Memref sig .tc .vmem S4x96x256 .f32) (harg15 : arg15.IsWhole) (arg16 : Memref sig .tc .vmem S4x96x1 .f32) (harg16 : arg16.IsWhole) (arg17 : Memref sig .tc .vmem S4x96x1 .f32) (harg17 : arg17.IsWhole) (hc0 : ¬cond0_0 i) (hc2 : ¬cond0_2 i)
    (x0 : Vec Ideal S1x3x128x256 .bf16) (x1 : Vec Ideal S1x3x64x128 .bf16) (x2 : Vec Ideal S1x4x16x256 .bf16) (x3 : Vec Ideal S1x16x64 .bf16) (x4 : Vec Ideal S1x512x4x128 .fp8e4m3) (x5 : Vec Ideal S1x512x4x128 .fp8e4m3) (x6 : Vec Ideal S1x4x8x512 .i8) (x7 : Vec Ideal S1x64x512 .bf16) (xt0 : TbBuf0 (F := Ideal) c tbM0_0) (xs0 : Vec Ideal S4x96x256 .bf16) (xs1 : Vec Ideal S4x96x64 .bf16) (xs2 : Vec Ideal S4x96x256 .f32) (xs3 : Vec Ideal S4x96x1 .f32) (xs4 : Vec Ideal S4x96x1 .f32) (hc1 : cond0_1 i (tbM0_0.view.readAt (Elt Ideal) (Rect.unit (s := S12) (k0_off1 i) S1.size (k0_off1_inb i)).toLoadRect xt0 (Shape.Idx.first (numel1_S1.symm ▸ Nat.one_pos)))) (n : BitVec 32)
    (hn : (tbM0_0.view.readAt (Elt Ideal) (Rect.unit (s := S12) (k0_off1 i) S1.size (k0_off1_inb i)).toLoadRect xt0 (Shape.Idx.first (numel1_S1.symm ▸ Nat.one_pos))) = n) (l : Fin 4) (r : Fin 96) (d : Fin 256) :
    sout0_C_2 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1 (ix3 l r d)
      = (xs2 (ix3 l r d) : EReal) * wt (xs3 (ix3 l r 0)) (max (xs3 (ix3 l r 0) : EReal) (Finset.univ.sup (score x4 x5 x6 x7 n xs0 xs1 (i 1).val l r))) + ∑ p : Fin 512, wt ((score x4 x5 x6 x7 n xs0 xs1 (i 1).val l r) p) (max (xs3 (ix3 l r 0) : EReal) (Finset.univ.sup (score x4 x5 x6 x7 n xs0 xs1 (i 1).val l r))) * cache x4 x5 x6 l d p := by
  obtain ⟨v, hv⟩ : ∃ v : EReal, v = (xs2 (ix3 l r d) : EReal) * wt (xs3 (ix3 l r 0)) (max (xs3 (ix3 l r 0) : EReal) (Finset.univ.sup (score x4 x5 x6 x7 n xs0 xs1 (i 1).val l r))) + ∑ p : Fin 512, wt ((score x4 x5 x6 x7 n xs0 xs1 (i 1).val l r) p) (max (xs3 (ix3 l r 0) : EReal) (Finset.univ.sup (score x4 x5 x6 x7 n xs0 xs1 (i 1).val l r))) * cache x4 x5 x6 l d p := ⟨_, rfl⟩
  rw [← hv]
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1)]
  unfold kernelRun0_C
  dsimp only
  generalize hY : (ix3 l r d : S4x96x256.Idx) = Y
  have hY0 : (Y 0).val = l.val := by rw [← hY]; rfl
  have hY1 : (Y 1).val = r.val := by rw [← hY]; rfl
  have hY2 : (Y 2).val = d.val := by rw [← hY]; rfl
  clear hY
  canon_tiles y hy
  case piece0 =>
    obtain rfl : l = 3 := lat_eq (k := 3) l 3 (y 0) (y 0).isLt (by rw [← hY0, hy0]) rfl
    obtain rfl := idx_A y r d (by rw [← hY1, hy1]) (by rw [← hY2, hy2])
    refine Eq.trans (show _ = newA _ _ _ 3 _ _ _ _ _ _ _ _ _ _ _ _ _ _ _ (ix3 0 r d) from rfl) ?_
    rw [show kernelRun0_C.sl.r c i xt0 = n from hn]
    simp only [kernelRun0_C.sl.v754, kernelRun0_C.sl.v745, kernelRun0_C.sl.v701, kernelRun0_C.sl.v710, kernelRun0_C.sl.v688, kernelRun0_C.sl.v732, kernelRun0_C.sl.v776, kernelRun0_C.sl.v789, kernelRun0_C.sl.v798, View.readAt_eq_ld, Memref.IsWhole.read_unread]
    simp (disch := decide) only [View.ld_unit_lit']
    refine (newA_of (i 1).val (i 1).isLt n 3 x4 x5 x6 x7 xs0 xs1 r d (xs3 (ix3 3 r 0)) (xs2 (ix3 3 r d)) _ c2_val _ _ _ _ _ _ _ _ _ _ _ _ ?_ ?_ ?_ ?_ ?_ ?_ ?_ ?_ ?_ ?_ ?_ ?_).trans hv.symm
    all_goals (intros; pointwise)
  case piece1 =>
    obtain rfl : l = 2 := lat_eq (k := 2) l 2 (y 0) (y 0).isLt (by rw [← hY0, hy0]) rfl
    obtain rfl := idx_A y r d (by rw [← hY1, hy1]) (by rw [← hY2, hy2])
    refine Eq.trans (show _ = newA _ _ _ 2 _ _ _ _ _ _ _ _ _ _ _ _ _ _ _ (ix3 0 r d) from rfl) ?_
    rw [show kernelRun0_C.sl.r c i xt0 = n from hn]
    simp only [kernelRun0_C.sl.v754, kernelRun0_C.sl.v745, kernelRun0_C.sl.v701, kernelRun0_C.sl.v710, kernelRun0_C.sl.v688, kernelRun0_C.sl.v732, kernelRun0_C.sl.v776, kernelRun0_C.sl.v789, kernelRun0_C.sl.v798, View.readAt_eq_ld, Memref.IsWhole.read_unread]
    simp (disch := decide) only [View.ld_unit_lit']
    refine (newA_of (i 1).val (i 1).isLt n 2 x4 x5 x6 x7 xs0 xs1 r d (xs3 (ix3 2 r 0)) (xs2 (ix3 2 r d)) _ c2_val _ _ _ _ _ _ _ _ _ _ _ _ ?_ ?_ ?_ ?_ ?_ ?_ ?_ ?_ ?_ ?_ ?_ ?_).trans hv.symm
    all_goals (intros; pointwise)
  case piece2 =>
    obtain rfl : l = 1 := lat_eq (k := 1) l 1 (y 0) (y 0).isLt (by rw [← hY0, hy0]) rfl
    obtain rfl := idx_A y r d (by rw [← hY1, hy1]) (by rw [← hY2, hy2])
    refine Eq.trans (show _ = newA _ _ _ 1 _ _ _ _ _ _ _ _ _ _ _ _ _ _ _ (ix3 0 r d) from rfl) ?_
    rw [show kernelRun0_C.sl.r c i xt0 = n from hn]
    simp only [kernelRun0_C.sl.v754, kernelRun0_C.sl.v745, kernelRun0_C.sl.v701, kernelRun0_C.sl.v710, kernelRun0_C.sl.v688, kernelRun0_C.sl.v732, kernelRun0_C.sl.v776, kernelRun0_C.sl.v789, kernelRun0_C.sl.v798, View.readAt_eq_ld, Memref.IsWhole.read_unread]
    simp (disch := decide) only [View.ld_unit_lit']
    refine (newA_of (i 1).val (i 1).isLt n 1 x4 x5 x6 x7 xs0 xs1 r d (xs3 (ix3 1 r 0)) (xs2 (ix3 1 r d)) _ c2_val _ _ _ _ _ _ _ _ _ _ _ _ ?_ ?_ ?_ ?_ ?_ ?_ ?_ ?_ ?_ ?_ ?_ ?_).trans hv.symm
    all_goals (intros; pointwise)
  case piece3 =>
    obtain rfl : l = 0 := lat_eq (k := 0) l 0 (y 0) (y 0).isLt (by rw [← hY0, hy0]; exact (Nat.zero_add _).symm) rfl
    obtain rfl := idx_A y r d (by rw [← hY1, hy1]) (by rw [← hY2, hy2])
    refine Eq.trans (show _ = newA _ _ _ 0 _ _ _ _ _ _ _ _ _ _ _ _ _ _ _ (ix3 0 r d) from rfl) ?_
    rw [show kernelRun0_C.sl.r c i xt0 = n from hn]
    simp only [kernelRun0_C.sl.v754, kernelRun0_C.sl.v745, kernelRun0_C.sl.v701, kernelRun0_C.sl.v710, kernelRun0_C.sl.v688, kernelRun0_C.sl.v732, kernelRun0_C.sl.v776, kernelRun0_C.sl.v789, kernelRun0_C.sl.v798, View.readAt_eq_ld, Memref.IsWhole.read_unread]
    simp (disch := decide) only [View.ld_unit_lit']
    refine (newA_of (i 1).val (i 1).isLt n 0 x4 x5 x6 x7 xs0 xs1 r d (xs3 (ix3 0 r 0)) (xs2 (ix3 0 r d)) _ c2_val _ _ _ _ _ _ _ _ _ _ _ _ ?_ ?_ ?_ ?_ ?_ ?_ ?_ ?_ ?_ ?_ ?_ ?_).trans hv.symm
    all_goals (intros; pointwise)

end Cert.KernelIdeal.Value
end
end
-- ==== Proof.StepE.lean ====
/-
  What the last point of a run leaves in the state when its block holds keys to read: the maximum, the sum of weights and the weighted
  sum of every latent and row, from the state it found and the blocks.
-/
module

public import proofs.«01_k».proof.Proof.Tile
public import proofs.«01_k».proof.Proof.Gen.KernelIdeal.Frame

@[expose] public section

set_option maxRecDepth 16384

noncomputable section

open Idealize.ShloMosaic Idealize.ShloMosaic.TcCoe Idealize.SL.Sem Cert.Online
namespace Cert.KernelIdeal.Value
open Cert.KernelIdeal Cert.KernelIdeal.Gen

/-- At the last point of a run, with keys to read: the new maximum of latent `l`, row `r`. -/
theorem stepM_E (c : Dev nD) (i : grid0.Coords) (arg3 : Memref sig .tc .vmem S1x3x128x256 .bf16) (harg3 : arg3.IsWhole) (arg4 : Memref sig .tc .vmem S1x3x64x128 .bf16) (harg4 : arg4.IsWhole) (arg5 : Memref sig .tc .vmem S1x4x16x256 .bf16) (harg5 : arg5.IsWhole) (arg6 : Memref sig .tc .vmem S1x16x64 .bf16) (harg6 : arg6.IsWhole) (arg7 : Memref sig .tc .vmem S1x512x4x128 .fp8e4m3) (harg7 : arg7.IsWhole) (arg8 : Memref sig .tc .vmem S1x512x4x128 .fp8e4m3) (harg8 : arg8.IsWhole) (arg9 : Memref sig .tc .vmem S1x4x8x512 .i8) (harg9 : arg9.IsWhole) (arg10 : Memref sig .tc .vmem S1x64x512 .bf16) (harg10 : arg10.IsWhole) (arg11 : Memref sig .tc .vmem S1x3x128x256 .bf16) (harg11 : arg11.IsWhole) (arg12 : Memref sig .tc .vmem S1x3x128x1 .f32) (harg12 : arg12.IsWhole) (arg13 : Memref sig .tc .vmem S4x96x256 .bf16) (harg13 : arg13.IsWhole) (arg14 : Memref sig .tc .vmem S4x96x64 .bf16) (harg14 : arg14.IsWhole) (arg15 : Memref sig .tc .vmem S4x96x256 .f32) (harg15 : arg15.IsWhole) (arg16 : Memref sig .tc .vmem S4x96x1 .f32) (harg16 : arg16.IsWhole) (arg17 : Memref sig .tc .vmem S4x96x1 .f32) (harg17 : arg17.IsWhole) (hc0 : ¬cond0_0 i) (hc2 : cond0_2 i)
    (x0 : Vec Ideal S1x3x128x256 .bf16) (x1 : Vec Ideal S1x3x64x128 .bf16) (x2 : Vec Ideal S1x4x16x256 .bf16) (x3 : Vec Ideal S1x16x64 .bf16) (x4 : Vec Ideal S1x512x4x128 .fp8e4m3) (x5 : Vec Ideal S1x512x4x128 .fp8e4m3) (x6 : Vec Ideal S1x4x8x512 .i8) (x7 : Vec Ideal S1x64x512 .bf16) (xt0 : TbBuf0 (F := Ideal) c tbM0_0) (xs0 : Vec Ideal S4x96x256 .bf16) (xs1 : Vec Ideal S4x96x64 .bf16) (xs2 : Vec Ideal S4x96x256 .f32) (xs3 : Vec Ideal S4x96x1 .f32) (xs4 : Vec Ideal S4x96x1 .f32) (hc1 : cond0_1 i (tbM0_0.view.readAt (Elt Ideal) (Rect.unit (s := S12) (k0_off1 i) S1.size (k0_off1_inb i)).toLoadRect xt0 (Shape.Idx.first (numel1_S1.symm ▸ Nat.one_pos)))) (n : BitVec 32)
    (hn : (tbM0_0.view.readAt (Elt Ideal) (Rect.unit (s := S12) (k0_off1 i) S1.size (k0_off1_inb i)).toLoadRect xt0 (Shape.Idx.first (numel1_S1.symm ▸ Nat.one_pos))) = n) (l : Fin 4) (r : Fin 96) :
    sout0_E_3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1 (ix3 l r 0)
      = (max (xs3 (ix3 l r 0) : EReal) (Finset.univ.sup (score x4 x5 x6 x7 n xs0 xs1 (i 1).val l r))) := by
  obtain ⟨v, hv⟩ : ∃ v : EReal, v = (max (xs3 (ix3 l r 0) : EReal) (Finset.univ.sup (score x4 x5 x6 x7 n xs0 xs1 (i 1).val l r))) := ⟨_, rfl⟩
  rw [← hv]
  unfold sout0_E_3
  rw [View.read_writes_eq_canon _ _ _ (scover0_E_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1)]
  unfold kernelRun0_E
  dsimp only
  unfold kernelRun0_E.sl.HS3_4
  generalize hY : (ix3 l r 0 : S4x96x1.Idx) = Y
  have hY0 : (Y 0).val = l.val := by rw [← hY]; rfl
  have hY1 : (Y 1).val = r.val := by rw [← hY]; rfl
  clear hY
  canon_tiles y hy
  case piece0 =>
    obtain rfl : l = 3 := lat_eq (k := 3) l 3 (y 0) (y 0).isLt (by rw [← hY0, hy0]) rfl
    obtain rfl := idx_1 y r (by rw [← hY1, hy1])
    refine Eq.trans (show _ = newM _ _ _ 3 _ _ _ _ _ _ _ _ _ _ _ _ _ _ (ix3 0 r 0) from rfl) ?_
    rw [show kernelRun0_E.sl.r c i xt0 = n from hn]
    simp only [kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, View.readAt_eq_ld, Memref.IsWhole.read_unread]
    simp (disch := decide) only [View.ld_unit_lit']
    refine (newM_of (i 1).val (i 1).isLt n 3 x4 x5 x6 x7 xs0 xs1 r (xs3 (ix3 3 r 0)) _ c2_val _ _ _ _ _ _ _ _ _ _ _ ?_ ?_ ?_ ?_ ?_ ?_ ?_ ?_ ?_ ?_ ?_).trans hv.symm
    all_goals (intros; pointwise)
  case piece1 =>
    obtain rfl : l = 2 := lat_eq (k := 2) l 2 (y 0) (y 0).isLt (by rw [← hY0, hy0]) rfl
    obtain rfl := idx_1 y r (by rw [← hY1, hy1])
    refine Eq.trans (show _ = newM _ _ _ 2 _ _ _ _ _ _ _ _ _ _ _ _ _ _ (ix3 0 r 0) from rfl) ?_
    rw [show kernelRun0_E.sl.r c i xt0 = n from hn]
    simp only [kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, View.readAt_eq_ld, Memref.IsWhole.read_unread]
    simp (disch := decide) only [View.ld_unit_lit']
    refine (newM_of (i 1).val (i 1).isLt n 2 x4 x5 x6 x7 xs0 xs1 r (xs3 (ix3 2 r 0)) _ c2_val _ _ _ _ _ _ _ _ _ _ _ ?_ ?_ ?_ ?_ ?_ ?_ ?_ ?_ ?_ ?_ ?_).trans hv.symm
    all_goals (intros; pointwise)
  case piece2 =>
    obtain rfl : l = 1 := lat_eq (k := 1) l 1 (y 0) (y 0).isLt (by rw [← hY0, hy0]) rfl
    obtain rfl := idx_1 y r (by rw [← hY1, hy1])
    refine Eq.trans (show _ = newM _ _ _ 1 _ _ _ _ _ _ _ _ _ _ _ _ _ _ (ix3 0 r 0) from rfl) ?_
    rw [show kernelRun0_E.sl.r c i xt0 = n from hn]
    simp only [kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, View.readAt_eq_ld, Memref.IsWhole.read_unread]
    simp (disch := decide) only [View.ld_unit_lit']
    refine (newM_of (i 1).val (i 1).isLt n 1 x4 x5 x6 x7 xs0 xs1 r (xs3 (ix3 1 r 0)) _ c2_val _ _ _ _ _ _ _ _ _ _ _ ?_ ?_ ?_ ?_ ?_ ?_ ?_ ?_ ?_ ?_ ?_).trans hv.symm
    all_goals (intros; pointwise)
  case piece3 =>
    obtain rfl : l = 0 := lat_eq (k := 0) l 0 (y 0) (y 0).isLt (by rw [← hY0, hy0]; exact (Nat.zero_add _).symm) rfl
    obtain rfl := idx_1 y r (by rw [← hY1, hy1])
    refine Eq.trans (show _ = newM _ _ _ 0 _ _ _ _ _ _ _ _ _ _ _ _ _ _ (ix3 0 r 0) from rfl) ?_
    rw [show kernelRun0_E.sl.r c i xt0 = n from hn]
    simp only [kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, View.readAt_eq_ld, Memref.IsWhole.read_unread]
    simp (disch := decide) only [View.ld_unit_lit']
    refine (newM_of (i 1).val (i 1).isLt n 0 x4 x5 x6 x7 xs0 xs1 r (xs3 (ix3 0 r 0)) _ c2_val _ _ _ _ _ _ _ _ _ _ _ ?_ ?_ ?_ ?_ ?_ ?_ ?_ ?_ ?_ ?_ ?_).trans hv.symm
    all_goals (intros; pointwise)

/-- At the last point of a run, with keys to read: the new sum of weights of latent `l`, row `r`. -/
theorem stepL_E (c : Dev nD) (i : grid0.Coords) (arg3 : Memref sig .tc .vmem S1x3x128x256 .bf16) (harg3 : arg3.IsWhole) (arg4 : Memref sig .tc .vmem S1x3x64x128 .bf16) (harg4 : arg4.IsWhole) (arg5 : Memref sig .tc .vmem S1x4x16x256 .bf16) (harg5 : arg5.IsWhole) (arg6 : Memref sig .tc .vmem S1x16x64 .bf16) (harg6 : arg6.IsWhole) (arg7 : Memref sig .tc .vmem S1x512x4x128 .fp8e4m3) (harg7 : arg7.IsWhole) (arg8 : Memref sig .tc .vmem S1x512x4x128 .fp8e4m3) (harg8 : arg8.IsWhole) (arg9 : Memref sig .tc .vmem S1x4x8x512 .i8) (harg9 : arg9.IsWhole) (arg10 : Memref sig .tc .vmem S1x64x512 .bf16) (harg10 : arg10.IsWhole) (arg11 : Memref sig .tc .vmem S1x3x128x256 .bf16) (harg11 : arg11.IsWhole) (arg12 : Memref sig .tc .vmem S1x3x128x1 .f32) (harg12 : arg12.IsWhole) (arg13 : Memref sig .tc .vmem S4x96x256 .bf16) (harg13 : arg13.IsWhole) (arg14 : Memref sig .tc .vmem S4x96x64 .bf16) (harg14 : arg14.IsWhole) (arg15 : Memref sig .tc .vmem S4x96x256 .f32) (harg15 : arg15.IsWhole) (arg16 : Memref sig .tc .vmem S4x96x1 .f32) (harg16 : arg16.IsWhole) (arg17 : Memref sig .tc .vmem S4x96x1 .f32) (harg17 : arg17.IsWhole) (hc0 : ¬cond0_0 i) (hc2 : cond0_2 i)
    (x0 : Vec Ideal S1x3x128x256 .bf16) (x1 : Vec Ideal S1x3x64x128 .bf16) (x2 : Vec Ideal S1x4x16x256 .bf16) (x3 : Vec Ideal S1x16x64 .bf16) (x4 : Vec Ideal S1x512x4x128 .fp8e4m3) (x5 : Vec Ideal S1x512x4x128 .fp8e4m3) (x6 : Vec Ideal S1x4x8x512 .i8) (x7 : Vec Ideal S1x64x512 .bf16) (xt0 : TbBuf0 (F := Ideal) c tbM0_0) (xs0 : Vec Ideal S4x96x256 .bf16) (xs1 : Vec Ideal S4x96x64 .bf16) (xs2 : Vec Ideal S4x96x256 .f32) (xs3 : Vec Ideal S4x96x1 .f32) (xs4 : Vec Ideal S4x96x1 .f32) (hc1 : cond0_1 i (tbM0_0.view.readAt (Elt Ideal) (Rect.unit (s := S12) (k0_off1 i) S1.size (k0_off1_inb i)).toLoadRect xt0 (Shape.Idx.first (numel1_S1.symm ▸ Nat.one_pos)))) (n : BitVec 32)
    (hn : (tbM0_0.view.readAt (Elt Ideal) (Rect.unit (s := S12) (k0_off1 i) S1.size (k0_off1_inb i)).toLoadRect xt0 (Shape.Idx.first (numel1_S1.symm ▸ Nat.one_pos))) = n) (l : Fin 4) (r : Fin 96) :
    sout0_E_4 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1 (ix3 l r 0)
      = (xs4 (ix3 l r 0) : EReal) * wt (xs3 (ix3 l r 0)) (max (xs3 (ix3 l r 0) : EReal) (Finset.univ.sup (score x4 x5 x6 x7 n xs0 xs1 (i 1).val l r))) + ∑ p : Fin 512, wt ((score x4 x5 x6 x7 n xs0 xs1 (i 1).val l r) p) (max (xs3 (ix3 l r 0) : EReal) (Finset.univ.sup (score x4 x5 x6 x7 n xs0 xs1 (i 1).val l r))) := by
  obtain ⟨v, hv⟩ : ∃ v : EReal, v = (xs4 (ix3 l r 0) : EReal) * wt (xs3 (ix3 l r 0)) (max (xs3 (ix3 l r 0) : EReal) (Finset.univ.sup (score x4 x5 x6 x7 n xs0 xs1 (i 1).val l r))) + ∑ p : Fin 512, wt ((score x4 x5 x6 x7 n xs0 xs1 (i 1).val l r) p) (max (xs3 (ix3 l r 0) : EReal) (Finset.univ.sup (score x4 x5 x6 x7 n xs0 xs1 (i 1).val l r))) := ⟨_, rfl⟩
  rw [← hv]
  unfold sout0_E_4
  rw [View.read_writes_eq_canon _ _ _ (scover0_E_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1)]
  unfold kernelRun0_E
  dsimp only
  unfold kernelRun0_E.sl.HS4_4
  generalize hY : (ix3 l r 0 : S4x96x1.Idx) = Y
  have hY0 : (Y 0).val = l.val := by rw [← hY]; rfl
  have hY1 : (Y 1).val = r.val := by rw [← hY]; rfl
  clear hY
  canon_tiles y hy
  case piece0 =>
    obtain rfl : l = 3 := lat_eq (k := 3) l 3 (y 0) (y 0).isLt (by rw [← hY0, hy0]) rfl
    obtain rfl := idx_1 y r (by rw [← hY1, hy1])
    refine Eq.trans (show _ = newL _ _ _ 3 _ _ _ _ _ _ _ _ _ _ _ _ _ _ _ (ix3 0 r 0) from rfl) ?_
    rw [show kernelRun0_E.sl.r c i xt0 = n from hn]
    simp only [kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, View.readAt_eq_ld, Memref.IsWhole.read_unread]
    simp (disch := decide) only [View.ld_unit_lit']
    refine (newL_of (i 1).val (i 1).isLt n 3 x4 x5 x6 x7 xs0 xs1 r (xs3 (ix3 3 r 0)) (xs4 (ix3 3 r 0)) _ c2_val _ _ _ _ _ _ _ _ _ _ _ _ ?_ ?_ ?_ ?_ ?_ ?_ ?_ ?_ ?_ ?_ ?_ ?_).trans hv.symm
    all_goals (intros; pointwise)
  case piece1 =>
    obtain rfl : l = 2 := lat_eq (k := 2) l 2 (y 0) (y 0).isLt (by rw [← hY0, hy0]) rfl
    obtain rfl := idx_1 y r (by rw [← hY1, hy1])
    refine Eq.trans (show _ = newL _ _ _ 2 _ _ _ _ _ _ _ _ _ _ _ _ _ _ _ (ix3 0 r 0) from rfl) ?_
    rw [show kernelRun0_E.sl.r c i xt0 = n from hn]
    simp only [kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, View.readAt_eq_ld, Memref.IsWhole.read_unread]
    simp (disch := decide) only [View.ld_unit_lit']
    refine (newL_of (i 1).val (i 1).isLt n 2 x4 x5 x6 x7 xs0 xs1 r (xs3 (ix3 2 r 0)) (xs4 (ix3 2 r 0)) _ c2_val _ _ _ _ _ _ _ _ _ _ _ _ ?_ ?_ ?_ ?_ ?_ ?_ ?_ ?_ ?_ ?_ ?_ ?_).trans hv.symm
    all_goals (intros; pointwise)
  case piece2 =>
    obtain rfl : l = 1 := lat_eq (k := 1) l 1 (y 0) (y 0).isLt (by rw [← hY0, hy0]) rfl
    obtain rfl := idx_1 y r (by rw [← hY1, hy1])
    refine Eq.trans (show _ = newL _ _ _ 1 _ _ _ _ _ _ _ _ _ _ _ _ _ _ _ (ix3 0 r 0) from rfl) ?_
    rw [show kernelRun0_E.sl.r c i xt0 = n from hn]
    simp only [kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, View.readAt_eq_ld, Memref.IsWhole.read_unread]
    simp (disch := decide) only [View.ld_unit_lit']
    refine (newL_of (i 1).val (i 1).isLt n 1 x4 x5 x6 x7 xs0 xs1 r (xs3 (ix3 1 r 0)) (xs4 (ix3 1 r 0)) _ c2_val _ _ _ _ _ _ _ _ _ _ _ _ ?_ ?_ ?_ ?_ ?_ ?_ ?_ ?_ ?_ ?_ ?_ ?_).trans hv.symm
    all_goals (intros; pointwise)
  case piece3 =>
    obtain rfl : l = 0 := lat_eq (k := 0) l 0 (y 0) (y 0).isLt (by rw [← hY0, hy0]; exact (Nat.zero_add _).symm) rfl
    obtain rfl := idx_1 y r (by rw [← hY1, hy1])
    refine Eq.trans (show _ = newL _ _ _ 0 _ _ _ _ _ _ _ _ _ _ _ _ _ _ _ (ix3 0 r 0) from rfl) ?_
    rw [show kernelRun0_E.sl.r c i xt0 = n from hn]
    simp only [kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, View.readAt_eq_ld, Memref.IsWhole.read_unread]
    simp (disch := decide) only [View.ld_unit_lit']
    refine (newL_of (i 1).val (i 1).isLt n 0 x4 x5 x6 x7 xs0 xs1 r (xs3 (ix3 0 r 0)) (xs4 (ix3 0 r 0)) _ c2_val _ _ _ _ _ _ _ _ _ _ _ _ ?_ ?_ ?_ ?_ ?_ ?_ ?_ ?_ ?_ ?_ ?_ ?_).trans hv.symm
    all_goals (intros; pointwise)

/-- At the last point of a run, with keys to read: the new weighted sum of latent `l`, row `r`. -/
theorem stepA_E (c : Dev nD) (i : grid0.Coords) (arg3 : Memref sig .tc .vmem S1x3x128x256 .bf16) (harg3 : arg3.IsWhole) (arg4 : Memref sig .tc .vmem S1x3x64x128 .bf16) (harg4 : arg4.IsWhole) (arg5 : Memref sig .tc .vmem S1x4x16x256 .bf16) (harg5 : arg5.IsWhole) (arg6 : Memref sig .tc .vmem S1x16x64 .bf16) (harg6 : arg6.IsWhole) (arg7 : Memref sig .tc .vmem S1x512x4x128 .fp8e4m3) (harg7 : arg7.IsWhole) (arg8 : Memref sig .tc .vmem S1x512x4x128 .fp8e4m3) (harg8 : arg8.IsWhole) (arg9 : Memref sig .tc .vmem S1x4x8x512 .i8) (harg9 : arg9.IsWhole) (arg10 : Memref sig .tc .vmem S1x64x512 .bf16) (harg10 : arg10.IsWhole) (arg11 : Memref sig .tc .vmem S1x3x128x256 .bf16) (harg11 : arg11.IsWhole) (arg12 : Memref sig .tc .vmem S1x3x128x1 .f32) (harg12 : arg12.IsWhole) (arg13 : Memref sig .tc .vmem S4x96x256 .bf16) (harg13 : arg13.IsWhole) (arg14 : Memref sig .tc .vmem S4x96x64 .bf16) (harg14 : arg14.IsWhole) (arg15 : Memref sig .tc .vmem S4x96x256 .f32) (harg15 : arg15.IsWhole) (arg16 : Memref sig .tc .vmem S4x96x1 .f32) (harg16 : arg16.IsWhole) (arg17 : Memref sig .tc .vmem S4x96x1 .f32) (harg17 : arg17.IsWhole) (hc0 : ¬cond0_0 i) (hc2 : cond0_2 i)
    (x0 : Vec Ideal S1x3x128x256 .bf16) (x1 : Vec Ideal S1x3x64x128 .bf16) (x2 : Vec Ideal S1x4x16x256 .bf16) (x3 : Vec Ideal S1x16x64 .bf16) (x4 : Vec Ideal S1x512x4x128 .fp8e4m3) (x5 : Vec Ideal S1x512x4x128 .fp8e4m3) (x6 : Vec Ideal S1x4x8x512 .i8) (x7 : Vec Ideal S1x64x512 .bf16) (xt0 : TbBuf0 (F := Ideal) c tbM0_0) (xs0 : Vec Ideal S4x96x256 .bf16) (xs1 : Vec Ideal S4x96x64 .bf16) (xs2 : Vec Ideal S4x96x256 .f32) (xs3 : Vec Ideal S4x96x1 .f32) (xs4 : Vec Ideal S4x96x1 .f32) (hc1 : cond0_1 i (tbM0_0.view.readAt (Elt Ideal) (Rect.unit (s := S12) (k0_off1 i) S1.size (k0_off1_inb i)).toLoadRect xt0 (Shape.Idx.first (numel1_S1.symm ▸ Nat.one_pos)))) (n : BitVec 32)
    (hn : (tbM0_0.view.readAt (Elt Ideal) (Rect.unit (s := S12) (k0_off1 i) S1.size (k0_off1_inb i)).toLoadRect xt0 (Shape.Idx.first (numel1_S1.symm ▸ Nat.one_pos))) = n) (l : Fin 4) (r : Fin 96) (d : Fin 256) :
    sout0_E_2 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1 (ix3 l r d)
      = (xs2 (ix3 l r d) : EReal) * wt (xs3 (ix3 l r 0)) (max (xs3 (ix3 l r 0) : EReal) (Finset.univ.sup (score x4 x5 x6 x7 n xs0 xs1 (i 1).val l r))) + ∑ p : Fin 512, wt ((score x4 x5 x6 x7 n xs0 xs1 (i 1).val l r) p) (max (xs3 (ix3 l r 0) : EReal) (Finset.univ.sup (score x4 x5 x6 x7 n xs0 xs1 (i 1).val l r))) * cache x4 x5 x6 l d p := by
  obtain ⟨v, hv⟩ : ∃ v : EReal, v = (xs2 (ix3 l r d) : EReal) * wt (xs3 (ix3 l r 0)) (max (xs3 (ix3 l r 0) : EReal) (Finset.univ.sup (score x4 x5 x6 x7 n xs0 xs1 (i 1).val l r))) + ∑ p : Fin 512, wt ((score x4 x5 x6 x7 n xs0 xs1 (i 1).val l r) p) (max (xs3 (ix3 l r 0) : EReal) (Finset.univ.sup (score x4 x5 x6 x7 n xs0 xs1 (i 1).val l r))) * cache x4 x5 x6 l d p := ⟨_, rfl⟩
  rw [← hv]
  unfold sout0_E_2
  rw [View.read_writes_eq_canon _ _ _ (scover0_E_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1)]
  unfold kernelRun0_E
  dsimp only
  unfold kernelRun0_E.sl.HS2_4
  generalize hY : (ix3 l r d : S4x96x256.Idx) = Y
  have hY0 : (Y 0).val = l.val := by rw [← hY]; rfl
  have hY1 : (Y 1).val = r.val := by rw [← hY]; rfl
  have hY2 : (Y 2).val = d.val := by rw [← hY]; rfl
  clear hY
  canon_tiles y hy
  case piece0 =>
    obtain rfl : l = 3 := lat_eq (k := 3) l 3 (y 0) (y 0).isLt (by rw [← hY0, hy0]) rfl
    obtain rfl := idx_A y r d (by rw [← hY1, hy1]) (by rw [← hY2, hy2])
    refine Eq.trans (show _ = newA _ _ _ 3 _ _ _ _ _ _ _ _ _ _ _ _ _ _ _ (ix3 0 r d) from rfl) ?_
    rw [show kernelRun0_E.sl.r c i xt0 = n from hn]
    simp only [kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, View.readAt_eq_ld, Memref.IsWhole.read_unread]
    simp (disch := decide) only [View.ld_unit_lit']
    refine (newA_of (i 1).val (i 1).isLt n 3 x4 x5 x6 x7 xs0 xs1 r d (xs3 (ix3 3 r 0)) (xs2 (ix3 3 r d)) _ c2_val _ _ _ _ _ _ _ _ _ _ _ _ ?_ ?_ ?_ ?_ ?_ ?_ ?_ ?_ ?_ ?_ ?_ ?_).trans hv.symm
    all_goals (intros; pointwise)
  case piece1 =>
    obtain rfl : l = 2 := lat_eq (k := 2) l 2 (y 0) (y 0).isLt (by rw [← hY0, hy0]) rfl
    obtain rfl := idx_A y r d (by rw [← hY1, hy1]) (by rw [← hY2, hy2])
    refine Eq.trans (show _ = newA _ _ _ 2 _ _ _ _ _ _ _ _ _ _ _ _ _ _ _ (ix3 0 r d) from rfl) ?_
    rw [show kernelRun0_E.sl.r c i xt0 = n from hn]
    simp only [kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, View.readAt_eq_ld, Memref.IsWhole.read_unread]
    simp (disch := decide) only [View.ld_unit_lit']
    refine (newA_of (i 1).val (i 1).isLt n 2 x4 x5 x6 x7 xs0 xs1 r d (xs3 (ix3 2 r 0)) (xs2 (ix3 2 r d)) _ c2_val _ _ _ _ _ _ _ _ _ _ _ _ ?_ ?_ ?_ ?_ ?_ ?_ ?_ ?_ ?_ ?_ ?_ ?_).trans hv.symm
    all_goals (intros; pointwise)
  case piece2 =>
    obtain rfl : l = 1 := lat_eq (k := 1) l 1 (y 0) (y 0).isLt (by rw [← hY0, hy0]) rfl
    obtain rfl := idx_A y r d (by rw [← hY1, hy1]) (by rw [← hY2, hy2])
    refine Eq.trans (show _ = newA _ _ _ 1 _ _ _ _ _ _ _ _ _ _ _ _ _ _ _ (ix3 0 r d) from rfl) ?_
    rw [show kernelRun0_E.sl.r c i xt0 = n from hn]
    simp only [kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, View.readAt_eq_ld, Memref.IsWhole.read_unread]
    simp (disch := decide) only [View.ld_unit_lit']
    refine (newA_of (i 1).val (i 1).isLt n 1 x4 x5 x6 x7 xs0 xs1 r d (xs3 (ix3 1 r 0)) (xs2 (ix3 1 r d)) _ c2_val _ _ _ _ _ _ _ _ _ _ _ _ ?_ ?_ ?_ ?_ ?_ ?_ ?_ ?_ ?_ ?_ ?_ ?_).trans hv.symm
    all_goals (intros; pointwise)
  case piece3 =>
    obtain rfl : l = 0 := lat_eq (k := 0) l 0 (y 0) (y 0).isLt (by rw [← hY0, hy0]; exact (Nat.zero_add _).symm) rfl
    obtain rfl := idx_A y r d (by rw [← hY1, hy1]) (by rw [← hY2, hy2])
    refine Eq.trans (show _ = newA _ _ _ 0 _ _ _ _ _ _ _ _ _ _ _ _ _ _ _ (ix3 0 r d) from rfl) ?_
    rw [show kernelRun0_E.sl.r c i xt0 = n from hn]
    simp only [kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, View.readAt_eq_ld, Memref.IsWhole.read_unread]
    simp (disch := decide) only [View.ld_unit_lit']
    refine (newA_of (i 1).val (i 1).isLt n 0 x4 x5 x6 x7 xs0 xs1 r d (xs3 (ix3 0 r 0)) (xs2 (ix3 0 r d)) _ c2_val _ _ _ _ _ _ _ _ _ _ _ _ ?_ ?_ ?_ ?_ ?_ ?_ ?_ ?_ ?_ ?_ ?_ ?_).trans hv.symm
    all_goals (intros; pointwise)

end Cert.KernelIdeal.Value
end
end
-- ==== Proof.Blocks.lean ====
/-
  The blocks a grid point of `KernelIdeal` reads, as elements of the argument arrays.
-/
module

public import proofs.«01_k».proof.Proof.Gen.KernelIdeal.Frame
public import proofs.«01_k».proof.Proof.OkKernelIdeal
public import proofs.«01_k».proof.Proof.Step
public import Idealize.ShloMosaic.Lib.Claim
public import Idealize.ShloMosaic.Lib.StableHlo.RunRead
public import Idealize.ShloMosaic.Lib.Tactic.CleanTypes

@[expose] public section

set_option maxRecDepth 16384

noncomputable section

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ)

/-- The grid coordinates of a point. -/
theorem coords_val : ∀ t : Fin grid0.N, (grid0.coords t 0).val = t.val / 48 ∧ (grid0.coords t 1).val = t.val % 48 ∧ t.val / 48 < 12 :=
  (by decide +kernel : ∀ t : Fin grid0.N, _)

/-- The cached position of key `p` of block `k`. -/
def pos (k : ℕ) (p : Fin 512) : Fin 24576 := ⟨512 * (k % 48) + p.val, by omega⟩

/-- A column of the first half of a latent. -/
def lo (d : Fin 128) : Fin 256 := ⟨d.val, by omega⟩

/-- A column of the second half of a latent. -/
def hi (d : Fin 128) : Fin 256 := ⟨d.val + 128, by omega⟩

/-- The sequence of a point. -/
def bOf (t : Fin grid0.N) : Fin 12 := ⟨t.val / 48, (coords_val t).2.2⟩

/-- The length word of a point's sequence. -/
theorem lenW_eq (t : Fin grid0.N) : lenW (tbl m) (grid0.coords t) = m (((0 : Dev nD) : Thread nD τ).loc main_arg7) (ix1 (bOf t)) := by
  refine (congrFun (V_main_arg7 m 0) _).trans (congrArg (m _) (funext fun a => Fin.ext ?_))
  have he : ∀ a : Fin 1, ((Rect.unit (s := S12) (k0_off1 (grid0.coords t)) S1.size (k0_off1_inb (grid0.coords t))).emb (Shape.Idx.first (numel1_S1.symm ▸ Nat.one_pos)) a : ℕ) = (ix1 (bOf t)) a := fun a => by
    match a with
    | 0 => show (BitVec.ofNat 32 (grid0.coords t 0).val).toNat + 1 * 0 = t.val / 48; rw [batch_toNat, (coords_val t).1]; omega
  exact he a

/-- The length word of a point's sequence, as the body reads it. -/
theorem len_eq (t : Fin grid0.N) : tbM0_0.view.readAt (Elt Ideal) (Rect.unit (s := S12) (k0_off1 (grid0.coords t)) S1.size (k0_off1_inb (grid0.coords t))).toLoadRect (tbl m 0) (Shape.Idx.first (numel1_S1.symm ▸ Nat.one_pos)) = m (((0 : Dev nD) : Thread nD τ).loc main_arg7) (ix1 (bOf t)) :=
  lenW_eq m t

/-- An active point reads its own block of the cache. -/
theorem blk_at (t : Fin grid0.N) (ha : (512 * (t.val % 48 : ℕ) : ℤ) < (m (((0 : Dev nD) : Thread nD τ).loc main_arg7) (ix1 (bOf t)) : BitVec 32).toInt) :
    (Word.blk (BitVec.ofNat 32 (grid0.coords t 1).val) (lenW (tbl m) (grid0.coords t))).toNat = t.val % 48 := by
  rw [lenW_eq, (coords_val t).2.1]
  exact Word.blk_eq _ (by omega) _ ha

/-- The rotary queries, transposed. -/
theorem V_6 (c : Dev nD) (s : Fin 3) (h : Fin 128) (d : Fin 64) (b : Fin 12) : V m c main_v6 (ix4 b s d h)
    = m ((c : Thread nD τ).loc main_arg1) (ix4 b s h d) := by
  unfold V
  simp only [hostOps0, hostOps0_1, hostOps0_2, hostOps0_3, hostOps0_4, List.flatten_cons, List.flatten_nil,
    List.cons_append, List.nil_append, List.append_nil]
  after_reads_simp
  pointwise

/-- The scale bytes, transposed. -/
theorem V_4 (c : Dev nD) (l : Fin 4) (g : Fin 8) (p : Fin 24576) (b : Fin 12) : V m c main_v4 (ix4 b l g p)
    = m ((c : Thread nD τ).loc main_arg5) (ix4 b p l g) := by
  unfold V
  simp only [hostOps0, hostOps0_1, hostOps0_2, hostOps0_3, hostOps0_4, List.flatten_cons, List.flatten_nil,
    List.cons_append, List.nil_append, List.append_nil]
  after_reads_simp
  pointwise

/-- The rotary keys, transposed. -/
theorem V_5 (c : Dev nD) (r : Fin 64) (p : Fin 24576) (b : Fin 12) : V m c main_v5 (ix3 b r p)
    = m ((c : Thread nD τ).loc main_arg6) (ix3 b p r) := by
  unfold V
  simp only [hostOps0, hostOps0_1, hostOps0_2, hostOps0_3, hostOps0_4, List.flatten_cons, List.flatten_nil,
    List.cons_append, List.nil_append, List.append_nil]
  after_reads_simp
  pointwise

/-- The padded latents at a token, over any array. -/
theorem pad_2 (x : Vec Ideal S144x256 .bf16) (v : Vec Ideal S_ .bf16) (l : Fin 4) (j : Fin 16) (hj : j.val < 3) (d : Fin 256)
    (b : Fin 12) : pad S12x4x16x256 ![0, 0, 0, 0] ![0, 0, 13, 0] ![0, 0, 0, 0]
        (transpose S12x4x3x256 [0, 2, 1, 3] (shapeCast S12x3x4x256 x shapeCasts_S144x256_S12x3x4x256)
          transposes_S12x3x4x256_S12x4x3x256_0_2_1_3) v pads_S12x4x3x256_S12x4x16x256_000_000_0130_000 h_S_ (ix4 b l j d)
      = x (ix2 ⟨b.val * 12 + j.val * 4 + l.val, by omega⟩ d) := by
  pointwise
  rw [dif_pos hj]

/-- The padded rotary keys at a token, over any array. -/
theorem pad_3 (x : Vec Ideal S12x3x64 .bf16) (v : Vec Ideal S_ .bf16) (j : Fin 16) (hj : j.val < 3) (d : Fin 64)
    (b : Fin 12) : pad S12x16x64 ![0, 0, 0] ![0, 13, 0] ![0, 0, 0] x v pads_S12x3x64_S12x16x64_000_0130_000 h_S_ (ix3 b j d)
      = x (ix3 b ⟨j.val, hj⟩ d) := by
  pointwise
  rw [dif_pos hj]

/-- The new tokens' latents, padded to sixteen tokens. -/
theorem V_2 (c : Dev nD) (l : Fin 4) (j : Fin 16) (hj : j.val < 3) (d : Fin 256) (b : Fin 12) : V m c main_v2 (ix4 b l j d)
    = m ((c : Thread nD τ).loc main_arg2) (ix2 ⟨b.val * 12 + j.val * 4 + l.val, by omega⟩ d) := by
  unfold V
  simp only [hostOps0, hostOps0_1, hostOps0_2, hostOps0_3, hostOps0_4, List.flatten_cons, List.flatten_nil,
    List.cons_append, List.nil_append, List.append_nil]
  after_reads_simp
  exact pad_2 _ _ l j hj d b

/-- The new tokens' rotary keys, padded to sixteen tokens. -/
theorem V_3 (c : Dev nD) (j : Fin 16) (hj : j.val < 3) (d : Fin 64) (b : Fin 12) : V m c main_v3 (ix3 b j d)
    = m ((c : Thread nD τ).loc main_arg3) (ix3 b ⟨j.val, hj⟩ d) := by
  unfold V
  simp only [hostOps0, hostOps0_1, hostOps0_2, hostOps0_3, hostOps0_4, List.flatten_cons, List.flatten_nil,
    List.cons_append, List.nil_append, List.append_nil]
  after_reads_simp
  exact pad_3 _ _ j hj d b

/-- The queries. -/
theorem iblk_0 (hO : Ok m) (c : Dev nD) (t : Fin (cfgM m hO).N)  (s : Fin 3) (h : Fin 128) (d : Fin 256) :
    iblk m hO c 0 t (ix4 0 s h d) = m ((c : Thread nD τ).loc main_arg0) (ix4 (bOf t) s h d) := by
  refine Eq.trans (b := V m c main_arg0 (ix4 (bOf t) s h d)) (congrArg (V m c main_arg0) (funext fun a => Fin.ext ?_)) (congrFun (V_main_arg0 m c) _)
  have he : ∀ a : Fin 4, ((((cfgM m hO).win 0).blk t).view.emb (ix4 0 s h d) a : ℕ) = (ix4 (bOf t) s h d : Shape.Idx _) a := fun a => by
    match a with
    | 0 => show (BitVec.ofNat 32 (grid0.coords t 0).val).toNat * 1 + 1 * 0 = t.val / 48; rw [batch_toNat, (coords_val t).1]; omega
    | 1 => show 0 * 3 + 1 * s.val = s.val; omega
    | 2 => show 0 * 128 + 1 * h.val = h.val; omega
    | 3 => show 0 * 256 + 1 * d.val = d.val; omega
  exact he a

/-- The rotary queries. -/
theorem iblk_1 (hO : Ok m) (c : Dev nD) (t : Fin (cfgM m hO).N)  (s : Fin 3) (d : Fin 64) (h : Fin 128) :
    iblk m hO c 1 t (ix4 0 s d h) = m ((c : Thread nD τ).loc main_arg1) (ix4 (bOf t) s h d) := by
  refine Eq.trans (b := V m c main_v6 (ix4 (bOf t) s d h)) (congrArg (V m c main_v6) (funext fun a => Fin.ext ?_)) (V_6 m c s h d (bOf t))
  have he : ∀ a : Fin 4, ((((cfgM m hO).win 1).blk t).view.emb (ix4 0 s d h) a : ℕ) = (ix4 (bOf t) s d h : Shape.Idx _) a := fun a => by
    match a with
    | 0 => show (BitVec.ofNat 32 (grid0.coords t 0).val).toNat * 1 + 1 * 0 = t.val / 48; rw [batch_toNat, (coords_val t).1]; omega
    | 1 => show 0 * 3 + 1 * s.val = s.val; omega
    | 2 => show 0 * 64 + 1 * d.val = d.val; omega
    | 3 => show 0 * 128 + 1 * h.val = h.val; omega
  exact he a

/-- The new tokens' latents. -/
theorem iblk_2 (hO : Ok m) (c : Dev nD) (t : Fin (cfgM m hO).N)  (l : Fin 4) (j : Fin 16) (hj : j.val < 3) (d : Fin 256) :
    iblk m hO c 2 t (ix4 0 l j d) = m ((c : Thread nD τ).loc main_arg2) (ix2 ⟨(bOf t).val * 12 + j.val * 4 + l.val, by have := (bOf t).isLt; omega⟩ d) := by
  refine Eq.trans (b := V m c main_v2 (ix4 (bOf t) l j d)) (congrArg (V m c main_v2) (funext fun a => Fin.ext ?_)) (V_2 m c l j hj d (bOf t))
  have he : ∀ a : Fin 4, ((((cfgM m hO).win 2).blk t).view.emb (ix4 0 l j d) a : ℕ) = (ix4 (bOf t) l j d : Shape.Idx _) a := fun a => by
    match a with
    | 0 => show (BitVec.ofNat 32 (grid0.coords t 0).val).toNat * 1 + 1 * 0 = t.val / 48; rw [batch_toNat, (coords_val t).1]; omega
    | 1 => show 0 * 4 + 1 * l.val = l.val; omega
    | 2 => show 0 * 16 + 1 * j.val = j.val; omega
    | 3 => show 0 * 256 + 1 * d.val = d.val; omega
  exact he a

/-- The new tokens' rotary keys. -/
theorem iblk_3 (hO : Ok m) (c : Dev nD) (t : Fin (cfgM m hO).N)  (j : Fin 16) (hj : j.val < 3) (d : Fin 64) :
    iblk m hO c 3 t (ix3 0 j d) = m ((c : Thread nD τ).loc main_arg3) (ix3 (bOf t) ⟨j.val, hj⟩ d) := by
  refine Eq.trans (b := V m c main_v3 (ix3 (bOf t) j d)) (congrArg (V m c main_v3) (funext fun a => Fin.ext ?_)) (V_3 m c j hj d (bOf t))
  have he : ∀ a : Fin 3, ((((cfgM m hO).win 3).blk t).view.emb (ix3 0 j d) a : ℕ) = (ix3 (bOf t) j d : Shape.Idx _) a := fun a => by
    match a with
    | 0 => show (BitVec.ofNat 32 (grid0.coords t 0).val).toNat * 1 + 1 * 0 = t.val / 48; rw [batch_toNat, (coords_val t).1]; omega
    | 1 => show 0 * 16 + 1 * j.val = j.val; omega
    | 2 => show 0 * 64 + 1 * d.val = d.val; omega
  exact he a

/-- The first half of the codes. -/
theorem iblk_4 (hO : Ok m) (c : Dev nD) (t : Fin (cfgM m hO).N) (ha : (512 * (t.val % 48 : ℕ) : ℤ) < (m (((0 : Dev nD) : Thread nD τ).loc main_arg7) (ix1 (bOf t)) : BitVec 32).toInt) (p : Fin 512) (l : Fin 4) (d : Fin 128) :
    iblk m hO c 4 t (ix4 0 p l d) = m ((c : Thread nD τ).loc main_arg4) (ix4 (bOf t) (pos t.val p) l (lo d)) := by
  refine Eq.trans (b := V m c main_arg4 (ix4 (bOf t) (pos t.val p) l (lo d))) (congrArg (V m c main_arg4) (funext fun a => Fin.ext ?_)) (congrFun (V_main_arg4 m c) _)
  have he : ∀ a : Fin 4, ((((cfgM m hO).win 4).blk t).view.emb (ix4 0 p l d) a : ℕ) = (ix4 (bOf t) (pos t.val p) l (lo d) : Shape.Idx _) a := fun a => by
    match a with
    | 0 => show (BitVec.ofNat 32 (grid0.coords t 0).val).toNat * 1 + 1 * 0 = t.val / 48; rw [batch_toNat, (coords_val t).1]; omega
    | 1 => show (Word.blk (BitVec.ofNat 32 (grid0.coords t 1).val) (lenW (tbl m) (grid0.coords t))).toNat * 512 + 1 * p.val = 512 * (t.val % 48) + p.val; rw [blk_at m t ha]; omega
    | 2 => show 0 * 4 + 1 * l.val = l.val; omega
    | 3 => show 0 * 128 + 1 * d.val = d.val; omega
  exact he a

/-- The second half of the codes. -/
theorem iblk_5 (hO : Ok m) (c : Dev nD) (t : Fin (cfgM m hO).N) (ha : (512 * (t.val % 48 : ℕ) : ℤ) < (m (((0 : Dev nD) : Thread nD τ).loc main_arg7) (ix1 (bOf t)) : BitVec 32).toInt) (p : Fin 512) (l : Fin 4) (d : Fin 128) :
    iblk m hO c 5 t (ix4 0 p l d) = m ((c : Thread nD τ).loc main_arg4) (ix4 (bOf t) (pos t.val p) l (hi d)) := by
  refine Eq.trans (b := V m c main_arg4 (ix4 (bOf t) (pos t.val p) l (hi d))) (congrArg (V m c main_arg4) (funext fun a => Fin.ext ?_)) (congrFun (V_main_arg4 m c) _)
  have he : ∀ a : Fin 4, ((((cfgM m hO).win 5).blk t).view.emb (ix4 0 p l d) a : ℕ) = (ix4 (bOf t) (pos t.val p) l (hi d) : Shape.Idx _) a := fun a => by
    match a with
    | 0 => show (BitVec.ofNat 32 (grid0.coords t 0).val).toNat * 1 + 1 * 0 = t.val / 48; rw [batch_toNat, (coords_val t).1]; omega
    | 1 => show (Word.blk (BitVec.ofNat 32 (grid0.coords t 1).val) (lenW (tbl m) (grid0.coords t))).toNat * 512 + 1 * p.val = 512 * (t.val % 48) + p.val; rw [blk_at m t ha]; omega
    | 2 => show 0 * 4 + 1 * l.val = l.val; omega
    | 3 => show 1 * 128 + 1 * d.val = d.val + 128; omega
  exact he a

/-- The scale bytes. -/
theorem iblk_6 (hO : Ok m) (c : Dev nD) (t : Fin (cfgM m hO).N) (ha : (512 * (t.val % 48 : ℕ) : ℤ) < (m (((0 : Dev nD) : Thread nD τ).loc main_arg7) (ix1 (bOf t)) : BitVec 32).toInt) (l : Fin 4) (g : Fin 8) (p : Fin 512) :
    iblk m hO c 6 t (ix4 0 l g p) = m ((c : Thread nD τ).loc main_arg5) (ix4 (bOf t) (pos t.val p) l g) := by
  refine Eq.trans (b := V m c main_v4 (ix4 (bOf t) l g (pos t.val p))) (congrArg (V m c main_v4) (funext fun a => Fin.ext ?_)) (V_4 m c l g _ (bOf t))
  have he : ∀ a : Fin 4, ((((cfgM m hO).win 6).blk t).view.emb (ix4 0 l g p) a : ℕ) = (ix4 (bOf t) l g (pos t.val p) : Shape.Idx _) a := fun a => by
    match a with
    | 0 => show (BitVec.ofNat 32 (grid0.coords t 0).val).toNat * 1 + 1 * 0 = t.val / 48; rw [batch_toNat, (coords_val t).1]; omega
    | 1 => show 0 * 4 + 1 * l.val = l.val; omega
    | 2 => show 0 * 8 + 1 * g.val = g.val; omega
    | 3 => show (Word.blk (BitVec.ofNat 32 (grid0.coords t 1).val) (lenW (tbl m) (grid0.coords t))).toNat * 512 + 1 * p.val = 512 * (t.val % 48) + p.val; rw [blk_at m t ha]; omega
  exact he a

/-- The rotary keys. -/
theorem iblk_7 (hO : Ok m) (c : Dev nD) (t : Fin (cfgM m hO).N) (ha : (512 * (t.val % 48 : ℕ) : ℤ) < (m (((0 : Dev nD) : Thread nD τ).loc main_arg7) (ix1 (bOf t)) : BitVec 32).toInt) (r : Fin 64) (p : Fin 512) :
    iblk m hO c 7 t (ix3 0 r p) = m ((c : Thread nD τ).loc main_arg6) (ix3 (bOf t) (pos t.val p) r) := by
  refine Eq.trans (b := V m c main_v5 (ix3 (bOf t) r (pos t.val p))) (congrArg (V m c main_v5) (funext fun a => Fin.ext ?_)) (V_5 m c r _ (bOf t))
  have he : ∀ a : Fin 3, ((((cfgM m hO).win 7).blk t).view.emb (ix3 0 r p) a : ℕ) = (ix3 (bOf t) r (pos t.val p) : Shape.Idx _) a := fun a => by
    match a with
    | 0 => show (BitVec.ofNat 32 (grid0.coords t 0).val).toNat * 1 + 1 * 0 = t.val / 48; rw [batch_toNat, (coords_val t).1]; omega
    | 1 => show 0 * 64 + 1 * r.val = r.val; omega
    | 2 => show (Word.blk (BitVec.ofNat 32 (grid0.coords t 1).val) (lenW (tbl m) (grid0.coords t))).toNat * 512 + 1 * p.val = 512 * (t.val % 48) + p.val; rw [blk_at m t ha]; omega
  exact he a

end Cert.KernelIdeal.Value

end
end
-- ==== Proof.State.lean ====
/-
  The state after a grid point of `KernelIdeal`, over the argument arrays: the running maximum, the running sum of weights and
  the running weighted sum of the blocks read so far.
-/
module

public import proofs.«01_k».proof.Proof.StartB
public import proofs.«01_k».proof.Proof.StepA
public import proofs.«01_k».proof.Proof.StepC
public import proofs.«01_k».proof.Proof.StepE
public import proofs.«01_k».proof.Proof.Blocks
public import proofs.«01_k».proof.Proof.Online

@[expose] public section

set_option maxRecDepth 16384

noncomputable section

open Idealize.ShloMosaic Idealize.ShloMosaic.TcCoe Idealize.SL.Sem Cert.Online
namespace Cert.KernelIdeal.Value
open Cert.KernelIdeal Cert.KernelIdeal.Gen

section

variable (a0 : Vec Ideal S12x3x128x256 .bf16) (a1 : Vec Ideal S12x3x128x64 .bf16) (a2 : Vec Ideal S144x256 .bf16)
  (a3 : Vec Ideal S12x3x64 .bf16) (a4 : Vec Ideal S12x24576x4x256 .fp8e4m3) (a5 : Vec Ideal S12x24576x4x8 .i8)
  (a6 : Vec Ideal S12x24576x64 .bf16) (a7 : Vec Ideal S12 .i32) (b : Fin 12) (l : Fin 4) (i : Fin 96)

/-- The query of row `i` of latent `l` of sequence `b`, its columns permuted. -/
def qK (d : Fin 256) : EReal := a0 (ix4 b ⟨i.val / 32, by omega⟩ ⟨32 * l.val + i.val % 32, by omega⟩ (perm d))

/-- The rotary query of row `i` of latent `l` of sequence `b`. -/
def qrK (r : Fin 64) : EReal := a1 (ix4 b ⟨i.val / 32, by omega⟩ ⟨32 * l.val + i.val % 32, by omega⟩ r)

/-- The cached latent `l` of a position, its columns permuted: the code times its scale. -/
def cK (s : Fin 24576) (d : Fin 256) : EReal :=
  (a4 (ix4 b s l (perm d)) : EReal) * pow2 (a5 (ix4 b s l ⟨d.val / 32, by omega⟩))

/-- A cached latent from its code and its scale byte, whichever half of the codes it lies in. -/
theorem cache_of (x4 x5 : Vec Ideal S1x512x4x128 .fp8e4m3) (x6 : Vec Ideal S1x4x8x512 .i8) (d : Fin 256) (p : Fin 512)
    (v : EReal) (s : BitVec 8) (h4 : ∀ h : (perm d).val < 128, (x4 (ix4 0 p l ⟨(perm d).val, h⟩) : EReal) = v)
    (h5 : ∀ h : ¬ (perm d).val < 128, (x5 (ix4 0 p l ⟨(perm d).val - 128, by have := (perm d).isLt; omega⟩) : EReal) = v)
    (h6 : x6 (ix4 0 l ⟨d.val / 32, by omega⟩ p) = s) : cache x4 x5 x6 l d p = v * pow2 s := by
  unfold cache
  rw [h6]
  by_cases h : (perm d).val < 128
  · rw [dif_pos h, h4 h]
  · rw [dif_neg h, h5 h]

/-- The masked score against key `p` of block `k` of the cache. -/
def scK (k : ℕ) (p : Fin 512) : EReal :=
  if (512 * k + p.val : ℤ) < (a7 (ix1 b) : BitVec 32).toInt then
    ((∑ d : Fin 256, qK a0 b l i d * cK a4 a5 b l (pos k p) d) + ∑ r : Fin 64, qrK a1 b l i r * (a6 (ix3 b (pos k p) r) : EReal)) * c2
  else ⊥

/-- Latent `l` of new token `j`, its columns permuted; zero past the third token. -/
def vnK (d : Fin 256) (j : Fin 16) : EReal :=
  if h : j.val < 3 then (a2 (ix2 ⟨b.val * 12 + j.val * 4 + l.val, by omega⟩ (perm d)) : EReal) else 0

/-- Latent `l` of one of the three new tokens. -/
theorem vnK_of (d : Fin 256) (j : Fin 16) (h : j.val < 3) :
    vnK a2 b l d j = a2 (ix2 ⟨b.val * 12 + j.val * 4 + l.val, by omega⟩ (perm d)) := dif_pos h

/-- The masked score against new token `j`. -/
def snK (j : Fin 16) : EReal :=
  if h : j.val ≤ i.val / 32 ∧ j.val < 3 then
    ((∑ d : Fin 256, qK a0 b l i d * vnK a2 b l d j) + ∑ r : Fin 64, qrK a1 b l i r * (a3 (ix3 b ⟨j.val, h.2⟩ r) : EReal)) * c2
  else ⊥

/-- What the state holds of sequence `b` once `k` blocks of the cache are read. -/
def St (k : ℕ) (qp : Vec Ideal S4x96x256 .bf16) (qrp : Vec Ideal S4x96x64 .bf16) (av : Vec Ideal S4x96x256 .f32)
    (mv lv : Vec Ideal S4x96x1 .f32) : Prop :=
  (∀ l i d, qp (ix3 l i d) = qK a0 b l i d) ∧ (∀ l i r, qrp (ix3 l i r) = qrK a1 b l i r)
  ∧ (∀ l i d, av (ix3 l i d) = tot (snK a0 a1 a2 a3 b l i) (scK a0 a1 a4 a5 a6 a7 b l i) (vnK a2 b l d) (fun k p => cK a4 a5 b l (pos k p) d) k)
  ∧ (∀ l i, mv (ix3 l i 0) = mx (snK a0 a1 a2 a3 b l i) (scK a0 a1 a4 a5 a6 a7 b l i) k)
  ∧ ∀ l i, lv (ix3 l i 0) = tot (snK a0 a1 a2 a3 b l i) (scK a0 a1 a4 a5 a6 a7 b l i) (fun _ => 1) (fun _ _ => 1) k

/-- A block without a visible position leaves the state as it is. -/
theorem St_skip (k : ℕ) (qp : Vec Ideal S4x96x256 .bf16) (qrp : Vec Ideal S4x96x64 .bf16) (av : Vec Ideal S4x96x256 .f32)
    (mv lv : Vec Ideal S4x96x1 .f32) (hk : ¬ (512 * k : ℤ) < (a7 (ix1 b) : BitVec 32).toInt)
    (h : St a0 a1 a2 a3 a4 a5 a6 a7 b k qp qrp av mv lv) : St a0 a1 a2 a3 a4 a5 a6 a7 b (k + 1) qp qrp av mv lv := by
  obtain ⟨h1, h2, h3, h4, h5⟩ := h
  have hs : ∀ l i p, scK a0 a1 a4 a5 a6 a7 b l i k p = ⊥ := fun l i p => by rw [scK, if_neg (by omega)]
  refine ⟨h1, h2, fun l i d => ?_, fun l i => ?_, fun l i => ?_⟩
  · rw [h3, tot_skip _ _ _ _ _ (hs l i)]
  · rw [h4, mx_skip _ _ _ (hs l i)]
  · rw [h5, tot_skip _ _ _ _ _ (hs l i)]

end

section

variable (m : (ℓ : Loc nD τ sig) → Buf (Elt Ideal) ℓ) (c : Dev nD)

/-- The argument arrays on a core. -/
abbrev A0 : Vec Ideal S12x3x128x256 .bf16 := m ((c : Thread nD τ).loc main_arg0)
abbrev A1 : Vec Ideal S12x3x128x64 .bf16 := m ((c : Thread nD τ).loc main_arg1)
abbrev A2 : Vec Ideal S144x256 .bf16 := m ((c : Thread nD τ).loc main_arg2)
abbrev A3 : Vec Ideal S12x3x64 .bf16 := m ((c : Thread nD τ).loc main_arg3)
abbrev A4 : Vec Ideal S12x24576x4x256 .fp8e4m3 := m ((c : Thread nD τ).loc main_arg4)
abbrev A5 : Vec Ideal S12x24576x4x8 .i8 := m ((c : Thread nD τ).loc main_arg5)
abbrev A6 : Vec Ideal S12x24576x64 .bf16 := m ((c : Thread nD τ).loc main_arg6)
abbrev A7 : Vec Ideal S12 .i32 := m (((0 : Dev nD) : Thread nD τ).loc main_arg7)

variable (hO : Ok m) (t : Fin (cfgM m hO).N)

theorem qI_eq (l : Fin 4) (i : Fin 96) (d : Fin 256) : qI (iblk m hO c 0 t) l i d = qK (A0 m c) (bOf t) l i d :=
  iblk_0 m hO c t _ _ _

theorem qrI_eq (l : Fin 4) (i : Fin 96) (r : Fin 64) : qrI (iblk m hO c 1 t) l i r = qrK (A1 m c) (bOf t) l i r :=
  iblk_1 m hO c t _ _ _

theorem ns_eq (l : Fin 4) (i : Fin 96) : ns (iblk m hO c 0 t) (iblk m hO c 1 t) (iblk m hO c 2 t) (iblk m hO c 3 t) l i
    = snK (A0 m c) (A1 m c) (A2 m c) (A3 m c) (bOf t) l i := by
  funext j
  unfold ns snK
  by_cases h : j.val ≤ i.val / 32 ∧ j.val < 3
  · rw [if_pos h, dif_pos h]
    refine congrArg₂ (· * ·) (congrArg₂ (· + ·) (Finset.sum_congr rfl fun d _ => ?_) (Finset.sum_congr rfl fun r _ => ?_)) rfl
    · exact congrArg₂ (· * ·) (qI_eq m c hO t l i d) ((iblk_2 m hO c t l j h.2 (perm d)).trans (vnK_of (A2 m c) (bOf t) l d j h.2).symm)
    · exact congrArg₂ (· * ·) (qrI_eq m c hO t l i r) (iblk_3 m hO c t j h.2 r)
  · rw [if_neg h, dif_neg h]

theorem vn_eq (l : Fin 4) (i : Fin 96) (d : Fin 256) (M : EReal) (x2 : Vec Ideal S1x4x16x256 .bf16)
    (hx : ∀ j : Fin 16, j.val < 3 → (x2 (ix4 0 l j (perm d)) : EReal) = vnK (A2 m c) (bOf t) l d j) :
    (∑ j : Fin 16, wt (snK (A0 m c) (A1 m c) (A2 m c) (A3 m c) (bOf t) l i j) M * (x2 (ix4 0 l j (perm d)) : EReal))
    = ∑ j : Fin 16, wt (snK (A0 m c) (A1 m c) (A2 m c) (A3 m c) (bOf t) l i j) M * vnK (A2 m c) (bOf t) l d j := by
  refine Finset.sum_congr rfl fun j _ => ?_
  by_cases h : j.val < 3
  · rw [hx j h]
  · rw [snK, dif_neg (fun e => h e.2), wt_bot, zero_mul, zero_mul]

theorem x2_eq (l : Fin 4) (d : Fin 256) (j : Fin 16) (h : j.val < 3) :
    iblk m hO c 2 t (ix4 0 l j (perm d)) = vnK (A2 m c) (bOf t) l d j :=
  (iblk_2 m hO c t l j h (perm d)).trans (vnK_of (A2 m c) (bOf t) l d j h).symm

variable (ha : (512 * (t.val % 48 : ℕ) : ℤ) < (A7 m (ix1 (bOf t)) : BitVec 32).toInt)

include ha

theorem cache_eq (l : Fin 4) (d : Fin 256) (p : Fin 512) :
    cache (iblk m hO c 4 t) (iblk m hO c 5 t) (iblk m hO c 6 t) l d p = cK (A4 m c) (A5 m c) (bOf t) l (pos (t.val % 48) p) d := by
  have hp : pos (t.val % 48) p = pos t.val p := Fin.ext (by show 512 * (t.val % 48 % 48) + p.val = 512 * (t.val % 48) + p.val; omega)
  rw [hp]
  refine cache_of l _ _ _ d p _ _ (fun h => ?_) (fun h => ?_) (iblk_6 m hO c t ha l _ p)
  · exact (iblk_4 m hO c t ha p l _).trans (congrArg (A4 m c) (congrArg (ix4 _ _ _) (Fin.ext rfl)))
  · exact (iblk_5 m hO c t ha p l _).trans (congrArg (A4 m c) (congrArg (ix4 _ _ _) (Fin.ext (by
      show (perm d).val - 128 + 128 = (perm d).val; omega))))

theorem score_eq (k : ℕ) (hk : k = t.val % 48) (qp : Vec Ideal S4x96x256 .bf16) (qrp : Vec Ideal S4x96x64 .bf16)
    (hq : ∀ l i d, qp (ix3 l i d) = qK (A0 m c) (bOf t) l i d) (hqr : ∀ l i r, qrp (ix3 l i r) = qrK (A1 m c) (bOf t) l i r)
    (l : Fin 4) (i : Fin 96) :
    score (iblk m hO c 4 t) (iblk m hO c 5 t) (iblk m hO c 6 t) (iblk m hO c 7 t) (A7 m (ix1 (bOf t))) qp qrp k l i
      = scK (A0 m c) (A1 m c) (A4 m c) (A5 m c) (A6 m c) (A7 m) (bOf t) l i (t.val % 48) := by
  subst hk
  funext p
  have hp : pos (t.val % 48) p = pos t.val p := Fin.ext (by show 512 * (t.val % 48 % 48) + p.val = 512 * (t.val % 48) + p.val; omega)
  unfold score scK
  refine if_congr Iff.rfl ?_ rfl
  refine congrArg₂ (· * ·) (congrArg₂ (· + ·) (Finset.sum_congr rfl fun d _ => ?_) (Finset.sum_congr rfl fun r _ => ?_)) rfl
  · exact congrArg₂ (· * ·) (hq l i d) (cache_eq m c hO t ha l d p)
  · rw [hp]
    exact congrArg₂ (· * ·) (hqr l i r) (iblk_7 m hO c t ha r p)

end

end Cert.KernelIdeal.Value
end
end
-- ==== Proof.Pt.lean ====
/-
  One grid point of `KernelIdeal` takes the state one block on, case by case.
-/
module

public import proofs.«01_k».proof.Proof.State

@[expose] public section

set_option maxRecDepth 16384

noncomputable section

open Idealize.ShloMosaic Idealize.ShloMosaic.TcCoe Idealize.SL.Sem Cert.Online
namespace Cert.KernelIdeal.Value
open Cert.KernelIdeal Cert.KernelIdeal.Gen

variable (m : (ℓ : Loc nD τ sig) → Buf (Elt Ideal) ℓ) (c : Dev nD)

/-- A point whose condition holds has a visible position in its block. -/
theorem cond_iff (t : Fin grid0.N) (w : BitVec 32) : cond0_1 (grid0.coords t) w ↔ (512 * (t.val % 48 : ℕ) : ℤ) < w.toInt := by
  have h1 : (Scalar.muli (BitVec.ofNat 32 (grid0.coords t 1).val) 512#32).toInt = 512 * (t.val % 48 : ℕ) := by
    rw [(coords_val t).2.1]
    have : ∀ k : Fin 48, (Scalar.muli (BitVec.ofNat 32 k.val) 512#32).toInt = 512 * (k.val : ℕ) := by decide
    exact this ⟨t.val % 48, by omega⟩
  rw [← h1]
  unfold cond0_1
  generalize Scalar.muli (BitVec.ofNat 32 ↑(grid0.coords t 1)) 512#32 = x
  show Scalar.cmpi .ne (Scalar.extui (BitVec.ofBool (decide (x.toInt < w.toInt)))) 0#32 = 1#1 ↔ _
  by_cases h : x.toInt < w.toInt
  · rw [decide_eq_true h]; exact ⟨fun _ => h, fun _ => by decide⟩
  · rw [decide_eq_false h]; exact ⟨fun e => absurd e (by decide), fun e => absurd e h⟩

section

variable {n : ℕ} (sn : Fin n → EReal) (sc : ℕ → Fin 512 → EReal) (vn : Fin n → EReal) (vc : ℕ → Fin 512 → EReal) (k : ℕ)
  (A M : EReal) (S C : Fin 512 → EReal)

/-- One more block in the maximum, from the printed step. -/
theorem mx_step (hM : M = mx sn sc k) (hS : S = sc k) : max M (Finset.univ.sup S) = mx sn sc (k + 1) := by
  rw [mx_succ, hM, hS]

/-- One more block in a weighted sum, from the printed step. -/
theorem tot_step (hA : A = tot sn sc vn vc k) (hM : M = mx sn sc k) (hS : S = sc k) (hC : ∀ p, C p = vc k p) :
    A * wt M (max M (Finset.univ.sup S)) + ∑ p, wt (S p) (max M (Finset.univ.sup S)) * C p = tot sn sc vn vc (k + 1) := by
  rw [tot_succ, mx_succ, hA, hM, hS]
  simp only [hC]

/-- One more block in a sum of weights, from the printed step. -/
theorem one_step (hA : A = tot sn sc (fun _ => 1) (fun _ _ => 1) k) (hM : M = mx sn sc k) (hS : S = sc k) :
    A * wt M (max M (Finset.univ.sup S)) + ∑ p, wt (S p) (max M (Finset.univ.sup S))
      = tot sn sc (fun _ => 1) (fun _ _ => 1) (k + 1) := by
  rw [tot_succ, mx_succ, hA, hM, hS]
  simp only [mul_one]

end

/-- The state after a point, as a statement. -/
abbrev Good (hO : Ok m) (t : ℕ) (h : t < (cfgM m hO).N) : Prop :=
  St (A0 m c) (A1 m c) (A2 m c) (A3 m c) (A4 m c) (A5 m c) (A6 m c) (A7 m) (bOf ⟨t, h⟩) (t % 48 + 1)
    (outsAt0 m hO c t h).2.2.1 (outsAt0 m hO c t h).2.2.2.1 (outsAt0 m hO c t h).2.2.2.2.1
    (outsAt0 m hO c t h).2.2.2.2.2.1 (outsAt0 m hO c t h).2.2.2.2.2.2

/-- The state before a point inside a run. -/
abbrev Prev (hO : Ok m) (t : Fin (cfgM m hO).N) : Prop :=
  St (A0 m c) (A1 m c) (A2 m c) (A3 m c) (A4 m c) (A5 m c) (A6 m c) (A7 m) (bOf t) (t.val % 48)
    (outsAt0 m hO c (t.val - 1) (Nat.lt_of_le_of_lt (Nat.sub_le _ _) t.isLt)).2.2.1
    (outsAt0 m hO c (t.val - 1) (Nat.lt_of_le_of_lt (Nat.sub_le _ _) t.isLt)).2.2.2.1
    (outsAt0 m hO c (t.val - 1) (Nat.lt_of_le_of_lt (Nat.sub_le _ _) t.isLt)).2.2.2.2.1
    (outsAt0 m hO c (t.val - 1) (Nat.lt_of_le_of_lt (Nat.sub_le _ _) t.isLt)).2.2.2.2.2.1
    (outsAt0 m hO c (t.val - 1) (Nat.lt_of_le_of_lt (Nat.sub_le _ _) t.isLt)).2.2.2.2.2.2

/-- The length word a point's body reads. -/
abbrev lenR (t : Fin grid0.N) : BitVec 32 := tbM0_0.view.readAt (Elt Ideal) (Rect.unit (s := S12) (k0_off1 (grid0.coords t)) S1.size (k0_off1_inb (grid0.coords t))).toLoadRect (tbl m 0) (Shape.Idx.first (numel1_S1.symm ▸ Nat.one_pos))

variable (hO : Ok m) (t : Fin (cfgM m hO).N)

set_option maxHeartbeats 1600000 in
/-- A point of case D takes the state one block on. -/
theorem good_D (h0 : ¬ t.val % 48 = 0) (h1 : ¬ cond0_1 (grid0.coords t) (lenR m t)) (h2 : ¬ t.val % 48 = 47) (hp : Prev m c hO t) :
    Good m c hO t.val t.isLt := by
  have hk : ¬ (512 * (t.val % 48 : ℕ) : ℤ) < (A7 m (ix1 (bOf t)) : BitVec 32).toInt := fun h => h1 ((cond_iff t _).mpr (by rw [lenR, len_eq]; exact h))
  unfold Good
  rw [outsAt0_D m hO c t h0 h1 h2]
  dsimp only
  exact St_skip _ _ _ _ _ _ _ _ _ _ _ _ _ _ _ hk hp

set_option maxHeartbeats 1600000 in
/-- A point of case C takes the state one block on. -/
theorem good_C (h0 : ¬ t.val % 48 = 0) (h1 : cond0_1 (grid0.coords t) (lenR m t)) (h2 : ¬ t.val % 48 = 47) (hp : Prev m c hO t) :
    Good m c hO t.val t.isLt := by
  have hk : (512 * (t.val % 48 : ℕ) : ℤ) < (A7 m (ix1 (bOf t)) : BitVec 32).toInt := by have := (cond_iff t _).mp h1; rw [lenR, len_eq] at this; exact this
  have hc1 : (grid0.coords t 1).val = t.val % 48 := (coords_val t).2.1
  unfold Good
  rw [outsAt0_C m hO c t h0 h1 h2]
  dsimp only
  obtain ⟨p1, p2, p3, p4, p5⟩ := hp
  have hs := score_eq m c hO t hk (grid0.coords t 1).val hc1 _ _ p1 p2
  refine ⟨p1, p2, fun l i d => ?_, fun l i => ?_, fun l i => ?_⟩
  · exact (stepA_C (n := A7 m (ix1 (bOf t))) (hn := len_eq m t) (l := l) (r := i) (d := d) ..).trans
      (tot_step _ _ _ _ _ _ _ _ _ (p3 l i d) (p4 l i) (hs l i) (fun p => cache_eq m c hO t hk l d p))
  · exact (stepM_C (n := A7 m (ix1 (bOf t))) (hn := len_eq m t) (l := l) (r := i) ..).trans (mx_step _ _ _ _ _ (p4 l i) (hs l i))
  · exact (stepL_C (n := A7 m (ix1 (bOf t))) (hn := len_eq m t) (l := l) (r := i) ..).trans (one_step _ _ _ _ _ _ (p5 l i) (p4 l i) (hs l i))

set_option maxHeartbeats 1600000 in
/-- A point of case E takes the state one block on. -/
theorem good_E (h0 : ¬ t.val % 48 = 0) (h1 : cond0_1 (grid0.coords t) (lenR m t)) (h2 : t.val % 48 = 47) (hp : Prev m c hO t) :
    Good m c hO t.val t.isLt := by
  have hk : (512 * (t.val % 48 : ℕ) : ℤ) < (A7 m (ix1 (bOf t)) : BitVec 32).toInt := by have := (cond_iff t _).mp h1; rw [lenR, len_eq] at this; exact this
  have hc1 : (grid0.coords t 1).val = t.val % 48 := (coords_val t).2.1
  unfold Good
  rw [outsAt0_E m hO c t h0 h1 h2]
  dsimp only
  obtain ⟨p1, p2, p3, p4, p5⟩ := hp
  have hs := score_eq m c hO t hk (grid0.coords t 1).val hc1 _ _ p1 p2
  refine ⟨p1, p2, fun l i d => ?_, fun l i => ?_, fun l i => ?_⟩
  · exact (stepA_E (n := A7 m (ix1 (bOf t))) (hn := len_eq m t) (l := l) (r := i) (d := d) ..).trans
      (tot_step _ _ _ _ _ _ _ _ _ (p3 l i d) (p4 l i) (hs l i) (fun p => cache_eq m c hO t hk l d p))
  · exact (stepM_E (n := A7 m (ix1 (bOf t))) (hn := len_eq m t) (l := l) (r := i) ..).trans (mx_step _ _ _ _ _ (p4 l i) (hs l i))
  · exact (stepL_E (n := A7 m (ix1 (bOf t))) (hn := len_eq m t) (l := l) (r := i) ..).trans (one_step _ _ _ _ _ _ (p5 l i) (p4 l i) (hs l i))

set_option maxHeartbeats 1600000 in
/-- A point of case F takes the state one block on. -/
theorem good_F (h0 : ¬ t.val % 48 = 0) (h1 : ¬ cond0_1 (grid0.coords t) (lenR m t)) (h2 : t.val % 48 = 47) (hp : Prev m c hO t) :
    Good m c hO t.val t.isLt := by
  have hk : ¬ (512 * (t.val % 48 : ℕ) : ℤ) < (A7 m (ix1 (bOf t)) : BitVec 32).toInt := fun h => h1 ((cond_iff t _).mpr (by rw [lenR, len_eq]; exact h))
  unfold Good
  rw [outsAt0_F m hO c t h0 h1 h2]
  dsimp only
  exact St_skip _ _ _ _ _ _ _ _ _ _ _ _ _ _ _ hk hp

/-- The new tokens' maximum, sum of weights and weighted sum, as the state before the first block. -/
theorem mx_new (l : Fin 4) (i : Fin 96) : Finset.univ.sup (ns (iblk m hO c 0 t) (iblk m hO c 1 t) (iblk m hO c 2 t) (iblk m hO c 3 t) l i)
    = mx (snK (A0 m c) (A1 m c) (A2 m c) (A3 m c) (bOf t) l i) (scK (A0 m c) (A1 m c) (A4 m c) (A5 m c) (A6 m c) (A7 m) (bOf t) l i) 0 := by
  rw [mx_zero]; exact congrArg _ (ns_eq m c hO t l i)

theorem one_new (l : Fin 4) (i : Fin 96) : (∑ j : Fin 16, wt (ns (iblk m hO c 0 t) (iblk m hO c 1 t) (iblk m hO c 2 t) (iblk m hO c 3 t) l i j)
      (Finset.univ.sup (ns (iblk m hO c 0 t) (iblk m hO c 1 t) (iblk m hO c 2 t) (iblk m hO c 3 t) l i)))
    = tot (snK (A0 m c) (A1 m c) (A2 m c) (A3 m c) (bOf t) l i) (scK (A0 m c) (A1 m c) (A4 m c) (A5 m c) (A6 m c) (A7 m) (bOf t) l i)
        (fun _ => 1) (fun _ _ => 1) 0 := by
  rw [tot_zero, ns_eq m c hO t l i]
  simp only [mul_one]

theorem tot_new (l : Fin 4) (i : Fin 96) (d : Fin 256) (x2 : Vec Ideal S1x4x16x256 .bf16)
    (hx : ∀ j : Fin 16, j.val < 3 → (x2 (ix4 0 l j (perm d)) : EReal) = vnK (A2 m c) (bOf t) l d j) :
    (∑ j : Fin 16, wt (ns (iblk m hO c 0 t) (iblk m hO c 1 t) (iblk m hO c 2 t) (iblk m hO c 3 t) l i j)
      (Finset.univ.sup (ns (iblk m hO c 0 t) (iblk m hO c 1 t) (iblk m hO c 2 t) (iblk m hO c 3 t) l i)) * (x2 (ix4 0 l j (perm d)) : EReal))
    = tot (snK (A0 m c) (A1 m c) (A2 m c) (A3 m c) (bOf t) l i) (scK (A0 m c) (A1 m c) (A4 m c) (A5 m c) (A6 m c) (A7 m) (bOf t) l i)
        (vnK (A2 m c) (bOf t) l d) (fun k p => cK (A4 m c) (A5 m c) (bOf t) l (pos k p) d) 0 := by
  rw [tot_zero, ns_eq m c hO t l i, vn_eq m c hO t l i d _ x2 hx]

set_option maxHeartbeats 1600000 in
/-- A point of case B takes the state one block on. -/
theorem good_B (h0 : t.val % 48 = 0) (h1 : ¬ cond0_1 (grid0.coords t) (lenR m t)) (h2 : ¬ t.val % 48 = 47) :
    Good m c hO t.val t.isLt := by
  have hk : ¬ (512 * (t.val % 48 : ℕ) : ℤ) < (A7 m (ix1 (bOf t)) : BitVec 32).toInt := fun h => h1 ((cond_iff t _).mpr (by rw [lenR, len_eq]; exact h))
  unfold Good
  rw [h0] at hk
  rw [h0, outsAt0_B m hO c t h0 h1 h2]
  dsimp only
  refine St_skip _ _ _ _ _ _ _ _ _ _ _ _ _ _ _ hk ?_
  refine ⟨fun l i d => ?_, fun l i r => ?_, fun l i d => ?_, fun l i => ?_, fun l i => ?_⟩
  · exact (initQ_B (l := l) (r := i) (d := d) ..).trans (qI_eq m c hO t l i d)
  · exact (initR_B (l := l) (r := i) (d := r) ..).trans (qrI_eq m c hO t l i r)
  · exact (initA_B (l := l) (r := i) (d := d) ..).trans (tot_new m c hO t l i d _ (fun j hj => x2_eq m c hO t l d j hj))
  · exact (initM_B (l := l) (r := i) ..).trans (mx_new m c hO t l i)
  · exact (initL_B (l := l) (r := i) ..).trans (one_new m c hO t l i)

end Cert.KernelIdeal.Value
end
end
-- ==== Proof.PtA.lean ====
/-
  The first point of a batch of `KernelIdeal`, when its block has a visible position.
-/
module

public import proofs.«01_k».proof.Proof.Pt

@[expose] public section

set_option maxRecDepth 16384

noncomputable section

open Idealize.ShloMosaic Idealize.ShloMosaic.TcCoe Idealize.SL.Sem Cert.Online
namespace Cert.KernelIdeal.Value
open Cert.KernelIdeal Cert.KernelIdeal.Gen

variable (m : (ℓ : Loc nD τ sig) → Buf (Elt Ideal) ℓ) (c : Dev nD)

variable (hO : Ok m) (t : Fin (cfgM m hO).N)

set_option maxHeartbeats 1600000 in
/-- A point of case A takes the state one block on. -/
theorem good_A (h0 : t.val % 48 = 0) (h1 : cond0_1 (grid0.coords t) (lenR m t)) (h2 : ¬ t.val % 48 = 47) :
    Good m c hO t.val t.isLt := by
  have hk : (512 * (t.val % 48 : ℕ) : ℤ) < (A7 m (ix1 (bOf t)) : BitVec 32).toInt := by have := (cond_iff t _).mp h1; rw [lenR, len_eq] at this; exact this
  have hc1 : (grid0.coords t 1).val = t.val % 48 := (coords_val t).2.1
  unfold Good
  rw [h0, outsAt0_A m hO c t h0 h1 h2]
  dsimp only
  obtain ⟨qp, hqp⟩ : ∃ qp : Vec Ideal S4x96x256 .bf16, ∀ l i d, qp (ix3 l i d) = qI (iblk m hO c 0 t) l i d :=
    ⟨fun y => qI (iblk m hO c 0 t) (y 0) (y 1) (y 2), fun _ _ _ => rfl⟩
  obtain ⟨qrp, hqrp⟩ : ∃ qrp : Vec Ideal S4x96x64 .bf16, ∀ l i d, qrp (ix3 l i d) = qrI (iblk m hO c 1 t) l i d :=
    ⟨fun y => qrI (iblk m hO c 1 t) (y 0) (y 1) (y 2), fun _ _ _ => rfl⟩
  have hs := score_eq m c hO t hk (grid0.coords t 1).val hc1 qp qrp (fun l i d => (hqp l i d).trans (qI_eq m c hO t l i d))
    (fun l i d => (hqrp l i d).trans (qrI_eq m c hO t l i d))
  rw [h0] at hs
  refine ⟨fun l i d => ?_, fun l i r => ?_, fun l i d => ?_, fun l i => ?_, fun l i => ?_⟩
  · exact (initQ_A (l := l) (r := i) (d := d) ..).trans (qI_eq m c hO t l i d)
  · exact (initR_A (l := l) (r := i) (d := r) ..).trans (qrI_eq m c hO t l i r)
  · exact (stepA_A (n := A7 m (ix1 (bOf t))) (hn := len_eq m t) (qp := qp) (hq := hqp) (qrp := qrp) (hqr := hqrp) (l := l) (r := i) (d := d) ..).trans
      (tot_step _ _ _ _ _ _ _ _ _ (tot_new m c hO t l i d _ (fun j hj => x2_eq m c hO t l d j hj)) (mx_new m c hO t l i) (hs l i)
        (fun p => (cache_eq m c hO t hk l d p).trans (by rw [h0])))
  · exact (stepM_A (n := A7 m (ix1 (bOf t))) (hn := len_eq m t) (qp := qp) (hq := hqp) (qrp := qrp) (hqr := hqrp) (l := l) (r := i) ..).trans
      (mx_step _ _ _ _ _ (mx_new m c hO t l i) (hs l i))
  · exact (stepL_A (n := A7 m (ix1 (bOf t))) (hn := len_eq m t) (qp := qp) (hq := hqp) (qrp := qrp) (hqr := hqrp) (l := l) (r := i) ..).trans
      (one_step _ _ _ _ _ _ (one_new m c hO t l i) (mx_new m c hO t l i) (hs l i))

end Cert.KernelIdeal.Value
end
end
-- ==== Proof.Good.lean ====
/-
  The state after every grid point of `KernelIdeal`, by induction on the points.
-/
module

public import proofs.«01_k».proof.Proof.PtA

@[expose] public section

set_option maxRecDepth 16384

noncomputable section

open Idealize.ShloMosaic Idealize.ShloMosaic.TcCoe Idealize.SL.Sem Cert.Online
namespace Cert.KernelIdeal.Value
open Cert.KernelIdeal Cert.KernelIdeal.Gen

variable (m : (ℓ : Loc nD τ sig) → Buf (Elt Ideal) ℓ) (c : Dev nD) (hO : Ok m)

/-- The state before a point inside a run is the state after the point before it. -/
theorem prev_of (t : Fin (cfgM m hO).N) (h0 : ¬ t.val % 48 = 0)
    (ih : Good m c hO (t.val - 1) (Nat.lt_of_le_of_lt (Nat.sub_le _ _) t.isLt)) : Prev m c hO t := by
  have hb : bOf ⟨t.val - 1, Nat.lt_of_le_of_lt (Nat.sub_le _ _) t.isLt⟩ = bOf t := Fin.ext (by show (t.val - 1) / 48 = t.val / 48; omega)
  have hm : (t.val - 1) % 48 + 1 = t.val % 48 := by omega
  unfold Good at ih
  rw [hb, hm] at ih
  exact ih

/-- One point takes the state on, given the state before it. -/
theorem good_at (t : Fin (cfgM m hO).N) (hp : ¬ t.val % 48 = 0 → Prev m c hO t) : Good m c hO t.val t.isLt := by
  by_cases h0 : t.val % 48 = 0
  · have h2 : ¬ t.val % 48 = 47 := by omega
    by_cases h1 : cond0_1 (grid0.coords t) (lenR m t)
    · exact good_A m c hO t h0 h1 h2
    · exact good_B m c hO t h0 h1 h2
  · by_cases h2 : t.val % 48 = 47
    · by_cases h1 : cond0_1 (grid0.coords t) (lenR m t)
      · exact good_E m c hO t h0 h1 h2 (hp h0)
      · exact good_F m c hO t h0 h1 h2 (hp h0)
    · by_cases h1 : cond0_1 (grid0.coords t) (lenR m t)
      · exact good_C m c hO t h0 h1 h2 (hp h0)
      · exact good_D m c hO t h0 h1 h2 (hp h0)

/-- The state after every point. -/
theorem good : ∀ (k : ℕ) (t : Fin (cfgM m hO).N), t.val = k → Good m c hO t.val t.isLt
  | 0, t, h => good_at m c hO t (fun h0 => absurd (by rw [h]) h0)
  | k + 1, t, h => good_at m c hO t (fun h0 => prev_of m c hO t h0
      (good k ⟨t.val - 1, Nat.lt_of_le_of_lt (Nat.sub_le _ _) t.isLt⟩ (by show t.val - 1 = k; omega)))

end Cert.KernelIdeal.Value
end
end
-- ==== Proof.Final.lean ====
/-
  The last point's operations at an index: the weighted sum over the sum of weights, its columns put back in order, and the
  logarithm of the mean weight.
-/
module

public import proofs.«01_k».proof.Proof.Start

@[expose] public section

set_option maxRecDepth 16384

noncomputable section

open Idealize.ShloMosaic Idealize.ShloMosaic.TcCoe Idealize.SL.Sem Cert.Online
namespace Cert.KernelIdeal.Value
open Cert.KernelIdeal Cert.KernelIdeal.Gen

/-- Where a column comes from. -/
def unperm (c : Fin 256) : Fin 256 := ⟨c.val / 32 * 32 + (c.val % 8 * 4 + c.val % 32 / 8), by omega⟩

theorem unperm_perm : ∀ r : Fin 256, unperm (perm r) = r := by decide +kernel

theorem perm_unperm : ∀ r : Fin 256, perm (unperm r) = r := by decide +kernel

/-- Two columns that go to the same place are the same. -/
theorem perm_inj (a b : Fin 256) (h : perm a = perm b) : a = b := by
  rw [← unperm_perm a, ← unperm_perm b, h]

/-- The number of tokens a row of a run of length `n` sees: the cached ones, the earlier new ones and itself. -/
def nvis (n : BitVec 32) (j : Fin 3) : EReal := (((n + BitVec.ofNat 32 j.val + 1#32).toInt : ℝ) : EReal)

/-- A sum against a row of the permutation matrix. -/
theorem sum_pm_row (f : Fin 256 → EReal) (x : Fin 256) : ∑ y, f y * (pm (ix2 (perm x) y) : EReal) = f x := by
  rw [Finset.sum_eq_single x]
  · rw [pm_apply, if_pos rfl, mul_one]
  · intro y _ hy
    rw [pm_apply, if_neg (fun h => hy (perm_inj _ _ h).symm), mul_zero]
  · intro h; exact absurd (Finset.mem_univ _) h

/-- The named constant of the kernel is the logarithm of two. -/
theorem ln2_val : Named.named (F := Ideal) Cert.KernelIdeal.κ "ln2" (φ := .f32) 0x3F317218#32 = ((Real.log 2 : ℝ) : EReal) :=
  IdealRules.named_const.ideal_named_scalar _ _ _ _ rfl

/-- The quotient with its columns put back in order. -/
theorem fin_apply (L : Vec Ideal S1x96x1 .f32) (A : Vec Ideal S1x96x256 .f32) (i : Fin 96) (x : Fin 256) :
    k0_pay186 (F := Ideal) pm L A (ix2 i (perm x)) = Ideal.div (A (ix3 0 i x)) (L (ix3 0 i 0)) := by
  pointwise [k0_pay186, k0_pay185]
  exact sum_pm_row (fun x => Ideal.div (A (ix3 0 i x)) (L (ix3 0 i 0))) x

/-- The count of tokens a row sees, as printed. -/
theorem nvis_apply (n : BitVec 32) (i : Fin 96) : k0_pay174 (F := Ideal) n (ix2 i 0) = nvis n ⟨i.val / 32, by omega⟩ := by
  pointwise [k0_pay174]
  refine (congrArg (fun b => FloatOps.sitofp (F := Ideal) FTy.f32 (IntOp.addi (IntOp.addi n b) 1#32))
    (?_ : _ = BitVec.ofNat 32 (i.val / 32))).trans rfl
  revert i
  decide +kernel

theorem row_lt_0 (a : Fin 32) : a.val < 96 := by omega

theorem row_lt_32 (a : Fin 32) : 32 + a.val < 96 := by omega

theorem row_lt_64 (a : Fin 32) : 64 + a.val < 96 := by omega

section

variable (L M : Vec Ideal S1x96x1 .f32) (A : Vec Ideal S1x96x256 .f32) (n : BitVec 32) (i : Fin 96) (a : Fin 32) (x : Fin 256)

/-- The rows of new token 0 of the quotient. -/
theorem out_0 (hi : i.val = 0 + a.val) (lv av : EReal) (hL : L (ix3 0 i 0) = lv) (hA : A (ix3 0 i x) = av) :
    k0_pay188 (F := Ideal) pm L A (ix4 0 0 a (perm x)) = Ideal.div av lv := by
  subst hL hA
  rw [← fin_apply]
  obtain rfl : i = ⟨a.val, row_lt_0 a⟩ := Fin.ext (by show i.val = a.val; omega)
  pointwise [k0_pay188]

/-- The rows of new token 0 of the logarithm. -/
theorem lse_0 (hi : i.val = 0 + a.val) (lv mv : EReal) (hL : L (ix3 0 i 0) = lv) (hM : M (ix3 0 i 0) = mv) :
    k0_pay189 (F := Ideal) (k0_pay174 (F := Ideal) n) L M (ix4 0 0 a 0) = mv * ((Real.log 2 : ℝ) : EReal) + Ideal.log lv - Ideal.log (nvis n 0) := by
  subst hL hM
  have hn := nvis_apply n i
  rw [show (⟨i.val / 32, by omega⟩ : Fin 3) = 0 from Fin.ext (by show i.val / 32 = 0; omega)] at hn
  rw [← hn, ← ln2_val]
  obtain rfl : i = ⟨a.val, row_lt_0 a⟩ := Fin.ext (by show i.val = a.val; omega)
  generalize k0_pay174 (F := Ideal) n = N
  pointwise [k0_pay189, k0_pay187, k0_pay185]

/-- The rows of new token 1 of the quotient. -/
theorem out_1 (hi : i.val = 32 + a.val) (lv av : EReal) (hL : L (ix3 0 i 0) = lv) (hA : A (ix3 0 i x) = av) :
    k0_pay190 (F := Ideal) pm L A (ix4 0 0 a (perm x)) = Ideal.div av lv := by
  subst hL hA
  rw [← fin_apply]
  obtain rfl : i = ⟨32 + a.val, row_lt_32 a⟩ := Fin.ext (by show i.val = 32 + a.val; omega)
  pointwise [k0_pay190]

/-- The rows of new token 1 of the logarithm. -/
theorem lse_1 (hi : i.val = 32 + a.val) (lv mv : EReal) (hL : L (ix3 0 i 0) = lv) (hM : M (ix3 0 i 0) = mv) :
    k0_pay192 (F := Ideal) (k0_pay191 (F := Ideal) (k0_pay174 (F := Ideal) n) L M) (ix4 0 0 a 0) = mv * ((Real.log 2 : ℝ) : EReal) + Ideal.log lv - Ideal.log (nvis n 1) := by
  subst hL hM
  have hn := nvis_apply n i
  rw [show (⟨i.val / 32, by omega⟩ : Fin 3) = 1 from Fin.ext (by show i.val / 32 = 1; omega)] at hn
  rw [← hn, ← ln2_val]
  obtain rfl : i = ⟨32 + a.val, row_lt_32 a⟩ := Fin.ext (by show i.val = 32 + a.val; omega)
  generalize k0_pay174 (F := Ideal) n = N
  pointwise [k0_pay192, k0_pay191, k0_pay187, k0_pay185]

/-- The rows of new token 2 of the quotient. -/
theorem out_2 (hi : i.val = 64 + a.val) (lv av : EReal) (hL : L (ix3 0 i 0) = lv) (hA : A (ix3 0 i x) = av) :
    k0_pay193 (F := Ideal) (k0_pay186 (F := Ideal) pm L A) (ix4 0 0 a (perm x)) = Ideal.div av lv := by
  subst hL hA
  rw [← fin_apply]
  obtain rfl : i = ⟨64 + a.val, row_lt_64 a⟩ := Fin.ext (by show i.val = 64 + a.val; omega)
  pointwise [k0_pay193]

/-- The rows of new token 2 of the logarithm. -/
theorem lse_2 (hi : i.val = 64 + a.val) (lv mv : EReal) (hL : L (ix3 0 i 0) = lv) (hM : M (ix3 0 i 0) = mv) :
    k0_pay194 (F := Ideal) (k0_pay187 (F := Ideal) (k0_pay174 (F := Ideal) n) L M) (ix4 0 0 a 0) = mv * ((Real.log 2 : ℝ) : EReal) + Ideal.log lv - Ideal.log (nvis n 2) := by
  subst hL hM
  have hn := nvis_apply n i
  rw [show (⟨i.val / 32, by omega⟩ : Fin 3) = 2 from Fin.ext (by show i.val / 32 = 2; omega)] at hn
  rw [← hn, ← ln2_val]
  obtain rfl : i = ⟨64 + a.val, row_lt_64 a⟩ := Fin.ext (by show i.val = 64 + a.val; omega)
  generalize k0_pay174 (F := Ideal) n = N
  pointwise [k0_pay194, k0_pay187, k0_pay185]

end

/-- An index of a tile of the output is its row and column. -/
theorem idx_O (y : S1x1x32x256.Idx) (a : Fin 32) (d : Fin 256) (h : (y 2).val = a.val) (h' : (y 3).val = d.val) : y = ix4 0 0 a d := by
  funext k
  apply Fin.ext
  match k with
  | ⟨0, _⟩ => exact Nat.lt_one_iff.mp (y 0).isLt
  | ⟨1, _⟩ => exact Nat.lt_one_iff.mp (y 1).isLt
  | ⟨2, _⟩ => exact h
  | ⟨3, _⟩ => exact h'

/-- An index of a tile of the logarithm is its row. -/
theorem idx_E (y : S1x1x32x1.Idx) (a : Fin 32) (h : (y 2).val = a.val) : y = ix4 0 0 a 0 := by
  funext k
  apply Fin.ext
  match k with
  | ⟨0, _⟩ => exact Nat.lt_one_iff.mp (y 0).isLt
  | ⟨1, _⟩ => exact Nat.lt_one_iff.mp (y 1).isLt
  | ⟨2, _⟩ => exact h
  | ⟨3, _⟩ => exact Nat.lt_one_iff.mp (y 3).isLt

/-- The token of a tile of one token. -/
theorem tok_eq {k : ℕ} (l : Fin 3) (L : Fin 3) (a : ℕ) (ha : a < 1) (h : l.val = k + a) (hk : k = L.val) : l = L :=
  Fin.ext (by omega)

/-- The latent of a tile of thirty-two rows. -/
theorem row_eq {k : ℕ} (l : Fin 4) (L : Fin 4) (a b : ℕ) (ha : a < 32) (hb : b < 32) (h : 32 * l.val + a = k + b) (hk : k = 32 * L.val) :
    l = L ∧ b = a := ⟨Fin.ext (by omega), by omega⟩

end Cert.KernelIdeal.Value

end
end
-- ==== Proof.OutF.lean ====
/-
  What the last point of a run stores into the results when its block holds no key to read.
-/
module

public import proofs.«01_k».proof.Proof.Final
public import proofs.«01_k».proof.Proof.Gen.KernelIdeal.Frame

@[expose] public section

set_option maxRecDepth 16384

noncomputable section

open Idealize.ShloMosaic Idealize.ShloMosaic.TcCoe Idealize.SL.Sem Cert.Online
namespace Cert.KernelIdeal.Value
open Cert.KernelIdeal Cert.KernelIdeal.Gen

/-- What the last point of a run without keys to read stores into the output, from the state it leaves. -/
theorem outO_F (c : Dev nD) (i : grid0.Coords) (arg3 : Memref sig .tc .vmem S1x3x128x256 .bf16) (harg3 : arg3.IsWhole) (arg4 : Memref sig .tc .vmem S1x3x64x128 .bf16) (harg4 : arg4.IsWhole) (arg5 : Memref sig .tc .vmem S1x4x16x256 .bf16) (harg5 : arg5.IsWhole) (arg6 : Memref sig .tc .vmem S1x16x64 .bf16) (harg6 : arg6.IsWhole) (arg7 : Memref sig .tc .vmem S1x512x4x128 .fp8e4m3) (harg7 : arg7.IsWhole) (arg8 : Memref sig .tc .vmem S1x512x4x128 .fp8e4m3) (harg8 : arg8.IsWhole) (arg9 : Memref sig .tc .vmem S1x4x8x512 .i8) (harg9 : arg9.IsWhole) (arg10 : Memref sig .tc .vmem S1x64x512 .bf16) (harg10 : arg10.IsWhole) (arg11 : Memref sig .tc .vmem S1x3x128x256 .bf16) (harg11 : arg11.IsWhole) (arg12 : Memref sig .tc .vmem S1x3x128x1 .f32) (harg12 : arg12.IsWhole) (arg13 : Memref sig .tc .vmem S4x96x256 .bf16) (harg13 : arg13.IsWhole) (arg14 : Memref sig .tc .vmem S4x96x64 .bf16) (harg14 : arg14.IsWhole) (arg15 : Memref sig .tc .vmem S4x96x256 .f32) (harg15 : arg15.IsWhole) (arg16 : Memref sig .tc .vmem S4x96x1 .f32) (harg16 : arg16.IsWhole) (arg17 : Memref sig .tc .vmem S4x96x1 .f32) (harg17 : arg17.IsWhole) (hc0 : ¬cond0_0 i) (hc2 : cond0_2 i)
    (x0 : Vec Ideal S1x3x128x256 .bf16) (x1 : Vec Ideal S1x3x64x128 .bf16) (x2 : Vec Ideal S1x4x16x256 .bf16) (x3 : Vec Ideal S1x16x64 .bf16) (x4 : Vec Ideal S1x512x4x128 .fp8e4m3) (x5 : Vec Ideal S1x512x4x128 .fp8e4m3) (x6 : Vec Ideal S1x4x8x512 .i8) (x7 : Vec Ideal S1x64x512 .bf16) (xt0 : TbBuf0 (F := Ideal) c tbM0_0) (xs0 : Vec Ideal S4x96x256 .bf16) (xs1 : Vec Ideal S4x96x64 .bf16) (xs2 : Vec Ideal S4x96x256 .f32) (xs3 : Vec Ideal S4x96x1 .f32) (xs4 : Vec Ideal S4x96x1 .f32) (hc1 : ¬cond0_1 i (tbM0_0.view.readAt (Elt Ideal) (Rect.unit (s := S12) (k0_off1 i) S1.size (k0_off1_inb i)).toLoadRect xt0 (Shape.Idx.first (numel1_S1.symm ▸ Nat.one_pos)))) (j : Fin 3) (l : Fin 4) (a : Fin 32) (x : Fin 256) :
    out0_F_8 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1 (ix4 0 j ⟨32 * l.val + a.val, by omega⟩ (perm x))
      = Ideal.div (sout0_F_2 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1 (ix3 l ⟨32 * j.val + a.val, by omega⟩ x)) (sout0_F_4 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1 (ix3 l ⟨32 * j.val + a.val, by omega⟩ 0)) := by
  unfold sout0_F_2
  unfold sout0_F_4
  unfold out0_F_8
  rw [View.read_writes_eq_canon _ _ _ (cover0_F_8 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1)]
  unfold kernelRun0_F
  dsimp only
  obtain ⟨v, hv⟩ : ∃ v : EReal, v = Ideal.div (xs2 (ix3 l ⟨32 * j.val + a.val, by omega⟩ x)) (xs4 (ix3 l ⟨32 * j.val + a.val, by omega⟩ 0)) := ⟨_, rfl⟩
  refine Eq.trans ?_ hv
  generalize hY : (ix4 0 j ⟨32 * l.val + a.val, by omega⟩ (perm x) : S1x3x128x256.Idx) = Y
  have hY1 : (Y 1).val = j.val := by rw [← hY]; rfl
  have hY2 : (Y 2).val = 32 * l.val + a.val := by rw [← hY]; rfl
  have hY3 : (Y 3).val = (perm x).val := by rw [← hY]; rfl
  clear hY
  canon_tiles y hy
  case piece0 =>
    obtain rfl : j = 2 := tok_eq (k := 2) j 2 (y 1) (y 1).isLt (by rw [← hY1, hy1]) rfl
    obtain ⟨rfl, ha⟩ := row_eq (k := 96) l 3 a (y 2) a.isLt (y 2).isLt (by rw [← hY2, hy2]) rfl
    obtain rfl := idx_O y a (perm x) ha (by rw [← hY3, hy3])
    refine Eq.trans (show _ = k0_pay193 (F := Ideal) (k0_pay186 (F := Ideal) pm _ _) (ix4 0 0 a (perm x)) from rfl) ?_
    simp only [kernelRun0_F.sl.v173, readCov_ld, View.readAt_eq_ld, Memref.IsWhole.read_unread]
    refine (out_2 _ _ ⟨32 * (2 : Fin 3).val + a.val, by show 32 * 2 + a.val < 96; omega⟩ a x rfl _ _ ?_ ?_).trans hv.symm
    all_goals (intros; pointwise)
  case piece1 =>
    obtain rfl : j = 1 := tok_eq (k := 1) j 1 (y 1) (y 1).isLt (by rw [← hY1, hy1]) rfl
    obtain ⟨rfl, ha⟩ := row_eq (k := 96) l 3 a (y 2) a.isLt (y 2).isLt (by rw [← hY2, hy2]) rfl
    obtain rfl := idx_O y a (perm x) ha (by rw [← hY3, hy3])
    refine Eq.trans (show _ = k0_pay190 (F := Ideal) pm _ _ (ix4 0 0 a (perm x)) from rfl) ?_
    simp only [kernelRun0_F.sl.v173, readCov_ld, View.readAt_eq_ld, Memref.IsWhole.read_unread]
    refine (out_1 _ _ ⟨32 * (1 : Fin 3).val + a.val, by show 32 * 1 + a.val < 96; omega⟩ a x rfl _ _ ?_ ?_).trans hv.symm
    all_goals (intros; pointwise)
  case piece2 =>
    obtain rfl : j = 0 := tok_eq (k := 0) j 0 (y 1) (y 1).isLt (by rw [← hY1, hy1]; exact (Nat.zero_add _).symm) rfl
    obtain ⟨rfl, ha⟩ := row_eq (k := 96) l 3 a (y 2) a.isLt (y 2).isLt (by rw [← hY2, hy2]) rfl
    obtain rfl := idx_O y a (perm x) ha (by rw [← hY3, hy3])
    refine Eq.trans (show _ = k0_pay188 (F := Ideal) pm _ _ (ix4 0 0 a (perm x)) from rfl) ?_
    simp only [kernelRun0_F.sl.v173, readCov_ld, View.readAt_eq_ld, Memref.IsWhole.read_unread]
    refine (out_0 _ _ ⟨32 * (0 : Fin 3).val + a.val, by show 32 * 0 + a.val < 96; omega⟩ a x rfl _ _ ?_ ?_).trans hv.symm
    all_goals (intros; pointwise)
  case piece3 =>
    obtain rfl : j = 2 := tok_eq (k := 2) j 2 (y 1) (y 1).isLt (by rw [← hY1, hy1]) rfl
    obtain ⟨rfl, ha⟩ := row_eq (k := 64) l 2 a (y 2) a.isLt (y 2).isLt (by rw [← hY2, hy2]) rfl
    obtain rfl := idx_O y a (perm x) ha (by rw [← hY3, hy3])
    refine Eq.trans (show _ = k0_pay193 (F := Ideal) (k0_pay186 (F := Ideal) pm _ _) (ix4 0 0 a (perm x)) from rfl) ?_
    simp only [kernelRun0_F.sl.v173, readCov_ld, View.readAt_eq_ld, Memref.IsWhole.read_unread]
    refine (out_2 _ _ ⟨32 * (2 : Fin 3).val + a.val, by show 32 * 2 + a.val < 96; omega⟩ a x rfl _ _ ?_ ?_).trans hv.symm
    all_goals (intros; pointwise)
  case piece4 =>
    obtain rfl : j = 1 := tok_eq (k := 1) j 1 (y 1) (y 1).isLt (by rw [← hY1, hy1]) rfl
    obtain ⟨rfl, ha⟩ := row_eq (k := 64) l 2 a (y 2) a.isLt (y 2).isLt (by rw [← hY2, hy2]) rfl
    obtain rfl := idx_O y a (perm x) ha (by rw [← hY3, hy3])
    refine Eq.trans (show _ = k0_pay190 (F := Ideal) pm _ _ (ix4 0 0 a (perm x)) from rfl) ?_
    simp only [kernelRun0_F.sl.v173, readCov_ld, View.readAt_eq_ld, Memref.IsWhole.read_unread]
    refine (out_1 _ _ ⟨32 * (1 : Fin 3).val + a.val, by show 32 * 1 + a.val < 96; omega⟩ a x rfl _ _ ?_ ?_).trans hv.symm
    all_goals (intros; pointwise)
  case piece5 =>
    obtain rfl : j = 0 := tok_eq (k := 0) j 0 (y 1) (y 1).isLt (by rw [← hY1, hy1]; exact (Nat.zero_add _).symm) rfl
    obtain ⟨rfl, ha⟩ := row_eq (k := 64) l 2 a (y 2) a.isLt (y 2).isLt (by rw [← hY2, hy2]) rfl
    obtain rfl := idx_O y a (perm x) ha (by rw [← hY3, hy3])
    refine Eq.trans (show _ = k0_pay188 (F := Ideal) pm _ _ (ix4 0 0 a (perm x)) from rfl) ?_
    simp only [kernelRun0_F.sl.v173, readCov_ld, View.readAt_eq_ld, Memref.IsWhole.read_unread]
    refine (out_0 _ _ ⟨32 * (0 : Fin 3).val + a.val, by show 32 * 0 + a.val < 96; omega⟩ a x rfl _ _ ?_ ?_).trans hv.symm
    all_goals (intros; pointwise)
  case piece6 =>
    obtain rfl : j = 2 := tok_eq (k := 2) j 2 (y 1) (y 1).isLt (by rw [← hY1, hy1]) rfl
    obtain ⟨rfl, ha⟩ := row_eq (k := 32) l 1 a (y 2) a.isLt (y 2).isLt (by rw [← hY2, hy2]) rfl
    obtain rfl := idx_O y a (perm x) ha (by rw [← hY3, hy3])
    refine Eq.trans (show _ = k0_pay193 (F := Ideal) (k0_pay186 (F := Ideal) pm _ _) (ix4 0 0 a (perm x)) from rfl) ?_
    simp only [kernelRun0_F.sl.v173, readCov_ld, View.readAt_eq_ld, Memref.IsWhole.read_unread]
    refine (out_2 _ _ ⟨32 * (2 : Fin 3).val + a.val, by show 32 * 2 + a.val < 96; omega⟩ a x rfl _ _ ?_ ?_).trans hv.symm
    all_goals (intros; pointwise)
  case piece7 =>
    obtain rfl : j = 1 := tok_eq (k := 1) j 1 (y 1) (y 1).isLt (by rw [← hY1, hy1]) rfl
    obtain ⟨rfl, ha⟩ := row_eq (k := 32) l 1 a (y 2) a.isLt (y 2).isLt (by rw [← hY2, hy2]) rfl
    obtain rfl := idx_O y a (perm x) ha (by rw [← hY3, hy3])
    refine Eq.trans (show _ = k0_pay190 (F := Ideal) pm _ _ (ix4 0 0 a (perm x)) from rfl) ?_
    simp only [kernelRun0_F.sl.v173, readCov_ld, View.readAt_eq_ld, Memref.IsWhole.read_unread]
    refine (out_1 _ _ ⟨32 * (1 : Fin 3).val + a.val, by show 32 * 1 + a.val < 96; omega⟩ a x rfl _ _ ?_ ?_).trans hv.symm
    all_goals (intros; pointwise)
  case piece8 =>
    obtain rfl : j = 0 := tok_eq (k := 0) j 0 (y 1) (y 1).isLt (by rw [← hY1, hy1]; exact (Nat.zero_add _).symm) rfl
    obtain ⟨rfl, ha⟩ := row_eq (k := 32) l 1 a (y 2) a.isLt (y 2).isLt (by rw [← hY2, hy2]) rfl
    obtain rfl := idx_O y a (perm x) ha (by rw [← hY3, hy3])
    refine Eq.trans (show _ = k0_pay188 (F := Ideal) pm _ _ (ix4 0 0 a (perm x)) from rfl) ?_
    simp only [kernelRun0_F.sl.v173, readCov_ld, View.readAt_eq_ld, Memref.IsWhole.read_unread]
    refine (out_0 _ _ ⟨32 * (0 : Fin 3).val + a.val, by show 32 * 0 + a.val < 96; omega⟩ a x rfl _ _ ?_ ?_).trans hv.symm
    all_goals (intros; pointwise)
  case piece9 =>
    obtain rfl : j = 2 := tok_eq (k := 2) j 2 (y 1) (y 1).isLt (by rw [← hY1, hy1]) rfl
    obtain ⟨rfl, ha⟩ := row_eq (k := 0) l 0 a (y 2) a.isLt (y 2).isLt (by rw [← hY2, hy2]; exact (Nat.zero_add _).symm) rfl
    obtain rfl := idx_O y a (perm x) ha (by rw [← hY3, hy3])
    refine Eq.trans (show _ = k0_pay193 (F := Ideal) (k0_pay186 (F := Ideal) pm _ _) (ix4 0 0 a (perm x)) from rfl) ?_
    simp only [kernelRun0_F.sl.v173, readCov_ld, View.readAt_eq_ld, Memref.IsWhole.read_unread]
    refine (out_2 _ _ ⟨32 * (2 : Fin 3).val + a.val, by show 32 * 2 + a.val < 96; omega⟩ a x rfl _ _ ?_ ?_).trans hv.symm
    all_goals (intros; pointwise)
  case piece10 =>
    obtain rfl : j = 1 := tok_eq (k := 1) j 1 (y 1) (y 1).isLt (by rw [← hY1, hy1]) rfl
    obtain ⟨rfl, ha⟩ := row_eq (k := 0) l 0 a (y 2) a.isLt (y 2).isLt (by rw [← hY2, hy2]; exact (Nat.zero_add _).symm) rfl
    obtain rfl := idx_O y a (perm x) ha (by rw [← hY3, hy3])
    refine Eq.trans (show _ = k0_pay190 (F := Ideal) pm _ _ (ix4 0 0 a (perm x)) from rfl) ?_
    simp only [kernelRun0_F.sl.v173, readCov_ld, View.readAt_eq_ld, Memref.IsWhole.read_unread]
    refine (out_1 _ _ ⟨32 * (1 : Fin 3).val + a.val, by show 32 * 1 + a.val < 96; omega⟩ a x rfl _ _ ?_ ?_).trans hv.symm
    all_goals (intros; pointwise)
  case piece11 =>
    obtain rfl : j = 0 := tok_eq (k := 0) j 0 (y 1) (y 1).isLt (by rw [← hY1, hy1]; exact (Nat.zero_add _).symm) rfl
    obtain ⟨rfl, ha⟩ := row_eq (k := 0) l 0 a (y 2) a.isLt (y 2).isLt (by rw [← hY2, hy2]; exact (Nat.zero_add _).symm) rfl
    obtain rfl := idx_O y a (perm x) ha (by rw [← hY3, hy3])
    refine Eq.trans (show _ = k0_pay188 (F := Ideal) pm _ _ (ix4 0 0 a (perm x)) from rfl) ?_
    simp only [kernelRun0_F.sl.v173, readCov_ld, View.readAt_eq_ld, Memref.IsWhole.read_unread]
    refine (out_0 _ _ ⟨32 * (0 : Fin 3).val + a.val, by show 32 * 0 + a.val < 96; omega⟩ a x rfl _ _ ?_ ?_).trans hv.symm
    all_goals (intros; pointwise)

/-- What the last point of a run without keys to read stores into the logarithm, from the state it leaves. -/
theorem outE_F (c : Dev nD) (i : grid0.Coords) (arg3 : Memref sig .tc .vmem S1x3x128x256 .bf16) (harg3 : arg3.IsWhole) (arg4 : Memref sig .tc .vmem S1x3x64x128 .bf16) (harg4 : arg4.IsWhole) (arg5 : Memref sig .tc .vmem S1x4x16x256 .bf16) (harg5 : arg5.IsWhole) (arg6 : Memref sig .tc .vmem S1x16x64 .bf16) (harg6 : arg6.IsWhole) (arg7 : Memref sig .tc .vmem S1x512x4x128 .fp8e4m3) (harg7 : arg7.IsWhole) (arg8 : Memref sig .tc .vmem S1x512x4x128 .fp8e4m3) (harg8 : arg8.IsWhole) (arg9 : Memref sig .tc .vmem S1x4x8x512 .i8) (harg9 : arg9.IsWhole) (arg10 : Memref sig .tc .vmem S1x64x512 .bf16) (harg10 : arg10.IsWhole) (arg11 : Memref sig .tc .vmem S1x3x128x256 .bf16) (harg11 : arg11.IsWhole) (arg12 : Memref sig .tc .vmem S1x3x128x1 .f32) (harg12 : arg12.IsWhole) (arg13 : Memref sig .tc .vmem S4x96x256 .bf16) (harg13 : arg13.IsWhole) (arg14 : Memref sig .tc .vmem S4x96x64 .bf16) (harg14 : arg14.IsWhole) (arg15 : Memref sig .tc .vmem S4x96x256 .f32) (harg15 : arg15.IsWhole) (arg16 : Memref sig .tc .vmem S4x96x1 .f32) (harg16 : arg16.IsWhole) (arg17 : Memref sig .tc .vmem S4x96x1 .f32) (harg17 : arg17.IsWhole) (hc0 : ¬cond0_0 i) (hc2 : cond0_2 i)
    (x0 : Vec Ideal S1x3x128x256 .bf16) (x1 : Vec Ideal S1x3x64x128 .bf16) (x2 : Vec Ideal S1x4x16x256 .bf16) (x3 : Vec Ideal S1x16x64 .bf16) (x4 : Vec Ideal S1x512x4x128 .fp8e4m3) (x5 : Vec Ideal S1x512x4x128 .fp8e4m3) (x6 : Vec Ideal S1x4x8x512 .i8) (x7 : Vec Ideal S1x64x512 .bf16) (xt0 : TbBuf0 (F := Ideal) c tbM0_0) (xs0 : Vec Ideal S4x96x256 .bf16) (xs1 : Vec Ideal S4x96x64 .bf16) (xs2 : Vec Ideal S4x96x256 .f32) (xs3 : Vec Ideal S4x96x1 .f32) (xs4 : Vec Ideal S4x96x1 .f32) (hc1 : ¬cond0_1 i (tbM0_0.view.readAt (Elt Ideal) (Rect.unit (s := S12) (k0_off1 i) S1.size (k0_off1_inb i)).toLoadRect xt0 (Shape.Idx.first (numel1_S1.symm ▸ Nat.one_pos)))) (n : BitVec 32)
    (hn : (tbM0_0.view.readAt (Elt Ideal) (Rect.unit (s := S12) (k0_off1 i) S1.size (k0_off1_inb i)).toLoadRect xt0 (Shape.Idx.first (numel1_S1.symm ▸ Nat.one_pos))) = n) (j : Fin 3) (l : Fin 4) (a : Fin 32) :
    out0_F_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1 (ix4 0 j ⟨32 * l.val + a.val, by omega⟩ 0)
      = (sout0_F_3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1 (ix3 l ⟨32 * j.val + a.val, by omega⟩ 0) : EReal) * ((Real.log 2 : ℝ) : EReal) + Ideal.log (sout0_F_4 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1 (ix3 l ⟨32 * j.val + a.val, by omega⟩ 0)) - Ideal.log (nvis n j) := by
  unfold sout0_F_3
  unfold sout0_F_4
  unfold out0_F_9
  rw [View.read_writes_eq_canon _ _ _ (cover0_F_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1)]
  unfold kernelRun0_F
  dsimp only
  obtain ⟨v, hv⟩ : ∃ v : EReal, v = (xs3 (ix3 l ⟨32 * j.val + a.val, by omega⟩ 0) : EReal) * ((Real.log 2 : ℝ) : EReal) + Ideal.log (xs4 (ix3 l ⟨32 * j.val + a.val, by omega⟩ 0)) - Ideal.log (nvis n j) := ⟨_, rfl⟩
  refine Eq.trans ?_ hv
  generalize hY : (ix4 0 j ⟨32 * l.val + a.val, by omega⟩ 0 : S1x3x128x1.Idx) = Y
  have hY1 : (Y 1).val = j.val := by rw [← hY]; rfl
  have hY2 : (Y 2).val = 32 * l.val + a.val := by rw [← hY]; rfl
  clear hY
  canon_tiles y hy
  case piece0 =>
    obtain rfl : j = 2 := tok_eq (k := 2) j 2 (y 1) (y 1).isLt (by rw [← hY1, hy1]) rfl
    obtain ⟨rfl, ha⟩ := row_eq (k := 96) l 3 a (y 2) a.isLt (y 2).isLt (by rw [← hY2, hy2]) rfl
    obtain rfl := idx_E y a ha
    refine Eq.trans (show _ = k0_pay194 (F := Ideal) (k0_pay187 (F := Ideal) (k0_pay174 (F := Ideal) (kernelRun0_F.sl.r c i xt0)) _ _) (ix4 0 0 a 0) from rfl) ?_
    rw [show kernelRun0_F.sl.r c i xt0 = n from hn]
    simp only [kernelRun0_F.sl.v173, readCov_ld, View.readAt_eq_ld, Memref.IsWhole.read_unread]
    refine (lse_2 _ _ n ⟨32 * (2 : Fin 3).val + a.val, by show 32 * 2 + a.val < 96; omega⟩ a rfl _ _ ?_ ?_).trans hv.symm
    all_goals (intros; pointwise)
  case piece1 =>
    obtain rfl : j = 1 := tok_eq (k := 1) j 1 (y 1) (y 1).isLt (by rw [← hY1, hy1]) rfl
    obtain ⟨rfl, ha⟩ := row_eq (k := 96) l 3 a (y 2) a.isLt (y 2).isLt (by rw [← hY2, hy2]) rfl
    obtain rfl := idx_E y a ha
    refine Eq.trans (show _ = k0_pay192 (F := Ideal) (k0_pay191 (F := Ideal) (k0_pay174 (F := Ideal) (kernelRun0_F.sl.r c i xt0)) _ _) (ix4 0 0 a 0) from rfl) ?_
    rw [show kernelRun0_F.sl.r c i xt0 = n from hn]
    simp only [kernelRun0_F.sl.v173, readCov_ld, View.readAt_eq_ld, Memref.IsWhole.read_unread]
    refine (lse_1 _ _ n ⟨32 * (1 : Fin 3).val + a.val, by show 32 * 1 + a.val < 96; omega⟩ a rfl _ _ ?_ ?_).trans hv.symm
    all_goals (intros; pointwise)
  case piece2 =>
    obtain rfl : j = 0 := tok_eq (k := 0) j 0 (y 1) (y 1).isLt (by rw [← hY1, hy1]; exact (Nat.zero_add _).symm) rfl
    obtain ⟨rfl, ha⟩ := row_eq (k := 96) l 3 a (y 2) a.isLt (y 2).isLt (by rw [← hY2, hy2]) rfl
    obtain rfl := idx_E y a ha
    refine Eq.trans (show _ = k0_pay189 (F := Ideal) (k0_pay174 (F := Ideal) (kernelRun0_F.sl.r c i xt0)) _ _ (ix4 0 0 a 0) from rfl) ?_
    rw [show kernelRun0_F.sl.r c i xt0 = n from hn]
    simp only [kernelRun0_F.sl.v173, readCov_ld, View.readAt_eq_ld, Memref.IsWhole.read_unread]
    refine (lse_0 _ _ n ⟨32 * (0 : Fin 3).val + a.val, by show 32 * 0 + a.val < 96; omega⟩ a rfl _ _ ?_ ?_).trans hv.symm
    all_goals (intros; pointwise)
  case piece3 =>
    obtain rfl : j = 2 := tok_eq (k := 2) j 2 (y 1) (y 1).isLt (by rw [← hY1, hy1]) rfl
    obtain ⟨rfl, ha⟩ := row_eq (k := 64) l 2 a (y 2) a.isLt (y 2).isLt (by rw [← hY2, hy2]) rfl
    obtain rfl := idx_E y a ha
    refine Eq.trans (show _ = k0_pay194 (F := Ideal) (k0_pay187 (F := Ideal) (k0_pay174 (F := Ideal) (kernelRun0_F.sl.r c i xt0)) _ _) (ix4 0 0 a 0) from rfl) ?_
    rw [show kernelRun0_F.sl.r c i xt0 = n from hn]
    simp only [kernelRun0_F.sl.v173, readCov_ld, View.readAt_eq_ld, Memref.IsWhole.read_unread]
    refine (lse_2 _ _ n ⟨32 * (2 : Fin 3).val + a.val, by show 32 * 2 + a.val < 96; omega⟩ a rfl _ _ ?_ ?_).trans hv.symm
    all_goals (intros; pointwise)
  case piece4 =>
    obtain rfl : j = 1 := tok_eq (k := 1) j 1 (y 1) (y 1).isLt (by rw [← hY1, hy1]) rfl
    obtain ⟨rfl, ha⟩ := row_eq (k := 64) l 2 a (y 2) a.isLt (y 2).isLt (by rw [← hY2, hy2]) rfl
    obtain rfl := idx_E y a ha
    refine Eq.trans (show _ = k0_pay192 (F := Ideal) (k0_pay191 (F := Ideal) (k0_pay174 (F := Ideal) (kernelRun0_F.sl.r c i xt0)) _ _) (ix4 0 0 a 0) from rfl) ?_
    rw [show kernelRun0_F.sl.r c i xt0 = n from hn]
    simp only [kernelRun0_F.sl.v173, readCov_ld, View.readAt_eq_ld, Memref.IsWhole.read_unread]
    refine (lse_1 _ _ n ⟨32 * (1 : Fin 3).val + a.val, by show 32 * 1 + a.val < 96; omega⟩ a rfl _ _ ?_ ?_).trans hv.symm
    all_goals (intros; pointwise)
  case piece5 =>
    obtain rfl : j = 0 := tok_eq (k := 0) j 0 (y 1) (y 1).isLt (by rw [← hY1, hy1]; exact (Nat.zero_add _).symm) rfl
    obtain ⟨rfl, ha⟩ := row_eq (k := 64) l 2 a (y 2) a.isLt (y 2).isLt (by rw [← hY2, hy2]) rfl
    obtain rfl := idx_E y a ha
    refine Eq.trans (show _ = k0_pay189 (F := Ideal) (k0_pay174 (F := Ideal) (kernelRun0_F.sl.r c i xt0)) _ _ (ix4 0 0 a 0) from rfl) ?_
    rw [show kernelRun0_F.sl.r c i xt0 = n from hn]
    simp only [kernelRun0_F.sl.v173, readCov_ld, View.readAt_eq_ld, Memref.IsWhole.read_unread]
    refine (lse_0 _ _ n ⟨32 * (0 : Fin 3).val + a.val, by show 32 * 0 + a.val < 96; omega⟩ a rfl _ _ ?_ ?_).trans hv.symm
    all_goals (intros; pointwise)
  case piece6 =>
    obtain rfl : j = 2 := tok_eq (k := 2) j 2 (y 1) (y 1).isLt (by rw [← hY1, hy1]) rfl
    obtain ⟨rfl, ha⟩ := row_eq (k := 32) l 1 a (y 2) a.isLt (y 2).isLt (by rw [← hY2, hy2]) rfl
    obtain rfl := idx_E y a ha
    refine Eq.trans (show _ = k0_pay194 (F := Ideal) (k0_pay187 (F := Ideal) (k0_pay174 (F := Ideal) (kernelRun0_F.sl.r c i xt0)) _ _) (ix4 0 0 a 0) from rfl) ?_
    rw [show kernelRun0_F.sl.r c i xt0 = n from hn]
    simp only [kernelRun0_F.sl.v173, readCov_ld, View.readAt_eq_ld, Memref.IsWhole.read_unread]
    refine (lse_2 _ _ n ⟨32 * (2 : Fin 3).val + a.val, by show 32 * 2 + a.val < 96; omega⟩ a rfl _ _ ?_ ?_).trans hv.symm
    all_goals (intros; pointwise)
  case piece7 =>
    obtain rfl : j = 1 := tok_eq (k := 1) j 1 (y 1) (y 1).isLt (by rw [← hY1, hy1]) rfl
    obtain ⟨rfl, ha⟩ := row_eq (k := 32) l 1 a (y 2) a.isLt (y 2).isLt (by rw [← hY2, hy2]) rfl
    obtain rfl := idx_E y a ha
    refine Eq.trans (show _ = k0_pay192 (F := Ideal) (k0_pay191 (F := Ideal) (k0_pay174 (F := Ideal) (kernelRun0_F.sl.r c i xt0)) _ _) (ix4 0 0 a 0) from rfl) ?_
    rw [show kernelRun0_F.sl.r c i xt0 = n from hn]
    simp only [kernelRun0_F.sl.v173, readCov_ld, View.readAt_eq_ld, Memref.IsWhole.read_unread]
    refine (lse_1 _ _ n ⟨32 * (1 : Fin 3).val + a.val, by show 32 * 1 + a.val < 96; omega⟩ a rfl _ _ ?_ ?_).trans hv.symm
    all_goals (intros; pointwise)
  case piece8 =>
    obtain rfl : j = 0 := tok_eq (k := 0) j 0 (y 1) (y 1).isLt (by rw [← hY1, hy1]; exact (Nat.zero_add _).symm) rfl
    obtain ⟨rfl, ha⟩ := row_eq (k := 32) l 1 a (y 2) a.isLt (y 2).isLt (by rw [← hY2, hy2]) rfl
    obtain rfl := idx_E y a ha
    refine Eq.trans (show _ = k0_pay189 (F := Ideal) (k0_pay174 (F := Ideal) (kernelRun0_F.sl.r c i xt0)) _ _ (ix4 0 0 a 0) from rfl) ?_
    rw [show kernelRun0_F.sl.r c i xt0 = n from hn]
    simp only [kernelRun0_F.sl.v173, readCov_ld, View.readAt_eq_ld, Memref.IsWhole.read_unread]
    refine (lse_0 _ _ n ⟨32 * (0 : Fin 3).val + a.val, by show 32 * 0 + a.val < 96; omega⟩ a rfl _ _ ?_ ?_).trans hv.symm
    all_goals (intros; pointwise)
  case piece9 =>
    obtain rfl : j = 2 := tok_eq (k := 2) j 2 (y 1) (y 1).isLt (by rw [← hY1, hy1]) rfl
    obtain ⟨rfl, ha⟩ := row_eq (k := 0) l 0 a (y 2) a.isLt (y 2).isLt (by rw [← hY2, hy2]; exact (Nat.zero_add _).symm) rfl
    obtain rfl := idx_E y a ha
    refine Eq.trans (show _ = k0_pay194 (F := Ideal) (k0_pay187 (F := Ideal) (k0_pay174 (F := Ideal) (kernelRun0_F.sl.r c i xt0)) _ _) (ix4 0 0 a 0) from rfl) ?_
    rw [show kernelRun0_F.sl.r c i xt0 = n from hn]
    simp only [kernelRun0_F.sl.v173, readCov_ld, View.readAt_eq_ld, Memref.IsWhole.read_unread]
    refine (lse_2 _ _ n ⟨32 * (2 : Fin 3).val + a.val, by show 32 * 2 + a.val < 96; omega⟩ a rfl _ _ ?_ ?_).trans hv.symm
    all_goals (intros; pointwise)
  case piece10 =>
    obtain rfl : j = 1 := tok_eq (k := 1) j 1 (y 1) (y 1).isLt (by rw [← hY1, hy1]) rfl
    obtain ⟨rfl, ha⟩ := row_eq (k := 0) l 0 a (y 2) a.isLt (y 2).isLt (by rw [← hY2, hy2]; exact (Nat.zero_add _).symm) rfl
    obtain rfl := idx_E y a ha
    refine Eq.trans (show _ = k0_pay192 (F := Ideal) (k0_pay191 (F := Ideal) (k0_pay174 (F := Ideal) (kernelRun0_F.sl.r c i xt0)) _ _) (ix4 0 0 a 0) from rfl) ?_
    rw [show kernelRun0_F.sl.r c i xt0 = n from hn]
    simp only [kernelRun0_F.sl.v173, readCov_ld, View.readAt_eq_ld, Memref.IsWhole.read_unread]
    refine (lse_1 _ _ n ⟨32 * (1 : Fin 3).val + a.val, by show 32 * 1 + a.val < 96; omega⟩ a rfl _ _ ?_ ?_).trans hv.symm
    all_goals (intros; pointwise)
  case piece11 =>
    obtain rfl : j = 0 := tok_eq (k := 0) j 0 (y 1) (y 1).isLt (by rw [← hY1, hy1]; exact (Nat.zero_add _).symm) rfl
    obtain ⟨rfl, ha⟩ := row_eq (k := 0) l 0 a (y 2) a.isLt (y 2).isLt (by rw [← hY2, hy2]; exact (Nat.zero_add _).symm) rfl
    obtain rfl := idx_E y a ha
    refine Eq.trans (show _ = k0_pay189 (F := Ideal) (k0_pay174 (F := Ideal) (kernelRun0_F.sl.r c i xt0)) _ _ (ix4 0 0 a 0) from rfl) ?_
    rw [show kernelRun0_F.sl.r c i xt0 = n from hn]
    simp only [kernelRun0_F.sl.v173, readCov_ld, View.readAt_eq_ld, Memref.IsWhole.read_unread]
    refine (lse_0 _ _ n ⟨32 * (0 : Fin 3).val + a.val, by show 32 * 0 + a.val < 96; omega⟩ a rfl _ _ ?_ ?_).trans hv.symm
    all_goals (intros; pointwise)

end Cert.KernelIdeal.Value
end
end
-- ==== Proof.OutE.lean ====
/-
  What the last point of a run stores into the results when its block holds keys to read.
-/
module

public import proofs.«01_k».proof.Proof.Final
public import proofs.«01_k».proof.Proof.Gen.KernelIdeal.Frame

@[expose] public section

set_option maxRecDepth 16384

noncomputable section

open Idealize.ShloMosaic Idealize.ShloMosaic.TcCoe Idealize.SL.Sem Cert.Online
namespace Cert.KernelIdeal.Value
open Cert.KernelIdeal Cert.KernelIdeal.Gen

/-- What the last point of a run with keys to read stores into the output, from the state it leaves. -/
theorem outO_E (c : Dev nD) (i : grid0.Coords) (arg3 : Memref sig .tc .vmem S1x3x128x256 .bf16) (harg3 : arg3.IsWhole) (arg4 : Memref sig .tc .vmem S1x3x64x128 .bf16) (harg4 : arg4.IsWhole) (arg5 : Memref sig .tc .vmem S1x4x16x256 .bf16) (harg5 : arg5.IsWhole) (arg6 : Memref sig .tc .vmem S1x16x64 .bf16) (harg6 : arg6.IsWhole) (arg7 : Memref sig .tc .vmem S1x512x4x128 .fp8e4m3) (harg7 : arg7.IsWhole) (arg8 : Memref sig .tc .vmem S1x512x4x128 .fp8e4m3) (harg8 : arg8.IsWhole) (arg9 : Memref sig .tc .vmem S1x4x8x512 .i8) (harg9 : arg9.IsWhole) (arg10 : Memref sig .tc .vmem S1x64x512 .bf16) (harg10 : arg10.IsWhole) (arg11 : Memref sig .tc .vmem S1x3x128x256 .bf16) (harg11 : arg11.IsWhole) (arg12 : Memref sig .tc .vmem S1x3x128x1 .f32) (harg12 : arg12.IsWhole) (arg13 : Memref sig .tc .vmem S4x96x256 .bf16) (harg13 : arg13.IsWhole) (arg14 : Memref sig .tc .vmem S4x96x64 .bf16) (harg14 : arg14.IsWhole) (arg15 : Memref sig .tc .vmem S4x96x256 .f32) (harg15 : arg15.IsWhole) (arg16 : Memref sig .tc .vmem S4x96x1 .f32) (harg16 : arg16.IsWhole) (arg17 : Memref sig .tc .vmem S4x96x1 .f32) (harg17 : arg17.IsWhole) (hc0 : ¬cond0_0 i) (hc2 : cond0_2 i)
    (x0 : Vec Ideal S1x3x128x256 .bf16) (x1 : Vec Ideal S1x3x64x128 .bf16) (x2 : Vec Ideal S1x4x16x256 .bf16) (x3 : Vec Ideal S1x16x64 .bf16) (x4 : Vec Ideal S1x512x4x128 .fp8e4m3) (x5 : Vec Ideal S1x512x4x128 .fp8e4m3) (x6 : Vec Ideal S1x4x8x512 .i8) (x7 : Vec Ideal S1x64x512 .bf16) (xt0 : TbBuf0 (F := Ideal) c tbM0_0) (xs0 : Vec Ideal S4x96x256 .bf16) (xs1 : Vec Ideal S4x96x64 .bf16) (xs2 : Vec Ideal S4x96x256 .f32) (xs3 : Vec Ideal S4x96x1 .f32) (xs4 : Vec Ideal S4x96x1 .f32) (hc1 : cond0_1 i (tbM0_0.view.readAt (Elt Ideal) (Rect.unit (s := S12) (k0_off1 i) S1.size (k0_off1_inb i)).toLoadRect xt0 (Shape.Idx.first (numel1_S1.symm ▸ Nat.one_pos)))) (j : Fin 3) (l : Fin 4) (a : Fin 32) (x : Fin 256) :
    out0_E_8 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1 (ix4 0 j ⟨32 * l.val + a.val, by omega⟩ (perm x))
      = Ideal.div (sout0_E_2 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1 (ix3 l ⟨32 * j.val + a.val, by omega⟩ x)) (sout0_E_4 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1 (ix3 l ⟨32 * j.val + a.val, by omega⟩ 0)) := by
  have h2 : sout0_E_2 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1 = View.canon (kernelRun0_E.sl.HS2_4 (F := Ideal) c i arg7 harg7 arg8 harg8 arg9 harg9 arg10 harg10 arg13 harg13 arg14 harg14 arg15 harg15 arg16 harg16 x4 x5 x6 x7 xt0 xs0 xs1 xs2 xs3) := by
    unfold sout0_E_2
    rw [View.read_writes_eq_canon _ _ _ (scover0_E_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1)]
    rfl
  rw [h2]
  have h4 : sout0_E_4 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1 = View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) := by
    unfold sout0_E_4
    rw [View.read_writes_eq_canon _ _ _ (scover0_E_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1)]
    rfl
  rw [h4]
  unfold out0_E_8
  rw [View.read_writes_eq_canon _ _ _ (cover0_E_8 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1)]
  unfold kernelRun0_E
  dsimp only
  obtain ⟨v, hv⟩ : ∃ v : EReal, v = Ideal.div (View.canon (kernelRun0_E.sl.HS2_4 (F := Ideal) c i arg7 harg7 arg8 harg8 arg9 harg9 arg10 harg10 arg13 harg13 arg14 harg14 arg15 harg15 arg16 harg16 x4 x5 x6 x7 xt0 xs0 xs1 xs2 xs3) (ix3 l ⟨32 * j.val + a.val, by omega⟩ x)) (View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) (ix3 l ⟨32 * j.val + a.val, by omega⟩ 0)) := ⟨_, rfl⟩
  refine Eq.trans ?_ hv
  generalize hY : (ix4 0 j ⟨32 * l.val + a.val, by omega⟩ (perm x) : S1x3x128x256.Idx) = Y
  have hY1 : (Y 1).val = j.val := by rw [← hY]; rfl
  have hY2 : (Y 2).val = 32 * l.val + a.val := by rw [← hY]; rfl
  have hY3 : (Y 3).val = (perm x).val := by rw [← hY]; rfl
  clear hY
  canon_tiles y hy
  case piece0 =>
    obtain rfl : j = 2 := tok_eq (k := 2) j 2 (y 1) (y 1).isLt (by rw [← hY1, hy1]) rfl
    obtain ⟨rfl, ha⟩ := row_eq (k := 96) l 3 a (y 2) a.isLt (y 2).isLt (by rw [← hY2, hy2]) rfl
    obtain rfl := idx_O y a (perm x) ha (by rw [← hY3, hy3])
    refine Eq.trans (show _ = k0_pay193 (F := Ideal) (k0_pay186 (F := Ideal) pm _ _) (ix4 0 0 a (perm x)) from rfl) ?_
    simp only [kernelRun0_E.sl.v226_1, kernelRun0_E.sl.v260_1, kernelRun0_E.sl.v135, kernelRun0_E.sl.v176, kernelRun0_E.sl.v267_1, kernelRun0_E.sl.v144_1, kernelRun0_E.sl.v217_1, kernelRun0_E.sl.v137_1, kernelRun0_E.sl.v219_1, kernelRun0_E.sl.v258_1, kernelRun0_E.sl.v178, kernelRun0_E.sl.v185_1, kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, readCov_ld, View.readAt_eq_ld, Memref.IsWhole.read_unread]
    generalize View.canon (kernelRun0_E.sl.HS2_4 (F := Ideal) c i arg7 harg7 arg8 harg8 arg9 harg9 arg10 harg10 arg13 harg13 arg14 harg14 arg15 harg15 arg16 harg16 x4 x5 x6 x7 xt0 xs0 xs1 xs2 xs3) = A at hv ⊢
    generalize View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) = L at hv ⊢
    refine (out_2 _ _ ⟨32 * (2 : Fin 3).val + a.val, by show 32 * 2 + a.val < 96; omega⟩ a x rfl _ _ ?_ ?_).trans hv.symm
    all_goals (intros; pointwise)
  case piece1 =>
    obtain rfl : j = 1 := tok_eq (k := 1) j 1 (y 1) (y 1).isLt (by rw [← hY1, hy1]) rfl
    obtain ⟨rfl, ha⟩ := row_eq (k := 96) l 3 a (y 2) a.isLt (y 2).isLt (by rw [← hY2, hy2]) rfl
    obtain rfl := idx_O y a (perm x) ha (by rw [← hY3, hy3])
    refine Eq.trans (show _ = k0_pay190 (F := Ideal) pm _ _ (ix4 0 0 a (perm x)) from rfl) ?_
    simp only [kernelRun0_E.sl.v226_1, kernelRun0_E.sl.v260_1, kernelRun0_E.sl.v135, kernelRun0_E.sl.v176, kernelRun0_E.sl.v267_1, kernelRun0_E.sl.v144_1, kernelRun0_E.sl.v217_1, kernelRun0_E.sl.v137_1, kernelRun0_E.sl.v219_1, kernelRun0_E.sl.v258_1, kernelRun0_E.sl.v178, kernelRun0_E.sl.v185_1, kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, readCov_ld, View.readAt_eq_ld, Memref.IsWhole.read_unread]
    generalize View.canon (kernelRun0_E.sl.HS2_4 (F := Ideal) c i arg7 harg7 arg8 harg8 arg9 harg9 arg10 harg10 arg13 harg13 arg14 harg14 arg15 harg15 arg16 harg16 x4 x5 x6 x7 xt0 xs0 xs1 xs2 xs3) = A at hv ⊢
    generalize View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) = L at hv ⊢
    refine (out_1 _ _ ⟨32 * (1 : Fin 3).val + a.val, by show 32 * 1 + a.val < 96; omega⟩ a x rfl _ _ ?_ ?_).trans hv.symm
    all_goals (intros; pointwise)
  case piece2 =>
    obtain rfl : j = 0 := tok_eq (k := 0) j 0 (y 1) (y 1).isLt (by rw [← hY1, hy1]; exact (Nat.zero_add _).symm) rfl
    obtain ⟨rfl, ha⟩ := row_eq (k := 96) l 3 a (y 2) a.isLt (y 2).isLt (by rw [← hY2, hy2]) rfl
    obtain rfl := idx_O y a (perm x) ha (by rw [← hY3, hy3])
    refine Eq.trans (show _ = k0_pay188 (F := Ideal) pm _ _ (ix4 0 0 a (perm x)) from rfl) ?_
    simp only [kernelRun0_E.sl.v226_1, kernelRun0_E.sl.v260_1, kernelRun0_E.sl.v135, kernelRun0_E.sl.v176, kernelRun0_E.sl.v267_1, kernelRun0_E.sl.v144_1, kernelRun0_E.sl.v217_1, kernelRun0_E.sl.v137_1, kernelRun0_E.sl.v219_1, kernelRun0_E.sl.v258_1, kernelRun0_E.sl.v178, kernelRun0_E.sl.v185_1, kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, readCov_ld, View.readAt_eq_ld, Memref.IsWhole.read_unread]
    generalize View.canon (kernelRun0_E.sl.HS2_4 (F := Ideal) c i arg7 harg7 arg8 harg8 arg9 harg9 arg10 harg10 arg13 harg13 arg14 harg14 arg15 harg15 arg16 harg16 x4 x5 x6 x7 xt0 xs0 xs1 xs2 xs3) = A at hv ⊢
    generalize View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) = L at hv ⊢
    refine (out_0 _ _ ⟨32 * (0 : Fin 3).val + a.val, by show 32 * 0 + a.val < 96; omega⟩ a x rfl _ _ ?_ ?_).trans hv.symm
    all_goals (intros; pointwise)
  case piece3 =>
    obtain rfl : j = 2 := tok_eq (k := 2) j 2 (y 1) (y 1).isLt (by rw [← hY1, hy1]) rfl
    obtain ⟨rfl, ha⟩ := row_eq (k := 64) l 2 a (y 2) a.isLt (y 2).isLt (by rw [← hY2, hy2]) rfl
    obtain rfl := idx_O y a (perm x) ha (by rw [← hY3, hy3])
    refine Eq.trans (show _ = k0_pay193 (F := Ideal) (k0_pay186 (F := Ideal) pm _ _) (ix4 0 0 a (perm x)) from rfl) ?_
    simp only [kernelRun0_E.sl.v226_1, kernelRun0_E.sl.v260_1, kernelRun0_E.sl.v135, kernelRun0_E.sl.v176, kernelRun0_E.sl.v267_1, kernelRun0_E.sl.v144_1, kernelRun0_E.sl.v217_1, kernelRun0_E.sl.v137_1, kernelRun0_E.sl.v219_1, kernelRun0_E.sl.v258_1, kernelRun0_E.sl.v178, kernelRun0_E.sl.v185_1, kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, readCov_ld, View.readAt_eq_ld, Memref.IsWhole.read_unread]
    generalize View.canon (kernelRun0_E.sl.HS2_4 (F := Ideal) c i arg7 harg7 arg8 harg8 arg9 harg9 arg10 harg10 arg13 harg13 arg14 harg14 arg15 harg15 arg16 harg16 x4 x5 x6 x7 xt0 xs0 xs1 xs2 xs3) = A at hv ⊢
    generalize View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) = L at hv ⊢
    refine (out_2 _ _ ⟨32 * (2 : Fin 3).val + a.val, by show 32 * 2 + a.val < 96; omega⟩ a x rfl _ _ ?_ ?_).trans hv.symm
    all_goals (intros; pointwise)
  case piece4 =>
    obtain rfl : j = 1 := tok_eq (k := 1) j 1 (y 1) (y 1).isLt (by rw [← hY1, hy1]) rfl
    obtain ⟨rfl, ha⟩ := row_eq (k := 64) l 2 a (y 2) a.isLt (y 2).isLt (by rw [← hY2, hy2]) rfl
    obtain rfl := idx_O y a (perm x) ha (by rw [← hY3, hy3])
    refine Eq.trans (show _ = k0_pay190 (F := Ideal) pm _ _ (ix4 0 0 a (perm x)) from rfl) ?_
    simp only [kernelRun0_E.sl.v226_1, kernelRun0_E.sl.v260_1, kernelRun0_E.sl.v135, kernelRun0_E.sl.v176, kernelRun0_E.sl.v267_1, kernelRun0_E.sl.v144_1, kernelRun0_E.sl.v217_1, kernelRun0_E.sl.v137_1, kernelRun0_E.sl.v219_1, kernelRun0_E.sl.v258_1, kernelRun0_E.sl.v178, kernelRun0_E.sl.v185_1, kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, readCov_ld, View.readAt_eq_ld, Memref.IsWhole.read_unread]
    generalize View.canon (kernelRun0_E.sl.HS2_4 (F := Ideal) c i arg7 harg7 arg8 harg8 arg9 harg9 arg10 harg10 arg13 harg13 arg14 harg14 arg15 harg15 arg16 harg16 x4 x5 x6 x7 xt0 xs0 xs1 xs2 xs3) = A at hv ⊢
    generalize View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) = L at hv ⊢
    refine (out_1 _ _ ⟨32 * (1 : Fin 3).val + a.val, by show 32 * 1 + a.val < 96; omega⟩ a x rfl _ _ ?_ ?_).trans hv.symm
    all_goals (intros; pointwise)
  case piece5 =>
    obtain rfl : j = 0 := tok_eq (k := 0) j 0 (y 1) (y 1).isLt (by rw [← hY1, hy1]; exact (Nat.zero_add _).symm) rfl
    obtain ⟨rfl, ha⟩ := row_eq (k := 64) l 2 a (y 2) a.isLt (y 2).isLt (by rw [← hY2, hy2]) rfl
    obtain rfl := idx_O y a (perm x) ha (by rw [← hY3, hy3])
    refine Eq.trans (show _ = k0_pay188 (F := Ideal) pm _ _ (ix4 0 0 a (perm x)) from rfl) ?_
    simp only [kernelRun0_E.sl.v226_1, kernelRun0_E.sl.v260_1, kernelRun0_E.sl.v135, kernelRun0_E.sl.v176, kernelRun0_E.sl.v267_1, kernelRun0_E.sl.v144_1, kernelRun0_E.sl.v217_1, kernelRun0_E.sl.v137_1, kernelRun0_E.sl.v219_1, kernelRun0_E.sl.v258_1, kernelRun0_E.sl.v178, kernelRun0_E.sl.v185_1, kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, readCov_ld, View.readAt_eq_ld, Memref.IsWhole.read_unread]
    generalize View.canon (kernelRun0_E.sl.HS2_4 (F := Ideal) c i arg7 harg7 arg8 harg8 arg9 harg9 arg10 harg10 arg13 harg13 arg14 harg14 arg15 harg15 arg16 harg16 x4 x5 x6 x7 xt0 xs0 xs1 xs2 xs3) = A at hv ⊢
    generalize View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) = L at hv ⊢
    refine (out_0 _ _ ⟨32 * (0 : Fin 3).val + a.val, by show 32 * 0 + a.val < 96; omega⟩ a x rfl _ _ ?_ ?_).trans hv.symm
    all_goals (intros; pointwise)
  case piece6 =>
    obtain rfl : j = 2 := tok_eq (k := 2) j 2 (y 1) (y 1).isLt (by rw [← hY1, hy1]) rfl
    obtain ⟨rfl, ha⟩ := row_eq (k := 32) l 1 a (y 2) a.isLt (y 2).isLt (by rw [← hY2, hy2]) rfl
    obtain rfl := idx_O y a (perm x) ha (by rw [← hY3, hy3])
    refine Eq.trans (show _ = k0_pay193 (F := Ideal) (k0_pay186 (F := Ideal) pm _ _) (ix4 0 0 a (perm x)) from rfl) ?_
    simp only [kernelRun0_E.sl.v226_1, kernelRun0_E.sl.v260_1, kernelRun0_E.sl.v135, kernelRun0_E.sl.v176, kernelRun0_E.sl.v267_1, kernelRun0_E.sl.v144_1, kernelRun0_E.sl.v217_1, kernelRun0_E.sl.v137_1, kernelRun0_E.sl.v219_1, kernelRun0_E.sl.v258_1, kernelRun0_E.sl.v178, kernelRun0_E.sl.v185_1, kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, readCov_ld, View.readAt_eq_ld, Memref.IsWhole.read_unread]
    generalize View.canon (kernelRun0_E.sl.HS2_4 (F := Ideal) c i arg7 harg7 arg8 harg8 arg9 harg9 arg10 harg10 arg13 harg13 arg14 harg14 arg15 harg15 arg16 harg16 x4 x5 x6 x7 xt0 xs0 xs1 xs2 xs3) = A at hv ⊢
    generalize View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) = L at hv ⊢
    refine (out_2 _ _ ⟨32 * (2 : Fin 3).val + a.val, by show 32 * 2 + a.val < 96; omega⟩ a x rfl _ _ ?_ ?_).trans hv.symm
    all_goals (intros; pointwise)
  case piece7 =>
    obtain rfl : j = 1 := tok_eq (k := 1) j 1 (y 1) (y 1).isLt (by rw [← hY1, hy1]) rfl
    obtain ⟨rfl, ha⟩ := row_eq (k := 32) l 1 a (y 2) a.isLt (y 2).isLt (by rw [← hY2, hy2]) rfl
    obtain rfl := idx_O y a (perm x) ha (by rw [← hY3, hy3])
    refine Eq.trans (show _ = k0_pay190 (F := Ideal) pm _ _ (ix4 0 0 a (perm x)) from rfl) ?_
    simp only [kernelRun0_E.sl.v226_1, kernelRun0_E.sl.v260_1, kernelRun0_E.sl.v135, kernelRun0_E.sl.v176, kernelRun0_E.sl.v267_1, kernelRun0_E.sl.v144_1, kernelRun0_E.sl.v217_1, kernelRun0_E.sl.v137_1, kernelRun0_E.sl.v219_1, kernelRun0_E.sl.v258_1, kernelRun0_E.sl.v178, kernelRun0_E.sl.v185_1, kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, readCov_ld, View.readAt_eq_ld, Memref.IsWhole.read_unread]
    generalize View.canon (kernelRun0_E.sl.HS2_4 (F := Ideal) c i arg7 harg7 arg8 harg8 arg9 harg9 arg10 harg10 arg13 harg13 arg14 harg14 arg15 harg15 arg16 harg16 x4 x5 x6 x7 xt0 xs0 xs1 xs2 xs3) = A at hv ⊢
    generalize View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) = L at hv ⊢
    refine (out_1 _ _ ⟨32 * (1 : Fin 3).val + a.val, by show 32 * 1 + a.val < 96; omega⟩ a x rfl _ _ ?_ ?_).trans hv.symm
    all_goals (intros; pointwise)
  case piece8 =>
    obtain rfl : j = 0 := tok_eq (k := 0) j 0 (y 1) (y 1).isLt (by rw [← hY1, hy1]; exact (Nat.zero_add _).symm) rfl
    obtain ⟨rfl, ha⟩ := row_eq (k := 32) l 1 a (y 2) a.isLt (y 2).isLt (by rw [← hY2, hy2]) rfl
    obtain rfl := idx_O y a (perm x) ha (by rw [← hY3, hy3])
    refine Eq.trans (show _ = k0_pay188 (F := Ideal) pm _ _ (ix4 0 0 a (perm x)) from rfl) ?_
    simp only [kernelRun0_E.sl.v226_1, kernelRun0_E.sl.v260_1, kernelRun0_E.sl.v135, kernelRun0_E.sl.v176, kernelRun0_E.sl.v267_1, kernelRun0_E.sl.v144_1, kernelRun0_E.sl.v217_1, kernelRun0_E.sl.v137_1, kernelRun0_E.sl.v219_1, kernelRun0_E.sl.v258_1, kernelRun0_E.sl.v178, kernelRun0_E.sl.v185_1, kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, readCov_ld, View.readAt_eq_ld, Memref.IsWhole.read_unread]
    generalize View.canon (kernelRun0_E.sl.HS2_4 (F := Ideal) c i arg7 harg7 arg8 harg8 arg9 harg9 arg10 harg10 arg13 harg13 arg14 harg14 arg15 harg15 arg16 harg16 x4 x5 x6 x7 xt0 xs0 xs1 xs2 xs3) = A at hv ⊢
    generalize View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) = L at hv ⊢
    refine (out_0 _ _ ⟨32 * (0 : Fin 3).val + a.val, by show 32 * 0 + a.val < 96; omega⟩ a x rfl _ _ ?_ ?_).trans hv.symm
    all_goals (intros; pointwise)
  case piece9 =>
    obtain rfl : j = 2 := tok_eq (k := 2) j 2 (y 1) (y 1).isLt (by rw [← hY1, hy1]) rfl
    obtain ⟨rfl, ha⟩ := row_eq (k := 0) l 0 a (y 2) a.isLt (y 2).isLt (by rw [← hY2, hy2]; exact (Nat.zero_add _).symm) rfl
    obtain rfl := idx_O y a (perm x) ha (by rw [← hY3, hy3])
    refine Eq.trans (show _ = k0_pay193 (F := Ideal) (k0_pay186 (F := Ideal) pm _ _) (ix4 0 0 a (perm x)) from rfl) ?_
    simp only [kernelRun0_E.sl.v226_1, kernelRun0_E.sl.v260_1, kernelRun0_E.sl.v135, kernelRun0_E.sl.v176, kernelRun0_E.sl.v267_1, kernelRun0_E.sl.v144_1, kernelRun0_E.sl.v217_1, kernelRun0_E.sl.v137_1, kernelRun0_E.sl.v219_1, kernelRun0_E.sl.v258_1, kernelRun0_E.sl.v178, kernelRun0_E.sl.v185_1, kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, readCov_ld, View.readAt_eq_ld, Memref.IsWhole.read_unread]
    generalize View.canon (kernelRun0_E.sl.HS2_4 (F := Ideal) c i arg7 harg7 arg8 harg8 arg9 harg9 arg10 harg10 arg13 harg13 arg14 harg14 arg15 harg15 arg16 harg16 x4 x5 x6 x7 xt0 xs0 xs1 xs2 xs3) = A at hv ⊢
    generalize View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) = L at hv ⊢
    refine (out_2 _ _ ⟨32 * (2 : Fin 3).val + a.val, by show 32 * 2 + a.val < 96; omega⟩ a x rfl _ _ ?_ ?_).trans hv.symm
    all_goals (intros; pointwise)
  case piece10 =>
    obtain rfl : j = 1 := tok_eq (k := 1) j 1 (y 1) (y 1).isLt (by rw [← hY1, hy1]) rfl
    obtain ⟨rfl, ha⟩ := row_eq (k := 0) l 0 a (y 2) a.isLt (y 2).isLt (by rw [← hY2, hy2]; exact (Nat.zero_add _).symm) rfl
    obtain rfl := idx_O y a (perm x) ha (by rw [← hY3, hy3])
    refine Eq.trans (show _ = k0_pay190 (F := Ideal) pm _ _ (ix4 0 0 a (perm x)) from rfl) ?_
    simp only [kernelRun0_E.sl.v226_1, kernelRun0_E.sl.v260_1, kernelRun0_E.sl.v135, kernelRun0_E.sl.v176, kernelRun0_E.sl.v267_1, kernelRun0_E.sl.v144_1, kernelRun0_E.sl.v217_1, kernelRun0_E.sl.v137_1, kernelRun0_E.sl.v219_1, kernelRun0_E.sl.v258_1, kernelRun0_E.sl.v178, kernelRun0_E.sl.v185_1, kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, readCov_ld, View.readAt_eq_ld, Memref.IsWhole.read_unread]
    generalize View.canon (kernelRun0_E.sl.HS2_4 (F := Ideal) c i arg7 harg7 arg8 harg8 arg9 harg9 arg10 harg10 arg13 harg13 arg14 harg14 arg15 harg15 arg16 harg16 x4 x5 x6 x7 xt0 xs0 xs1 xs2 xs3) = A at hv ⊢
    generalize View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) = L at hv ⊢
    refine (out_1 _ _ ⟨32 * (1 : Fin 3).val + a.val, by show 32 * 1 + a.val < 96; omega⟩ a x rfl _ _ ?_ ?_).trans hv.symm
    all_goals (intros; pointwise)
  case piece11 =>
    obtain rfl : j = 0 := tok_eq (k := 0) j 0 (y 1) (y 1).isLt (by rw [← hY1, hy1]; exact (Nat.zero_add _).symm) rfl
    obtain ⟨rfl, ha⟩ := row_eq (k := 0) l 0 a (y 2) a.isLt (y 2).isLt (by rw [← hY2, hy2]; exact (Nat.zero_add _).symm) rfl
    obtain rfl := idx_O y a (perm x) ha (by rw [← hY3, hy3])
    refine Eq.trans (show _ = k0_pay188 (F := Ideal) pm _ _ (ix4 0 0 a (perm x)) from rfl) ?_
    simp only [kernelRun0_E.sl.v226_1, kernelRun0_E.sl.v260_1, kernelRun0_E.sl.v135, kernelRun0_E.sl.v176, kernelRun0_E.sl.v267_1, kernelRun0_E.sl.v144_1, kernelRun0_E.sl.v217_1, kernelRun0_E.sl.v137_1, kernelRun0_E.sl.v219_1, kernelRun0_E.sl.v258_1, kernelRun0_E.sl.v178, kernelRun0_E.sl.v185_1, kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, readCov_ld, View.readAt_eq_ld, Memref.IsWhole.read_unread]
    generalize View.canon (kernelRun0_E.sl.HS2_4 (F := Ideal) c i arg7 harg7 arg8 harg8 arg9 harg9 arg10 harg10 arg13 harg13 arg14 harg14 arg15 harg15 arg16 harg16 x4 x5 x6 x7 xt0 xs0 xs1 xs2 xs3) = A at hv ⊢
    generalize View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) = L at hv ⊢
    refine (out_0 _ _ ⟨32 * (0 : Fin 3).val + a.val, by show 32 * 0 + a.val < 96; omega⟩ a x rfl _ _ ?_ ?_).trans hv.symm
    all_goals (intros; pointwise)

/-- What the last point of a run with keys to read stores into the logarithm, from the state it leaves. -/
theorem outE_E (c : Dev nD) (i : grid0.Coords) (arg3 : Memref sig .tc .vmem S1x3x128x256 .bf16) (harg3 : arg3.IsWhole) (arg4 : Memref sig .tc .vmem S1x3x64x128 .bf16) (harg4 : arg4.IsWhole) (arg5 : Memref sig .tc .vmem S1x4x16x256 .bf16) (harg5 : arg5.IsWhole) (arg6 : Memref sig .tc .vmem S1x16x64 .bf16) (harg6 : arg6.IsWhole) (arg7 : Memref sig .tc .vmem S1x512x4x128 .fp8e4m3) (harg7 : arg7.IsWhole) (arg8 : Memref sig .tc .vmem S1x512x4x128 .fp8e4m3) (harg8 : arg8.IsWhole) (arg9 : Memref sig .tc .vmem S1x4x8x512 .i8) (harg9 : arg9.IsWhole) (arg10 : Memref sig .tc .vmem S1x64x512 .bf16) (harg10 : arg10.IsWhole) (arg11 : Memref sig .tc .vmem S1x3x128x256 .bf16) (harg11 : arg11.IsWhole) (arg12 : Memref sig .tc .vmem S1x3x128x1 .f32) (harg12 : arg12.IsWhole) (arg13 : Memref sig .tc .vmem S4x96x256 .bf16) (harg13 : arg13.IsWhole) (arg14 : Memref sig .tc .vmem S4x96x64 .bf16) (harg14 : arg14.IsWhole) (arg15 : Memref sig .tc .vmem S4x96x256 .f32) (harg15 : arg15.IsWhole) (arg16 : Memref sig .tc .vmem S4x96x1 .f32) (harg16 : arg16.IsWhole) (arg17 : Memref sig .tc .vmem S4x96x1 .f32) (harg17 : arg17.IsWhole) (hc0 : ¬cond0_0 i) (hc2 : cond0_2 i)
    (x0 : Vec Ideal S1x3x128x256 .bf16) (x1 : Vec Ideal S1x3x64x128 .bf16) (x2 : Vec Ideal S1x4x16x256 .bf16) (x3 : Vec Ideal S1x16x64 .bf16) (x4 : Vec Ideal S1x512x4x128 .fp8e4m3) (x5 : Vec Ideal S1x512x4x128 .fp8e4m3) (x6 : Vec Ideal S1x4x8x512 .i8) (x7 : Vec Ideal S1x64x512 .bf16) (xt0 : TbBuf0 (F := Ideal) c tbM0_0) (xs0 : Vec Ideal S4x96x256 .bf16) (xs1 : Vec Ideal S4x96x64 .bf16) (xs2 : Vec Ideal S4x96x256 .f32) (xs3 : Vec Ideal S4x96x1 .f32) (xs4 : Vec Ideal S4x96x1 .f32) (hc1 : cond0_1 i (tbM0_0.view.readAt (Elt Ideal) (Rect.unit (s := S12) (k0_off1 i) S1.size (k0_off1_inb i)).toLoadRect xt0 (Shape.Idx.first (numel1_S1.symm ▸ Nat.one_pos)))) (n : BitVec 32)
    (hn : (tbM0_0.view.readAt (Elt Ideal) (Rect.unit (s := S12) (k0_off1 i) S1.size (k0_off1_inb i)).toLoadRect xt0 (Shape.Idx.first (numel1_S1.symm ▸ Nat.one_pos))) = n) (j : Fin 3) (l : Fin 4) (a : Fin 32) :
    out0_E_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1 (ix4 0 j ⟨32 * l.val + a.val, by omega⟩ 0)
      = (sout0_E_3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1 (ix3 l ⟨32 * j.val + a.val, by omega⟩ 0) : EReal) * ((Real.log 2 : ℝ) : EReal) + Ideal.log (sout0_E_4 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1 (ix3 l ⟨32 * j.val + a.val, by omega⟩ 0)) - Ideal.log (nvis n j) := by
  have h3 : sout0_E_3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1 = View.canon (kernelRun0_E.sl.HS3_4 (F := Ideal) c i arg7 harg7 arg8 harg8 arg9 harg9 arg10 harg10 arg13 harg13 arg14 harg14 arg16 harg16 x4 x5 x6 x7 xt0 xs0 xs1 xs3) := by
    unfold sout0_E_3
    rw [View.read_writes_eq_canon _ _ _ (scover0_E_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1)]
    rfl
  rw [h3]
  have h4 : sout0_E_4 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1 = View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) := by
    unfold sout0_E_4
    rw [View.read_writes_eq_canon _ _ _ (scover0_E_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1)]
    rfl
  rw [h4]
  unfold out0_E_9
  rw [View.read_writes_eq_canon _ _ _ (cover0_E_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 xs3 xs4 hc1)]
  unfold kernelRun0_E
  dsimp only
  obtain ⟨v, hv⟩ : ∃ v : EReal, v = (View.canon (kernelRun0_E.sl.HS3_4 (F := Ideal) c i arg7 harg7 arg8 harg8 arg9 harg9 arg10 harg10 arg13 harg13 arg14 harg14 arg16 harg16 x4 x5 x6 x7 xt0 xs0 xs1 xs3) (ix3 l ⟨32 * j.val + a.val, by omega⟩ 0) : EReal) * ((Real.log 2 : ℝ) : EReal) + Ideal.log (View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) (ix3 l ⟨32 * j.val + a.val, by omega⟩ 0)) - Ideal.log (nvis n j) := ⟨_, rfl⟩
  refine Eq.trans ?_ hv
  generalize hY : (ix4 0 j ⟨32 * l.val + a.val, by omega⟩ 0 : S1x3x128x1.Idx) = Y
  have hY1 : (Y 1).val = j.val := by rw [← hY]; rfl
  have hY2 : (Y 2).val = 32 * l.val + a.val := by rw [← hY]; rfl
  clear hY
  canon_tiles y hy
  case piece0 =>
    obtain rfl : j = 2 := tok_eq (k := 2) j 2 (y 1) (y 1).isLt (by rw [← hY1, hy1]) rfl
    obtain ⟨rfl, ha⟩ := row_eq (k := 96) l 3 a (y 2) a.isLt (y 2).isLt (by rw [← hY2, hy2]) rfl
    obtain rfl := idx_E y a ha
    refine Eq.trans (show _ = k0_pay194 (F := Ideal) (k0_pay187 (F := Ideal) (k0_pay174 (F := Ideal) (kernelRun0_E.sl.r c i xt0)) _ _) (ix4 0 0 a 0) from rfl) ?_
    rw [show kernelRun0_E.sl.r c i xt0 = n from hn]
    simp only [kernelRun0_E.sl.v226_1, kernelRun0_E.sl.v260_1, kernelRun0_E.sl.v135, kernelRun0_E.sl.v176, kernelRun0_E.sl.v267_1, kernelRun0_E.sl.v144_1, kernelRun0_E.sl.v217_1, kernelRun0_E.sl.v137_1, kernelRun0_E.sl.v219_1, kernelRun0_E.sl.v258_1, kernelRun0_E.sl.v178, kernelRun0_E.sl.v185_1, kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, readCov_ld, View.readAt_eq_ld, Memref.IsWhole.read_unread]
    generalize View.canon (kernelRun0_E.sl.HS3_4 (F := Ideal) c i arg7 harg7 arg8 harg8 arg9 harg9 arg10 harg10 arg13 harg13 arg14 harg14 arg16 harg16 x4 x5 x6 x7 xt0 xs0 xs1 xs3) = M at hv ⊢
    generalize View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) = L at hv ⊢
    refine (lse_2 _ _ n ⟨32 * (2 : Fin 3).val + a.val, by show 32 * 2 + a.val < 96; omega⟩ a rfl _ _ ?_ ?_).trans hv.symm
    all_goals (intros; pointwise)
  case piece1 =>
    obtain rfl : j = 1 := tok_eq (k := 1) j 1 (y 1) (y 1).isLt (by rw [← hY1, hy1]) rfl
    obtain ⟨rfl, ha⟩ := row_eq (k := 96) l 3 a (y 2) a.isLt (y 2).isLt (by rw [← hY2, hy2]) rfl
    obtain rfl := idx_E y a ha
    refine Eq.trans (show _ = k0_pay192 (F := Ideal) (k0_pay191 (F := Ideal) (k0_pay174 (F := Ideal) (kernelRun0_E.sl.r c i xt0)) _ _) (ix4 0 0 a 0) from rfl) ?_
    rw [show kernelRun0_E.sl.r c i xt0 = n from hn]
    simp only [kernelRun0_E.sl.v226_1, kernelRun0_E.sl.v260_1, kernelRun0_E.sl.v135, kernelRun0_E.sl.v176, kernelRun0_E.sl.v267_1, kernelRun0_E.sl.v144_1, kernelRun0_E.sl.v217_1, kernelRun0_E.sl.v137_1, kernelRun0_E.sl.v219_1, kernelRun0_E.sl.v258_1, kernelRun0_E.sl.v178, kernelRun0_E.sl.v185_1, kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, readCov_ld, View.readAt_eq_ld, Memref.IsWhole.read_unread]
    generalize View.canon (kernelRun0_E.sl.HS3_4 (F := Ideal) c i arg7 harg7 arg8 harg8 arg9 harg9 arg10 harg10 arg13 harg13 arg14 harg14 arg16 harg16 x4 x5 x6 x7 xt0 xs0 xs1 xs3) = M at hv ⊢
    generalize View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) = L at hv ⊢
    refine (lse_1 _ _ n ⟨32 * (1 : Fin 3).val + a.val, by show 32 * 1 + a.val < 96; omega⟩ a rfl _ _ ?_ ?_).trans hv.symm
    all_goals (intros; pointwise)
  case piece2 =>
    obtain rfl : j = 0 := tok_eq (k := 0) j 0 (y 1) (y 1).isLt (by rw [← hY1, hy1]; exact (Nat.zero_add _).symm) rfl
    obtain ⟨rfl, ha⟩ := row_eq (k := 96) l 3 a (y 2) a.isLt (y 2).isLt (by rw [← hY2, hy2]) rfl
    obtain rfl := idx_E y a ha
    refine Eq.trans (show _ = k0_pay189 (F := Ideal) (k0_pay174 (F := Ideal) (kernelRun0_E.sl.r c i xt0)) _ _ (ix4 0 0 a 0) from rfl) ?_
    rw [show kernelRun0_E.sl.r c i xt0 = n from hn]
    simp only [kernelRun0_E.sl.v226_1, kernelRun0_E.sl.v260_1, kernelRun0_E.sl.v135, kernelRun0_E.sl.v176, kernelRun0_E.sl.v267_1, kernelRun0_E.sl.v144_1, kernelRun0_E.sl.v217_1, kernelRun0_E.sl.v137_1, kernelRun0_E.sl.v219_1, kernelRun0_E.sl.v258_1, kernelRun0_E.sl.v178, kernelRun0_E.sl.v185_1, kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, readCov_ld, View.readAt_eq_ld, Memref.IsWhole.read_unread]
    generalize View.canon (kernelRun0_E.sl.HS3_4 (F := Ideal) c i arg7 harg7 arg8 harg8 arg9 harg9 arg10 harg10 arg13 harg13 arg14 harg14 arg16 harg16 x4 x5 x6 x7 xt0 xs0 xs1 xs3) = M at hv ⊢
    generalize View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) = L at hv ⊢
    refine (lse_0 _ _ n ⟨32 * (0 : Fin 3).val + a.val, by show 32 * 0 + a.val < 96; omega⟩ a rfl _ _ ?_ ?_).trans hv.symm
    all_goals (intros; pointwise)
  case piece3 =>
    obtain rfl : j = 2 := tok_eq (k := 2) j 2 (y 1) (y 1).isLt (by rw [← hY1, hy1]) rfl
    obtain ⟨rfl, ha⟩ := row_eq (k := 64) l 2 a (y 2) a.isLt (y 2).isLt (by rw [← hY2, hy2]) rfl
    obtain rfl := idx_E y a ha
    refine Eq.trans (show _ = k0_pay194 (F := Ideal) (k0_pay187 (F := Ideal) (k0_pay174 (F := Ideal) (kernelRun0_E.sl.r c i xt0)) _ _) (ix4 0 0 a 0) from rfl) ?_
    rw [show kernelRun0_E.sl.r c i xt0 = n from hn]
    simp only [kernelRun0_E.sl.v226_1, kernelRun0_E.sl.v260_1, kernelRun0_E.sl.v135, kernelRun0_E.sl.v176, kernelRun0_E.sl.v267_1, kernelRun0_E.sl.v144_1, kernelRun0_E.sl.v217_1, kernelRun0_E.sl.v137_1, kernelRun0_E.sl.v219_1, kernelRun0_E.sl.v258_1, kernelRun0_E.sl.v178, kernelRun0_E.sl.v185_1, kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, readCov_ld, View.readAt_eq_ld, Memref.IsWhole.read_unread]
    generalize View.canon (kernelRun0_E.sl.HS3_4 (F := Ideal) c i arg7 harg7 arg8 harg8 arg9 harg9 arg10 harg10 arg13 harg13 arg14 harg14 arg16 harg16 x4 x5 x6 x7 xt0 xs0 xs1 xs3) = M at hv ⊢
    generalize View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) = L at hv ⊢
    refine (lse_2 _ _ n ⟨32 * (2 : Fin 3).val + a.val, by show 32 * 2 + a.val < 96; omega⟩ a rfl _ _ ?_ ?_).trans hv.symm
    all_goals (intros; pointwise)
  case piece4 =>
    obtain rfl : j = 1 := tok_eq (k := 1) j 1 (y 1) (y 1).isLt (by rw [← hY1, hy1]) rfl
    obtain ⟨rfl, ha⟩ := row_eq (k := 64) l 2 a (y 2) a.isLt (y 2).isLt (by rw [← hY2, hy2]) rfl
    obtain rfl := idx_E y a ha
    refine Eq.trans (show _ = k0_pay192 (F := Ideal) (k0_pay191 (F := Ideal) (k0_pay174 (F := Ideal) (kernelRun0_E.sl.r c i xt0)) _ _) (ix4 0 0 a 0) from rfl) ?_
    rw [show kernelRun0_E.sl.r c i xt0 = n from hn]
    simp only [kernelRun0_E.sl.v226_1, kernelRun0_E.sl.v260_1, kernelRun0_E.sl.v135, kernelRun0_E.sl.v176, kernelRun0_E.sl.v267_1, kernelRun0_E.sl.v144_1, kernelRun0_E.sl.v217_1, kernelRun0_E.sl.v137_1, kernelRun0_E.sl.v219_1, kernelRun0_E.sl.v258_1, kernelRun0_E.sl.v178, kernelRun0_E.sl.v185_1, kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, readCov_ld, View.readAt_eq_ld, Memref.IsWhole.read_unread]
    generalize View.canon (kernelRun0_E.sl.HS3_4 (F := Ideal) c i arg7 harg7 arg8 harg8 arg9 harg9 arg10 harg10 arg13 harg13 arg14 harg14 arg16 harg16 x4 x5 x6 x7 xt0 xs0 xs1 xs3) = M at hv ⊢
    generalize View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) = L at hv ⊢
    refine (lse_1 _ _ n ⟨32 * (1 : Fin 3).val + a.val, by show 32 * 1 + a.val < 96; omega⟩ a rfl _ _ ?_ ?_).trans hv.symm
    all_goals (intros; pointwise)
  case piece5 =>
    obtain rfl : j = 0 := tok_eq (k := 0) j 0 (y 1) (y 1).isLt (by rw [← hY1, hy1]; exact (Nat.zero_add _).symm) rfl
    obtain ⟨rfl, ha⟩ := row_eq (k := 64) l 2 a (y 2) a.isLt (y 2).isLt (by rw [← hY2, hy2]) rfl
    obtain rfl := idx_E y a ha
    refine Eq.trans (show _ = k0_pay189 (F := Ideal) (k0_pay174 (F := Ideal) (kernelRun0_E.sl.r c i xt0)) _ _ (ix4 0 0 a 0) from rfl) ?_
    rw [show kernelRun0_E.sl.r c i xt0 = n from hn]
    simp only [kernelRun0_E.sl.v226_1, kernelRun0_E.sl.v260_1, kernelRun0_E.sl.v135, kernelRun0_E.sl.v176, kernelRun0_E.sl.v267_1, kernelRun0_E.sl.v144_1, kernelRun0_E.sl.v217_1, kernelRun0_E.sl.v137_1, kernelRun0_E.sl.v219_1, kernelRun0_E.sl.v258_1, kernelRun0_E.sl.v178, kernelRun0_E.sl.v185_1, kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, readCov_ld, View.readAt_eq_ld, Memref.IsWhole.read_unread]
    generalize View.canon (kernelRun0_E.sl.HS3_4 (F := Ideal) c i arg7 harg7 arg8 harg8 arg9 harg9 arg10 harg10 arg13 harg13 arg14 harg14 arg16 harg16 x4 x5 x6 x7 xt0 xs0 xs1 xs3) = M at hv ⊢
    generalize View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) = L at hv ⊢
    refine (lse_0 _ _ n ⟨32 * (0 : Fin 3).val + a.val, by show 32 * 0 + a.val < 96; omega⟩ a rfl _ _ ?_ ?_).trans hv.symm
    all_goals (intros; pointwise)
  case piece6 =>
    obtain rfl : j = 2 := tok_eq (k := 2) j 2 (y 1) (y 1).isLt (by rw [← hY1, hy1]) rfl
    obtain ⟨rfl, ha⟩ := row_eq (k := 32) l 1 a (y 2) a.isLt (y 2).isLt (by rw [← hY2, hy2]) rfl
    obtain rfl := idx_E y a ha
    refine Eq.trans (show _ = k0_pay194 (F := Ideal) (k0_pay187 (F := Ideal) (k0_pay174 (F := Ideal) (kernelRun0_E.sl.r c i xt0)) _ _) (ix4 0 0 a 0) from rfl) ?_
    rw [show kernelRun0_E.sl.r c i xt0 = n from hn]
    simp only [kernelRun0_E.sl.v226_1, kernelRun0_E.sl.v260_1, kernelRun0_E.sl.v135, kernelRun0_E.sl.v176, kernelRun0_E.sl.v267_1, kernelRun0_E.sl.v144_1, kernelRun0_E.sl.v217_1, kernelRun0_E.sl.v137_1, kernelRun0_E.sl.v219_1, kernelRun0_E.sl.v258_1, kernelRun0_E.sl.v178, kernelRun0_E.sl.v185_1, kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, readCov_ld, View.readAt_eq_ld, Memref.IsWhole.read_unread]
    generalize View.canon (kernelRun0_E.sl.HS3_4 (F := Ideal) c i arg7 harg7 arg8 harg8 arg9 harg9 arg10 harg10 arg13 harg13 arg14 harg14 arg16 harg16 x4 x5 x6 x7 xt0 xs0 xs1 xs3) = M at hv ⊢
    generalize View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) = L at hv ⊢
    refine (lse_2 _ _ n ⟨32 * (2 : Fin 3).val + a.val, by show 32 * 2 + a.val < 96; omega⟩ a rfl _ _ ?_ ?_).trans hv.symm
    all_goals (intros; pointwise)
  case piece7 =>
    obtain rfl : j = 1 := tok_eq (k := 1) j 1 (y 1) (y 1).isLt (by rw [← hY1, hy1]) rfl
    obtain ⟨rfl, ha⟩ := row_eq (k := 32) l 1 a (y 2) a.isLt (y 2).isLt (by rw [← hY2, hy2]) rfl
    obtain rfl := idx_E y a ha
    refine Eq.trans (show _ = k0_pay192 (F := Ideal) (k0_pay191 (F := Ideal) (k0_pay174 (F := Ideal) (kernelRun0_E.sl.r c i xt0)) _ _) (ix4 0 0 a 0) from rfl) ?_
    rw [show kernelRun0_E.sl.r c i xt0 = n from hn]
    simp only [kernelRun0_E.sl.v226_1, kernelRun0_E.sl.v260_1, kernelRun0_E.sl.v135, kernelRun0_E.sl.v176, kernelRun0_E.sl.v267_1, kernelRun0_E.sl.v144_1, kernelRun0_E.sl.v217_1, kernelRun0_E.sl.v137_1, kernelRun0_E.sl.v219_1, kernelRun0_E.sl.v258_1, kernelRun0_E.sl.v178, kernelRun0_E.sl.v185_1, kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, readCov_ld, View.readAt_eq_ld, Memref.IsWhole.read_unread]
    generalize View.canon (kernelRun0_E.sl.HS3_4 (F := Ideal) c i arg7 harg7 arg8 harg8 arg9 harg9 arg10 harg10 arg13 harg13 arg14 harg14 arg16 harg16 x4 x5 x6 x7 xt0 xs0 xs1 xs3) = M at hv ⊢
    generalize View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) = L at hv ⊢
    refine (lse_1 _ _ n ⟨32 * (1 : Fin 3).val + a.val, by show 32 * 1 + a.val < 96; omega⟩ a rfl _ _ ?_ ?_).trans hv.symm
    all_goals (intros; pointwise)
  case piece8 =>
    obtain rfl : j = 0 := tok_eq (k := 0) j 0 (y 1) (y 1).isLt (by rw [← hY1, hy1]; exact (Nat.zero_add _).symm) rfl
    obtain ⟨rfl, ha⟩ := row_eq (k := 32) l 1 a (y 2) a.isLt (y 2).isLt (by rw [← hY2, hy2]) rfl
    obtain rfl := idx_E y a ha
    refine Eq.trans (show _ = k0_pay189 (F := Ideal) (k0_pay174 (F := Ideal) (kernelRun0_E.sl.r c i xt0)) _ _ (ix4 0 0 a 0) from rfl) ?_
    rw [show kernelRun0_E.sl.r c i xt0 = n from hn]
    simp only [kernelRun0_E.sl.v226_1, kernelRun0_E.sl.v260_1, kernelRun0_E.sl.v135, kernelRun0_E.sl.v176, kernelRun0_E.sl.v267_1, kernelRun0_E.sl.v144_1, kernelRun0_E.sl.v217_1, kernelRun0_E.sl.v137_1, kernelRun0_E.sl.v219_1, kernelRun0_E.sl.v258_1, kernelRun0_E.sl.v178, kernelRun0_E.sl.v185_1, kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, readCov_ld, View.readAt_eq_ld, Memref.IsWhole.read_unread]
    generalize View.canon (kernelRun0_E.sl.HS3_4 (F := Ideal) c i arg7 harg7 arg8 harg8 arg9 harg9 arg10 harg10 arg13 harg13 arg14 harg14 arg16 harg16 x4 x5 x6 x7 xt0 xs0 xs1 xs3) = M at hv ⊢
    generalize View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) = L at hv ⊢
    refine (lse_0 _ _ n ⟨32 * (0 : Fin 3).val + a.val, by show 32 * 0 + a.val < 96; omega⟩ a rfl _ _ ?_ ?_).trans hv.symm
    all_goals (intros; pointwise)
  case piece9 =>
    obtain rfl : j = 2 := tok_eq (k := 2) j 2 (y 1) (y 1).isLt (by rw [← hY1, hy1]) rfl
    obtain ⟨rfl, ha⟩ := row_eq (k := 0) l 0 a (y 2) a.isLt (y 2).isLt (by rw [← hY2, hy2]; exact (Nat.zero_add _).symm) rfl
    obtain rfl := idx_E y a ha
    refine Eq.trans (show _ = k0_pay194 (F := Ideal) (k0_pay187 (F := Ideal) (k0_pay174 (F := Ideal) (kernelRun0_E.sl.r c i xt0)) _ _) (ix4 0 0 a 0) from rfl) ?_
    rw [show kernelRun0_E.sl.r c i xt0 = n from hn]
    simp only [kernelRun0_E.sl.v226_1, kernelRun0_E.sl.v260_1, kernelRun0_E.sl.v135, kernelRun0_E.sl.v176, kernelRun0_E.sl.v267_1, kernelRun0_E.sl.v144_1, kernelRun0_E.sl.v217_1, kernelRun0_E.sl.v137_1, kernelRun0_E.sl.v219_1, kernelRun0_E.sl.v258_1, kernelRun0_E.sl.v178, kernelRun0_E.sl.v185_1, kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, readCov_ld, View.readAt_eq_ld, Memref.IsWhole.read_unread]
    generalize View.canon (kernelRun0_E.sl.HS3_4 (F := Ideal) c i arg7 harg7 arg8 harg8 arg9 harg9 arg10 harg10 arg13 harg13 arg14 harg14 arg16 harg16 x4 x5 x6 x7 xt0 xs0 xs1 xs3) = M at hv ⊢
    generalize View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) = L at hv ⊢
    refine (lse_2 _ _ n ⟨32 * (2 : Fin 3).val + a.val, by show 32 * 2 + a.val < 96; omega⟩ a rfl _ _ ?_ ?_).trans hv.symm
    all_goals (intros; pointwise)
  case piece10 =>
    obtain rfl : j = 1 := tok_eq (k := 1) j 1 (y 1) (y 1).isLt (by rw [← hY1, hy1]) rfl
    obtain ⟨rfl, ha⟩ := row_eq (k := 0) l 0 a (y 2) a.isLt (y 2).isLt (by rw [← hY2, hy2]; exact (Nat.zero_add _).symm) rfl
    obtain rfl := idx_E y a ha
    refine Eq.trans (show _ = k0_pay192 (F := Ideal) (k0_pay191 (F := Ideal) (k0_pay174 (F := Ideal) (kernelRun0_E.sl.r c i xt0)) _ _) (ix4 0 0 a 0) from rfl) ?_
    rw [show kernelRun0_E.sl.r c i xt0 = n from hn]
    simp only [kernelRun0_E.sl.v226_1, kernelRun0_E.sl.v260_1, kernelRun0_E.sl.v135, kernelRun0_E.sl.v176, kernelRun0_E.sl.v267_1, kernelRun0_E.sl.v144_1, kernelRun0_E.sl.v217_1, kernelRun0_E.sl.v137_1, kernelRun0_E.sl.v219_1, kernelRun0_E.sl.v258_1, kernelRun0_E.sl.v178, kernelRun0_E.sl.v185_1, kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, readCov_ld, View.readAt_eq_ld, Memref.IsWhole.read_unread]
    generalize View.canon (kernelRun0_E.sl.HS3_4 (F := Ideal) c i arg7 harg7 arg8 harg8 arg9 harg9 arg10 harg10 arg13 harg13 arg14 harg14 arg16 harg16 x4 x5 x6 x7 xt0 xs0 xs1 xs3) = M at hv ⊢
    generalize View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) = L at hv ⊢
    refine (lse_1 _ _ n ⟨32 * (1 : Fin 3).val + a.val, by show 32 * 1 + a.val < 96; omega⟩ a rfl _ _ ?_ ?_).trans hv.symm
    all_goals (intros; pointwise)
  case piece11 =>
    obtain rfl : j = 0 := tok_eq (k := 0) j 0 (y 1) (y 1).isLt (by rw [← hY1, hy1]; exact (Nat.zero_add _).symm) rfl
    obtain ⟨rfl, ha⟩ := row_eq (k := 0) l 0 a (y 2) a.isLt (y 2).isLt (by rw [← hY2, hy2]; exact (Nat.zero_add _).symm) rfl
    obtain rfl := idx_E y a ha
    refine Eq.trans (show _ = k0_pay189 (F := Ideal) (k0_pay174 (F := Ideal) (kernelRun0_E.sl.r c i xt0)) _ _ (ix4 0 0 a 0) from rfl) ?_
    rw [show kernelRun0_E.sl.r c i xt0 = n from hn]
    simp only [kernelRun0_E.sl.v226_1, kernelRun0_E.sl.v260_1, kernelRun0_E.sl.v135, kernelRun0_E.sl.v176, kernelRun0_E.sl.v267_1, kernelRun0_E.sl.v144_1, kernelRun0_E.sl.v217_1, kernelRun0_E.sl.v137_1, kernelRun0_E.sl.v219_1, kernelRun0_E.sl.v258_1, kernelRun0_E.sl.v178, kernelRun0_E.sl.v185_1, kernelRun0_E.sl.v710, kernelRun0_E.sl.v732, kernelRun0_E.sl.v173, kernelRun0_E.sl.v688, kernelRun0_E.sl.v789, kernelRun0_E.sl.v701, kernelRun0_E.sl.v754, kernelRun0_E.sl.v776, kernelRun0_E.sl.v745, kernelRun0_E.sl.v798, readCov_ld, View.readAt_eq_ld, Memref.IsWhole.read_unread]
    generalize View.canon (kernelRun0_E.sl.HS3_4 (F := Ideal) c i arg7 harg7 arg8 harg8 arg9 harg9 arg10 harg10 arg13 harg13 arg14 harg14 arg16 harg16 x4 x5 x6 x7 xt0 xs0 xs1 xs3) = M at hv ⊢
    generalize View.canon (kernelRun0_E.sl.HS4_4 (F := Ideal) c i arg7 harg7 arg8 harg8 arg9 harg9 arg10 harg10 arg13 harg13 arg14 harg14 arg16 harg16 arg17 harg17 x4 x5 x6 x7 xt0 xs0 xs1 xs3 xs4) = L at hv ⊢
    refine (lse_0 _ _ n ⟨32 * (0 : Fin 3).val + a.val, by show 32 * 0 + a.val < 96; omega⟩ a rfl _ _ ?_ ?_).trans hv.symm
    all_goals (intros; pointwise)

end Cert.KernelIdeal.Value
end
end
-- ==== Proof.Last.lean ====
/-
  What the last point of each batch of `KernelIdeal` leaves in the two output blocks, and the arrays after the run.
-/
module

public import proofs.«01_k».proof.Proof.Good
public import proofs.«01_k».proof.Proof.OutF
public import proofs.«01_k».proof.Proof.OutE

@[expose] public section

set_option maxRecDepth 16384

noncomputable section

open Idealize.ShloMosaic Idealize.ShloMosaic.TcCoe Idealize.SL.Sem Cert.Online
namespace Cert.KernelIdeal.Value
open Cert.KernelIdeal Cert.KernelIdeal.Gen

variable (a0 : Vec Ideal S12x3x128x256 .bf16) (a1 : Vec Ideal S12x3x128x64 .bf16) (a2 : Vec Ideal S144x256 .bf16) (a3 : Vec Ideal S12x3x64 .bf16)
  (a4 : Vec Ideal S12x24576x4x256 .fp8e4m3) (a5 : Vec Ideal S12x24576x4x8 .i8) (a6 : Vec Ideal S12x24576x64 .bf16) (a7 : Vec Ideal S12 .i32)

/-- The maximum over all scores of a row. -/
def MK (b : Fin 12) (l : Fin 4) (i : Fin 96) : EReal :=
  mx (snK a0 a1 a2 a3 b l i) (scK a0 a1 a4 a5 a6 a7 b l i) 48

/-- The sum of all weights of a row. -/
def LK (b : Fin 12) (l : Fin 4) (i : Fin 96) : EReal :=
  tot (snK a0 a1 a2 a3 b l i) (scK a0 a1 a4 a5 a6 a7 b l i) (fun _ => 1) (fun _ _ => 1) 48

/-- The weighted sum of all latents of a row, at a permuted column. -/
def AK (b : Fin 12) (l : Fin 4) (i : Fin 96) (d : Fin 256) : EReal :=
  tot (snK a0 a1 a2 a3 b l i) (scK a0 a1 a4 a5 a6 a7 b l i) (vnK a2 b l d) (fun k p => cK a4 a5 b l (pos k p) d) 48

/-- A row of the 96 that a latent works on, from its token and its head. -/
def rowOf (j : Fin 3) (h : Fin 128) : Fin 96 := ⟨32 * j.val + h.val % 32, by omega⟩

/-- The latent of a head. -/
def latOf (h : Fin 128) : Fin 4 := ⟨h.val / 32, by omega⟩

/-- A head from its latent and its row. -/
def headOf (l : Fin 4) (a : Fin 32) : Fin 128 := ⟨32 * l.val + a.val, by omega⟩

theorem head_eq (h : Fin 128) : h = headOf (latOf h) ⟨h.val % 32, by omega⟩ :=
  Fin.ext (by show h.val = 32 * (h.val / 32) + h.val % 32; omega)

/-- The first output of the kernel, from the arrays. -/
def outK (b : Fin 12) (j : Fin 3) (h : Fin 128) (x : Fin 256) : EReal :=
  Ideal.div (AK a0 a1 a2 a3 a4 a5 a6 a7 b (latOf h) (rowOf j h) (unperm x)) (LK a0 a1 a2 a3 a4 a5 a6 a7 b (latOf h) (rowOf j h))

/-- The second output of the kernel, from the arrays. -/
def lseK (b : Fin 12) (j : Fin 3) (h : Fin 128) : EReal :=
  MK a0 a1 a2 a3 a4 a5 a6 a7 b (latOf h) (rowOf j h) * ((Real.log 2 : ℝ) : EReal)
    + Ideal.log (LK a0 a1 a2 a3 a4 a5 a6 a7 b (latOf h) (rowOf j h)) - Ideal.log (nvis (a7 (ix1 b)) j)

theorem lse_congr {x x' y y' z : EReal} (k : EReal) (hx : x = x') (hy : y = y') :
    x * k + Ideal.log y - Ideal.log z = x' * k + Ideal.log y' - Ideal.log z := by rw [hx, hy]

variable (m : (ℓ : Loc nD τ sig) → Buf (Elt Ideal) ℓ) (c : Dev nD) (hO : Ok m) (t : Fin (cfgM m hO).N)

/-- The state after the last point of a batch. -/
theorem good_last (h2 : t.val % 48 = 47) : St (A0 m c) (A1 m c) (A2 m c) (A3 m c) (A4 m c) (A5 m c) (A6 m c) (A7 m) (bOf t) 48
    (outsAt0 m hO c t.val t.isLt).2.2.1 (outsAt0 m hO c t.val t.isLt).2.2.2.1 (outsAt0 m hO c t.val t.isLt).2.2.2.2.1
    (outsAt0 m hO c t.val t.isLt).2.2.2.2.2.1 (outsAt0 m hO c t.val t.isLt).2.2.2.2.2.2 := by
  have g := good m c hO t.val t rfl
  unfold Good at g
  rw [h2] at g
  exact g

set_option maxHeartbeats 1600000 in
/-- The last point of a batch leaves the first output's closed form. -/
theorem last_out (h2 : t.val % 48 = 47) (l : Fin 4) (j : Fin 3) (a : Fin 32) (x : Fin 256) :
    ((outsAt0 m hO c t.val t.isLt).1 (ix4 0 j (headOf l a) (perm x)) : EReal) = Ideal.div (AK (A0 m c) (A1 m c) (A2 m c) (A3 m c) (A4 m c) (A5 m c) (A6 m c) (A7 m) (bOf t) l (⟨32 * j.val + a.val, by omega⟩ : Fin 96) x) (LK (A0 m c) (A1 m c) (A2 m c) (A3 m c) (A4 m c) (A5 m c) (A6 m c) (A7 m) (bOf t) l (⟨32 * j.val + a.val, by omega⟩ : Fin 96)) := by
  have h0 : ¬ t.val % 48 = 0 := by omega
  have g := good_last m c hO t h2
  by_cases h1 : cond0_1 (grid0.coords t) (lenR m t)
  · rw [outsAt0_E m hO c t h0 h1 h2] at g ⊢
    dsimp only at g ⊢
    exact (outO_E (j := j) (l := l) (a := a) (x := x) ..).trans (congrArg₂ Ideal.div (g.2.2.1 l _ x) (g.2.2.2.2 l _))
  · rw [outsAt0_F m hO c t h0 h1 h2] at g ⊢
    dsimp only at g ⊢
    exact (outO_F (j := j) (l := l) (a := a) (x := x) ..).trans (congrArg₂ Ideal.div (g.2.2.1 l _ x) (g.2.2.2.2 l _))

set_option maxHeartbeats 1600000 in
/-- The last point of a batch leaves the second output's closed form. -/
theorem last_lse (h2 : t.val % 48 = 47) (l : Fin 4) (j : Fin 3) (a : Fin 32) :
    ((outsAt0 m hO c t.val t.isLt).2.1 (ix4 0 j (headOf l a) 0) : EReal) = MK (A0 m c) (A1 m c) (A2 m c) (A3 m c) (A4 m c) (A5 m c) (A6 m c) (A7 m) (bOf t) l (⟨32 * j.val + a.val, by omega⟩ : Fin 96) * ((Real.log 2 : ℝ) : EReal) + Ideal.log (LK (A0 m c) (A1 m c) (A2 m c) (A3 m c) (A4 m c) (A5 m c) (A6 m c) (A7 m) (bOf t) l (⟨32 * j.val + a.val, by omega⟩ : Fin 96)) - Ideal.log (nvis (A7 m (ix1 (bOf t))) j) := by
  have h0 : ¬ t.val % 48 = 0 := by omega
  have g := good_last m c hO t h2
  by_cases h1 : cond0_1 (grid0.coords t) (lenR m t)
  · rw [outsAt0_E m hO c t h0 h1 h2] at g ⊢
    dsimp only at g ⊢
    exact (outE_E (n := A7 m (ix1 (bOf t))) (hn := len_eq m t) (j := j) (l := l) (a := a) ..).trans (lse_congr _ (g.2.2.2.1 l _) (g.2.2.2.2 l _))
  · rw [outsAt0_F m hO c t h0 h1 h2] at g ⊢
    dsimp only at g ⊢
    exact (outE_F (n := A7 m (ix1 (bOf t))) (hn := len_eq m t) (j := j) (l := l) (a := a) ..).trans (lse_congr _ (g.2.2.2.1 l _) (g.2.2.2.2 l _))

end Cert.KernelIdeal.Value
end
end
-- ==== Proof.Arrays.lean ====
/-
  The two result arrays of `KernelIdeal` after the run: the last point of each batch writes the batch's blocks back, and these
  blocks tile the arrays.
-/
module

public import proofs.«01_k».proof.Proof.Last
public import Idealize.ShloMosaic.Lib.Pipeline.ValueKit

@[expose] public section

set_option maxRecDepth 16384

noncomputable section

open Idealize.ShloMosaic Idealize.ShloMosaic.TcCoe Idealize.SL.Sem Cert.Online
namespace Cert.KernelIdeal.Value
open Cert.KernelIdeal Cert.KernelIdeal.Gen

variable (m : (ℓ : Loc nD τ sig) → Buf (Elt Ideal) ℓ) (c : Dev nD) (hO : Ok m)

/-- The contents of the first result array. -/
def outG : Vec Ideal S12x3x128x256 .bf16 := fun i =>
  outK (A0 m c) (A1 m c) (A2 m c) (A3 m c) (A4 m c) (A5 m c) (A6 m c) (A7 m) (i 0) (i 1) (i 2) (i 3)

/-- The contents of the second result array. -/
def lseG : Vec Ideal S12x3x128x1 .f32 := fun i =>
  lseK (A0 m c) (A1 m c) (A2 m c) (A3 m c) (A4 m c) (A5 m c) (A6 m c) (A7 m) (i 0) (i 1) (i 2)

/-- The last point of a batch leaves its block of the first result. -/
theorem blk_out (t : Fin (cfgM m hO).N) (h2 : t.val % 48 = 47) (j : Fin 3) (h : Fin 128) (x : Fin 256) :
    (outsAt0 m hO c t.val t.isLt).1 (ix4 0 j h x) = outG m c (ix4 (bOf t) j h x) := by
  have e := last_out m c hO t h2 (latOf h) j ⟨h.val % 32, by omega⟩ (unperm x)
  rw [← head_eq h, perm_unperm] at e
  exact e

/-- The last point of a batch leaves its block of the second result. -/
theorem blk_lse (t : Fin (cfgM m hO).N) (h2 : t.val % 48 = 47) (j : Fin 3) (h : Fin 128) :
    (outsAt0 m hO c t.val t.isLt).2.1 (ix4 0 j h 0) = lseG m c (ix4 (bOf t) j h 0) := by
  have e := last_lse m c hO t h2 (latOf h) j ⟨h.val % 32, by omega⟩
  rw [← head_eq h] at e
  exact e

/-- The last point of a batch. -/
def lastPt (b : Fin 12) : Fin (cfgM m hO).N := (⟨48 * b.val + 47, by have : grid0.N = 576 := by decide
                                                                     show 48 * b.val + 47 < grid0.N; omega⟩ : Fin grid0.N)

set_option maxHeartbeats 1600000 in
/-- The first result array after the run. -/
theorem arr_out : (dats m hO 0 c).arrAt 8 (cfgM m hO).N = outG m c := by
  refine (dats m hO 0 c).arrAt_eq_of_emb 8 (outG m c) (fun t hf y => ?_) (fun i => ?_)
  · obtain ⟨y', hy'⟩ : ∃ y' : S1x3x128x256.Idx, y' = y := ⟨y, rfl⟩
    subst hy'
    have h2 := (flush0_8 _ t).mp hf
    rw [after0_8]
    have hy : (y' 0).val = 0 := Nat.lt_one_iff.mp (y' 0).isLt
    refine Eq.trans (b := (outsAt0 m hO c t.val t.isLt).1 (ix4 0 (y' 1) (y' 2) (y' 3))) (congrArg (outsAt0 m hO c t.val t.isLt).1 (funext fun (a : Fin 4) => Fin.ext ?_))
      ((blk_out m c hO t h2 (y' 1) (y' 2) (y' 3)).trans (congrArg (outG m c) (funext fun (a : Fin 4) => Fin.ext ?_)))
    · match a with
      | 0 => exact hy
      | 1 => rfl
      | 2 => rfl
      | 3 => rfl
    · match a with
      | 0 => show t.val / 48 = (BitVec.ofNat 32 (grid0.coords t 0).val).toNat * 1 + 1 * (y' 0).val; rw [batch_toNat, (coords_val t).1]; omega
      | 1 => show (y' 1).val = 0 * 3 + 1 * (y' 1).val; omega
      | 2 => show (y' 2).val = 0 * 128 + 1 * (y' 2).val; omega
      | 3 => show (y' 3).val = 0 * 256 + 1 * (y' 3).val; omega
  · obtain ⟨i', hi'⟩ : ∃ i' : S12x3x128x256.Idx, i' = i := ⟨i, rfl⟩
    subst hi'
    have hb : (i' 0).val < 12 := (i' 0).isLt
    refine ⟨lastPt m hO ⟨(i' 0).val, hb⟩, (flush0_8 _ _).mpr (by show (48 * (i' 0).val + 47) % 48 = 47; omega), ?_⟩
    have e : ((((cfgM m hO).win 8).blk (lastPt m hO ⟨(i' 0).val, hb⟩)).view.emb (ix4 0 (i' 1) (i' 2) (i' 3))) = i' := by
      refine funext fun (a : Fin 4) => ?_
      apply Fin.ext
      match a with
      | 0 => show (BitVec.ofNat 32 (grid0.coords (lastPt m hO ⟨(i' 0).val, hb⟩) 0).val).toNat * 1 + 1 * 0 = (i' 0).val
             rw [batch_toNat, (coords_val _).1]; show (48 * (i' 0).val + 47) / 48 * 1 + 1 * 0 = (i' 0).val; omega
      | 1 => show 0 * 3 + 1 * (i' 1).val = (i' 1).val; omega
      | 2 => show 0 * 128 + 1 * (i' 2).val = (i' 2).val; omega
      | 3 => show 0 * 256 + 1 * (i' 3).val = (i' 3).val; omega
    have h := (((cfgM m hO).win 8).blk (lastPt m hO ⟨(i' 0).val, hb⟩)).view.emb_mem_set (ix4 0 (i' 1) (i' 2) (i' 3))
    rwa [e] at h

set_option maxHeartbeats 1600000 in
/-- The second result array after the run. -/
theorem arr_lse : (dats m hO 0 c).arrAt 9 (cfgM m hO).N = lseG m c := by
  refine (dats m hO 0 c).arrAt_eq_of_emb 9 (lseG m c) (fun t hf y => ?_) (fun i => ?_)
  · obtain ⟨y', hy'⟩ : ∃ y' : S1x3x128x1.Idx, y' = y := ⟨y, rfl⟩
    subst hy'
    have h2 := (flush0_9 _ t).mp hf
    rw [after0_9]
    have hy : (y' 0).val = 0 := Nat.lt_one_iff.mp (y' 0).isLt
    have hy3 : (y' 3).val = 0 := Nat.lt_one_iff.mp (y' 3).isLt
    refine Eq.trans (b := (outsAt0 m hO c t.val t.isLt).2.1 (ix4 0 (y' 1) (y' 2) 0)) (congrArg (outsAt0 m hO c t.val t.isLt).2.1 (funext fun (a : Fin 4) => Fin.ext ?_))
      ((blk_lse m c hO t h2 (y' 1) (y' 2)).trans (congrArg (lseG m c) (funext fun (a : Fin 4) => Fin.ext ?_)))
    · match a with
      | 0 => exact hy
      | 1 => rfl
      | 2 => rfl
      | 3 => exact hy3
    · match a with
      | 0 => show t.val / 48 = (BitVec.ofNat 32 (grid0.coords t 0).val).toNat * 1 + 1 * (y' 0).val; rw [batch_toNat, (coords_val t).1]; omega
      | 1 => show (y' 1).val = 0 * 3 + 1 * (y' 1).val; omega
      | 2 => show (y' 2).val = 0 * 128 + 1 * (y' 2).val; omega
      | 3 => show 0 = 0 * 1 + 1 * (y' 3).val; omega
  · obtain ⟨i', hi'⟩ : ∃ i' : S12x3x128x1.Idx, i' = i := ⟨i, rfl⟩
    subst hi'
    have hb : (i' 0).val < 12 := (i' 0).isLt
    have h3 : (i' 3).val = 0 := Nat.lt_one_iff.mp (i' 3).isLt
    refine ⟨lastPt m hO ⟨(i' 0).val, hb⟩, (flush0_9 _ _).mpr (by show (48 * (i' 0).val + 47) % 48 = 47; omega), ?_⟩
    have e : ((((cfgM m hO).win 9).blk (lastPt m hO ⟨(i' 0).val, hb⟩)).view.emb (ix4 0 (i' 1) (i' 2) 0)) = i' := by
      refine funext fun (a : Fin 4) => ?_
      apply Fin.ext
      match a with
      | 0 => show (BitVec.ofNat 32 (grid0.coords (lastPt m hO ⟨(i' 0).val, hb⟩) 0).val).toNat * 1 + 1 * 0 = (i' 0).val
             rw [batch_toNat, (coords_val _).1]; show (48 * (i' 0).val + 47) / 48 * 1 + 1 * 0 = (i' 0).val; omega
      | 1 => show 0 * 3 + 1 * (i' 1).val = (i' 1).val; omega
      | 2 => show 0 * 128 + 1 * (i' 2).val = (i' 2).val; omega
      | 3 => show 0 * 1 + 1 * 0 = (i' 3).val; omega
    have h := (((cfgM m hO).win 9).blk (lastPt m hO ⟨(i' 0).val, hb⟩)).view.emb_mem_set (ix4 0 (i' 1) (i' 2) 0)
    rwa [e] at h

include hO in
/-- The kernel's run: its two results, of the memory. -/
theorem run_results (ρ : Dev nD → PrngReg) : θ_run defs (onTc (τ := τ) (main (F := Ideal))) ⟨m, fun _ => 0, ρ⟩ (fun r => ∀ c : Dev nD,
    r.2.mem ((c.tc : Thread nD τ).loc main_v7_0) = outG m c ∧ r.2.mem ((c.tc : Thread nD τ).loc main_v7_1) = lseG m c) :=
  (θ_run defs _ _).mono (fun _ h c => ⟨((h c).1 8).trans (arr_out m c hO), ((h c).1 9).trans (arr_lse m c hO)⟩) (run_main m ρ hO)

end Cert.KernelIdeal.Value
end
end
-- ==== Proof.RefRun.lean ====
/-
  The reference's results as terms: the arrays its lines compute, one definition per stage, and what its two result buffers hold
  after its lines, from any contents before them.
-/
module

public import proofs.«01_k».proof.Proof.Gen.ReferenceIdeal.Frame
public import Idealize.ShloMosaic.PureOps.Ideal
public import Idealize.ShloMosaic.Lib.Claim
public import Idealize.ShloMosaic.Lib.Pipeline.ValueKit
public import Idealize.ShloMosaic.Lib.StableHlo.RunRead
public import Idealize.ShloMosaic.Lib.Tactic.CleanTypes

@[expose] public section

set_option maxRecDepth 16384

noncomputable section

open Idealize.ShloMosaic Idealize.ShloMosaic.TcCoe Idealize.SL.Sem

namespace Cert.ReferenceIdeal.Value
open Cert.ReferenceIdeal Cert.ReferenceIdeal.Gen

/-- The dequantised latent cache, of the widened codes `w` and the scale exponents `e`. -/
def rC (w : FVec Ideal S12x24576x4x256 .bf16) (e : IVec S12x24576x4x8 8) : FVec Ideal S12x24576x4x256 .bf16 :=
  shapeCast S12x24576x4x256 (mulf (shapeCast S12x24576x4x8x32 w shapeCasts_S12x24576x4x256_S12x24576x4x8x32)
    (broadcastInDim S12x24576x4x8x32 ![0, 1, 2, 3, 4] bcast_S12x24576x4x8x1_S12x24576x4x8x32_0_1_2_3_4
      (broadcastInDim S12x24576x4x8x1 ![0, 1, 2, 3] bcast_S12x24576x4x8_S12x24576x4x8x1_0_1_2_3
        (truncf .bf16 (bitcastToFloat .f32 (Host.shli (extui 32 e natLt_8_32)
          (broadcastInDim S12x24576x4x8 ![] bcast_S_S12x24576x4x8 (constantI S_ 32 23#32)))) bitsLt_bf16_f32))))
    shapeCasts_S12x24576x4x8x32_S12x24576x4x256

/-- The softmax scale. -/
def rSm : FVec Ideal S_ .f32 := Host.divf (constant S_ .f32 0x3F800000#32) (Host.sqrt (constant S_ .f32 0x43A00000#32))

/-- The queries by latent group. -/
def rQ (a0 : FVec Ideal S12x3x128x256 .bf16) : FVec Ideal S12x3x4x32x256 .bf16 := shapeCast S12x3x4x32x256 a0 shapeCasts_S12x3x128x256_S12x3x4x32x256

/-- The new latents by request and token. -/
def rCn (a2 : FVec Ideal S144x256 .bf16) : FVec Ideal S12x3x4x256 .bf16 := shapeCast S12x3x4x256 a2 shapeCasts_S144x256_S12x3x4x256

/-- The scores against the cache, unmasked. -/
def rS (C : FVec Ideal S12x24576x4x256 .bf16) (a0 : FVec Ideal S12x3x128x256 .bf16) (a1 : FVec Ideal S12x3x128x64 .bf16)
    (a6 : FVec Ideal S12x24576x64 .bf16) : FVec Ideal S12x3x128x24576 .f32 :=
  mulf (addf (shapeCast S12x3x128x24576 (transpose S12x3x4x32x24576 [0, 3, 1, 4, 2]
      (Host.dotGeneral dot_S12x24576x4x256_S12x3x4x32x256_S12x4x24576x3x32_3_4_1_13_02_02 none C (rQ a0))
      transposes_S12x4x24576x3x32_S12x3x4x32x24576_0_3_1_4_2) shapeCasts_S12x3x4x32x24576_S12x3x128x24576)
    (Host.dotGeneral dot_S12x3x128x64_S12x24576x64_S12x3x128x24576_3_2_12_1_0_0 none a1 a6))
    (broadcastInDim S12x3x128x24576 ![] bcast_S_S12x3x128x24576 rSm)

/-- Which cache positions a request sees. -/
def rMask (a7 : IVec S12 32) : IVec S12x1x1x24576 1 :=
  broadcastInDim S12x1x1x24576 ![0, 3] bcast_S12x24576_S12x1x1x24576_0_3
    (cmpi .slt (broadcastInDim S12x24576 ![0, 1] bcast_S1x24576_S12x24576_0_1
        (broadcastInDim S1x24576 ![1] bcast_S24576_S1x24576_1 (iotaInDim S24576 32 0)))
      (broadcastInDim S12x24576 ![0, 1] bcast_S12x1_S12x24576_0_1 (broadcastInDim S12x1 ![0] bcast_S12_S12x1_0 a7)))

/-- The masked scores against the cache. -/
def rX (s : FVec Ideal S12x3x128x24576 .f32) (a7 : IVec S12 32) : FVec Ideal S12x3x128x24576 .f32 :=
  select (broadcastInDim S12x3x128x24576 ![0, 1, 2, 3] bcast_S12x1x1x24576_S12x3x128x24576_0_1_2_3 (rMask a7)) s
    (broadcastInDim S12x3x128x24576 ![] bcast_S_S12x3x128x24576 (constant S_ .f32 0xFF800000#32))

/-- The scores against the new tokens, unmasked. -/
def rSn (Cn : FVec Ideal S12x3x4x256 .bf16) (q : FVec Ideal S12x3x4x32x256 .bf16) (a1 : FVec Ideal S12x3x128x64 .bf16)
    (a3 : FVec Ideal S12x3x64 .bf16) (sm : FVec Ideal S_ .f32) : FVec Ideal S12x3x128x3 .f32 :=
  mulf (addf (shapeCast S12x3x128x3 (transpose S12x3x4x32x3 [0, 3, 1, 4, 2]
      (Host.dotGeneral dot_S12x3x4x256_S12x3x4x32x256_S12x4x3x3x32_3_4_1_13_02_02 none Cn q)
      transposes_S12x4x3x3x32_S12x3x4x32x3_0_3_1_4_2) shapeCasts_S12x3x4x32x3_S12x3x128x3)
    (Host.dotGeneral dot_S12x3x128x64_S12x3x64_S12x3x128x3_3_2_12_1_0_0 none a1 a3))
    (broadcastInDim S12x3x128x3 ![] bcast_S_S12x3x128x3 sm)

/-- Which new tokens a query token sees. -/
def rCausal : IVec S1x3x1x3 1 :=
  broadcastInDim S1x3x1x3 ![1, 3] bcast_S3x3_S1x3x1x3_1_3
    (cmpi .sle (broadcastInDim S3x3 ![0, 1] bcast_S1x3_S3x3_0_1 (broadcastInDim S1x3 ![1] bcast_S3_S1x3_1 (iotaInDim S3 32 0)))
      (broadcastInDim S3x3 ![0, 1] bcast_S3x1_S3x3_0_1 (broadcastInDim S3x1 ![0] bcast_S3_S3x1_0 (iotaInDim S3 32 0))))

/-- The masked scores against the new tokens. -/
def rXn (s : FVec Ideal S12x3x128x3 .f32) : FVec Ideal S12x3x128x3 .f32 :=
  select (broadcastInDim S12x3x128x3 ![0, 1, 2, 3] bcast_S1x3x1x3_S12x3x128x3_0_1_2_3 rCausal) s
    (broadcastInDim S12x3x128x3 ![] bcast_S_S12x3x128x3 (constant S_ .f32 0xFF800000#32))

/-- The row maxima. -/
def rM (x : FVec Ideal S12x3x128x24576 .f32) (xn : FVec Ideal S12x3x128x3 .f32) : FVec Ideal S12x3x128 .f32 :=
  maximumf (Host.reduce FloatOps.maximumf x (constant S_ .f32 0xFF800000#32) reducesTo_S12x3x128x24576_S12x3x128_d3 h_S_)
    (Host.reduce FloatOps.maximumf xn (constant S_ .f32 0xFF800000#32) reducesTo_S12x3x128x3_S12x3x128_d3 h_S_)

/-- The weights of the cache positions. -/
def rP (x : FVec Ideal S12x3x128x24576 .f32) (M : FVec Ideal S12x3x128 .f32) : FVec Ideal S12x3x128x24576 .f32 :=
  Host.exp (subf x (broadcastInDim S12x3x128x24576 ![0, 1, 2, 3] bcast_S12x3x128x1_S12x3x128x24576_0_1_2_3
    (broadcastInDim S12x3x128x1 ![0, 1, 2] bcast_S12x3x128_S12x3x128x1_0_1_2 M)))

/-- The weights of the new tokens. -/
def rPn (x : FVec Ideal S12x3x128x3 .f32) (M : FVec Ideal S12x3x128 .f32) : FVec Ideal S12x3x128x3 .f32 :=
  Host.exp (subf x (broadcastInDim S12x3x128x3 ![0, 1, 2, 3] bcast_S12x3x128x1_S12x3x128x3_0_1_2_3
    (broadcastInDim S12x3x128x1 ![0, 1, 2] bcast_S12x3x128_S12x3x128x1_0_1_2 M)))

/-- The weights' totals. -/
def rL (p : FVec Ideal S12x3x128x24576 .f32) (pn : FVec Ideal S12x3x128x3 .f32) : FVec Ideal S12x3x128 .f32 :=
  addf (Host.reduceAdd p (constant S_ .f32 0x00000000#32) reducesTo_S12x3x128x24576_S12x3x128_d3 h_S_)
    (Host.reduceAdd pn (constant S_ .f32 0x00000000#32) reducesTo_S12x3x128x3_S12x3x128_d3 h_S_)

/-- The weighted sums of the latents over the totals. -/
def rOut (C : FVec Ideal S12x24576x4x256 .bf16) (Cn : FVec Ideal S12x3x4x256 .bf16) (p : FVec Ideal S12x3x128x24576 .f32)
    (pn : FVec Ideal S12x3x128x3 .f32) (L : FVec Ideal S12x3x128 .f32) : FVec Ideal S12x3x128x256 .bf16 :=
  truncf .bf16 (shapeCast S12x3x128x256 (Host.divf (addf
      (transpose S12x3x4x32x256 [0, 3, 1, 4, 2] (Host.dotGeneral dot_S12x24576x4x256_S12x3x4x32x24576_S12x4x256x3x32_1_4_3_13_02_02 none C
        (shapeCast S12x3x4x32x24576 (truncf .bf16 p bitsLt_bf16_f32) shapeCasts_S12x3x128x24576_S12x3x4x32x24576))
        transposes_S12x4x256x3x32_S12x3x4x32x256_0_3_1_4_2)
      (transpose S12x3x4x32x256 [0, 3, 1, 4, 2] (Host.dotGeneral dot_S12x3x4x256_S12x3x4x32x3_S12x4x256x3x32_1_4_3_13_02_02 none Cn
        (shapeCast S12x3x4x32x3 (truncf .bf16 pn bitsLt_bf16_f32) shapeCasts_S12x3x128x3_S12x3x4x32x3))
        transposes_S12x4x256x3x32_S12x3x4x32x256_0_3_1_4_2))
    (broadcastInDim S12x3x4x32x256 ![0, 1, 2, 3, 4] bcast_S12x3x4x32x1_S12x3x4x32x256_0_1_2_3_4
      (shapeCast S12x3x4x32x1 L shapeCasts_S12x3x128_S12x3x4x32x1))) shapeCasts_S12x3x4x32x256_S12x3x128x256) bitsLt_bf16_f32

/-- The number of positions each query token sees. -/
def rN (a7 : IVec S12 32) : FVec Ideal S12x3 .f32 :=
  sitofp .f32 (addi (addi (broadcastInDim S12x3 ![0, 1] bcast_S12x1_S12x3_0_1 (broadcastInDim S12x1 ![0] bcast_S12_S12x1_0 a7))
      (broadcastInDim S12x3 ![0, 1] bcast_S1x3_S12x3_0_1 (broadcastInDim S1x3 ![1] bcast_S3_S1x3_1 (iotaInDim S3 32 0))))
    (broadcastInDim S12x3 ![] bcast_S_S12x3 (constantI S_ 32 1#32)))

/-- The normalised log-sum-exp. -/
def rLse (M L : FVec Ideal S12x3x128 .f32) (a7 : IVec S12 32) : FVec Ideal S12x3x128x1 .f32 :=
  broadcastInDim S12x3x128x1 ![0, 1, 2] bcast_S12x3x128_S12x3x128x1_0_1_2 (subf (addf M (Host.log L))
    (broadcastInDim S12x3x128 ![0, 1, 2] bcast_S12x3x1_S12x3x128_0_1_2
      (broadcastInDim S12x3x1 ![0, 1] bcast_S12x3_S12x3x1_0_1 (Host.log (rN a7)))))

variable (V : Valuation τ sig (Elt Ideal))

/-- All the lines after the widening, in order. -/
abbrev rest : List (HloOp τ sig (Elt Ideal)) := List.flatten [hostOps1, hostOps1_1, hostOps1_2, hostOps1_3, hostOps1_4]

/-- The lines stage by stage. -/
theorem rest_eq : StableHlo.after rest V = StableHlo.after hostOps1_4 (StableHlo.after hostOps1_3 (StableHlo.after hostOps1_2
    (StableHlo.after hostOps1_1 (StableHlo.after hostOps1 V)))) := by
  simp only [rest, List.flatten_cons, List.flatten_nil, List.append_nil, StableHlo.after_append]

theorem r1_v10 : StableHlo.after hostOps1 V (Proc.devRef .tc main_v10) = rC (V (Proc.devRef .tc main_v0)) (V (Proc.devRef .tc main_arg5)) := by
  after_reads_simp; rfl
theorem r1_v11 : StableHlo.after hostOps1 V (Proc.devRef .tc main_v11) = rCn (V (Proc.devRef .tc main_arg2)) := by after_reads_simp; rfl
theorem r1_v12 : StableHlo.after hostOps1 V (Proc.devRef .tc main_v12) = rQ (V (Proc.devRef .tc main_arg0)) := by after_reads_simp; rfl
theorem r1_v14 : StableHlo.after hostOps1 V (Proc.devRef .tc main_v14) = rSm := by after_reads_simp; rfl
theorem r1_v25 : StableHlo.after hostOps1 V (Proc.devRef .tc main_v25) = rMask (V (Proc.devRef .tc main_arg7)) := by after_reads_simp; rfl
theorem r1_v28 : StableHlo.after hostOps1 V (Proc.devRef .tc main_v28) = rS (rC (V (Proc.devRef .tc main_v0)) (V (Proc.devRef .tc main_arg5))) (V (Proc.devRef .tc main_arg0)) (V (Proc.devRef .tc main_arg1)) (V (Proc.devRef .tc main_arg6)) := by
  after_reads_simp; rfl

theorem r1_cst : StableHlo.after hostOps1 V (Proc.devRef .tc main_cst_1) = constant (F := Ideal) S_ .f32 0xFF800000#32 := by after_reads_simp

theorem r2_v29 : StableHlo.after hostOps1_1 V (Proc.devRef .tc main_v29) = select (broadcastInDim S12x3x128x24576 ![0, 1, 2, 3] bcast_S12x1x1x24576_S12x3x128x24576_0_1_2_3 (V (Proc.devRef .tc main_v25))) (V (Proc.devRef .tc main_v28))
    (broadcastInDim S12x3x128x24576 ![] bcast_S_S12x3x128x24576 (V (Proc.devRef .tc main_cst_1))) := by after_reads_simp; rfl

theorem r3_v41 : StableHlo.after hostOps1_2 V (Proc.devRef .tc main_v41) = rCausal := by after_reads_simp; rfl
theorem r3_cst : StableHlo.after hostOps1_2 V (Proc.devRef .tc main_cst_2) = constant (F := Ideal) S_ .f32 0xFF800000#32 := by after_reads_simp
theorem r3_v44 : StableHlo.after hostOps1_2 V (Proc.devRef .tc main_v44) = rSn (V (Proc.devRef .tc main_v11)) (V (Proc.devRef .tc main_v12))
    (V (Proc.devRef .tc main_arg1)) (V (Proc.devRef .tc main_arg3)) (V (Proc.devRef .tc main_v14)) := by
  after_reads_simp; rfl

theorem r4_v45 : StableHlo.after hostOps1_3 V (Proc.devRef .tc main_v45) = select (broadcastInDim S12x3x128x3 ![0, 1, 2, 3] bcast_S1x3x1x3_S12x3x128x3_0_1_2_3 (V (Proc.devRef .tc main_v41))) (V (Proc.devRef .tc main_v44))
    (broadcastInDim S12x3x128x3 ![] bcast_S_S12x3x128x3 (V (Proc.devRef .tc main_cst_2))) := by after_reads_simp; rfl

theorem r5_v88 : StableHlo.after hostOps1_4 V (Proc.devRef .tc main_v88) = rOut (V (Proc.devRef .tc main_v10)) (V (Proc.devRef .tc main_v11))
    (rP (V (Proc.devRef .tc main_v29)) (rM (V (Proc.devRef .tc main_v29)) (V (Proc.devRef .tc main_v45)))) (rPn (V (Proc.devRef .tc main_v45)) (rM (V (Proc.devRef .tc main_v29)) (V (Proc.devRef .tc main_v45))))
    (rL (rP (V (Proc.devRef .tc main_v29)) (rM (V (Proc.devRef .tc main_v29)) (V (Proc.devRef .tc main_v45)))) (rPn (V (Proc.devRef .tc main_v45)) (rM (V (Proc.devRef .tc main_v29)) (V (Proc.devRef .tc main_v45))))) := by
  after_reads_simp; rfl

theorem r5_v89 : StableHlo.after hostOps1_4 V (Proc.devRef .tc main_v89) = rLse (rM (V (Proc.devRef .tc main_v29)) (V (Proc.devRef .tc main_v45)))
    (rL (rP (V (Proc.devRef .tc main_v29)) (rM (V (Proc.devRef .tc main_v29)) (V (Proc.devRef .tc main_v45)))) (rPn (V (Proc.devRef .tc main_v45)) (rM (V (Proc.devRef .tc main_v29)) (V (Proc.devRef .tc main_v45)))))
    (V (Proc.devRef .tc main_arg7)) := by
  after_reads_simp; rfl

/-- A buffer a stage does not write, after that stage. -/
theorem k1 (b : Ref sig .tc) (h : b ∉ hostOps1_W) : StableHlo.after hostOps1 V (Proc.devRef .tc b) = V (Proc.devRef .tc b) :=
  StableHlo.after_of_writes_sub _ _ hostOps1_writes h
theorem k2 (b : Ref sig .tc) (h : b ∉ hostOps1_1_W) : StableHlo.after hostOps1_1 V (Proc.devRef .tc b) = V (Proc.devRef .tc b) :=
  StableHlo.after_of_writes_sub _ _ hostOps1_1_writes h
theorem k3 (b : Ref sig .tc) (h : b ∉ hostOps1_2_W) : StableHlo.after hostOps1_2 V (Proc.devRef .tc b) = V (Proc.devRef .tc b) :=
  StableHlo.after_of_writes_sub _ _ hostOps1_2_writes h
theorem k4 (b : Ref sig .tc) (h : b ∉ hostOps1_3_W) : StableHlo.after hostOps1_3 V (Proc.devRef .tc b) = V (Proc.devRef .tc b) :=
  StableHlo.after_of_writes_sub _ _ hostOps1_3_writes h

section

variable (w : FVec Ideal S12x24576x4x256 .bf16) (a0 : FVec Ideal S12x3x128x256 .bf16) (a1 : FVec Ideal S12x3x128x64 .bf16)
  (a2 : FVec Ideal S144x256 .bf16) (a3 : FVec Ideal S12x3x64 .bf16) (a5 : IVec S12x24576x4x8 8) (a6 : FVec Ideal S12x24576x64 .bf16)
  (a7 : IVec S12 32)

/-- The masked scores against the cache, of the argument arrays. -/
def fX : FVec Ideal S12x3x128x24576 .f32 := rX (rS (rC w a5) a0 a1 a6) a7
/-- The masked scores against the new tokens, of the argument arrays. -/
def fXn : FVec Ideal S12x3x128x3 .f32 := rXn (rSn (rCn a2) (rQ a0) a1 a3 rSm)
/-- The row maxima, of the argument arrays. -/
def fM : FVec Ideal S12x3x128 .f32 := rM (fX w a0 a1 a5 a6 a7) (fXn a0 a1 a2 a3)
/-- The weights' totals, of the argument arrays. -/
def fL : FVec Ideal S12x3x128 .f32 := rL (rP (fX w a0 a1 a5 a6 a7) (fM w a0 a1 a2 a3 a5 a6 a7)) (rPn (fXn a0 a1 a2 a3) (fM w a0 a1 a2 a3 a5 a6 a7))
/-- The first result, of the argument arrays. -/
def fOut : FVec Ideal S12x3x128x256 .bf16 := rOut (rC w a5) (rCn a2) (rP (fX w a0 a1 a5 a6 a7) (fM w a0 a1 a2 a3 a5 a6 a7))
  (rPn (fXn a0 a1 a2 a3) (fM w a0 a1 a2 a3 a5 a6 a7)) (fL w a0 a1 a2 a3 a5 a6 a7)
/-- The second result, of the argument arrays. -/
def fLse : FVec Ideal S12x3x128x1 .f32 := rLse (fM w a0 a1 a2 a3 a5 a6 a7) (fL w a0 a1 a2 a3 a5 a6 a7) a7

variable (h0 : V (Proc.devRef .tc main_v0) = w) (ha0 : V (Proc.devRef .tc main_arg0) = a0) (ha1 : V (Proc.devRef .tc main_arg1) = a1)
  (ha2 : V (Proc.devRef .tc main_arg2) = a2) (ha3 : V (Proc.devRef .tc main_arg3) = a3) (ha5 : V (Proc.devRef .tc main_arg5) = a5)
  (ha6 : V (Proc.devRef .tc main_arg6) = a6) (ha7 : V (Proc.devRef .tc main_arg7) = a7)
include h0 ha0 ha1 ha2 ha3 ha5 ha6 ha7

/-- The masked scores against the cache, before the last stage. -/
theorem x_eq : StableHlo.after hostOps1_3 (StableHlo.after hostOps1_2 (StableHlo.after hostOps1_1 (StableHlo.after hostOps1 V)))
    (Proc.devRef .tc main_v29) = fX w a0 a1 a5 a6 a7 := by
  rw [k4 _ main_v29 (by decide), k3 _ main_v29 (by decide), r2_v29, r1_v25, r1_v28, r1_cst, h0, ha0, ha1, ha5, ha6, ha7]
  rfl

/-- The masked scores against the new tokens, before the last stage. -/
theorem xn_eq : StableHlo.after hostOps1_3 (StableHlo.after hostOps1_2 (StableHlo.after hostOps1_1 (StableHlo.after hostOps1 V)))
    (Proc.devRef .tc main_v45) = fXn a0 a1 a2 a3 := by
  rw [r4_v45, r3_v41, r3_cst, r3_v44, k2 _ main_v11 (by decide), k2 _ main_v12 (by decide), k2 _ main_v14 (by decide),
    k2 _ main_arg1 (by decide), k2 _ main_arg3 (by decide), k1 _ main_arg1 (by decide), k1 _ main_arg3 (by decide),
    r1_v11, r1_v12, r1_v14, ha0, ha1, ha2, ha3]
  rfl

/-- The first result buffer after the lines. -/
theorem run_v88 : StableHlo.after rest V (Proc.devRef .tc main_v88) = fOut w a0 a1 a2 a3 a5 a6 a7 := by
  rw [rest_eq, r5_v88, x_eq V w a0 a1 a2 a3 a5 a6 a7 h0 ha0 ha1 ha2 ha3 ha5 ha6 ha7,
    xn_eq V w a0 a1 a2 a3 a5 a6 a7 h0 ha0 ha1 ha2 ha3 ha5 ha6 ha7,
    k4 _ main_v10 (by decide), k4 _ main_v11 (by decide), k3 _ main_v10 (by decide), k3 _ main_v11 (by decide),
    k2 _ main_v10 (by decide), k2 _ main_v11 (by decide), r1_v10, r1_v11, h0, ha2, ha5]
  rfl

/-- The second result buffer after the lines. -/
theorem run_v89 : StableHlo.after rest V (Proc.devRef .tc main_v89) = fLse w a0 a1 a2 a3 a5 a6 a7 := by
  rw [rest_eq, r5_v89, x_eq V w a0 a1 a2 a3 a5 a6 a7 h0 ha0 ha1 ha2 ha3 ha5 ha6 ha7,
    xn_eq V w a0 a1 a2 a3 a5 a6 a7 h0 ha0 ha1 ha2 ha3 ha5 ha6 ha7,
    k4 _ main_arg7 (by decide), k3 _ main_arg7 (by decide), k2 _ main_arg7 (by decide), k1 _ main_arg7 (by decide), ha7]
  rfl

end

variable (m : (ℓ : Loc nD τ sig) → Buf (Elt Ideal) ℓ)

/-- Every window's block index at the one point (decided). -/
theorem idx0 : ∀ t : Fin cfg0.N, win0_0.index t = ![0, 0, 0, 0] ∧ win0_1.index t = ![0, 0, 0, 0] :=
  (by decide +kernel : ∀ t : Fin grid0.N, _)

/-- The input block at the one point is the array of codes. -/
theorem iblk_codes (c : Dev nD) : iblk m c 0 t0_0 = m ((c : Thread nD τ).loc main_arg4) := by
  blk_ext! [iblk, V, idx0 t0_0]

/-- The widened codes are the codes. -/
theorem w_eq (c : Dev nD) : (dats m 0 c).arrAt 1 cfg0.N = fun i => m ((c : Thread nD τ).loc main_arg4) i := by
  refine (dats m 0 c).arrAt_eq_of_after_last 1 t0_0 (by decide +kernel) _ fun j => ?_
  blk_simp
  rw [after0_1]
  frame_out
  rw [iblk_codes]
  rfl

/-- What the lines after the widening find: the widened codes, and the arguments as launched. -/
abbrev V1 (c : Dev nD) : Valuation τ sig (Elt Ideal) :=
  Pipeline.withArrays spec0 c (V0 m c) (fun w => (dats m 0 c).arrAt w cfg0.N)

theorem V1_w (c : Dev nD) : V1 m c (Proc.devRef .tc main_v0) = fun i => m ((c : Thread nD τ).loc main_arg4) i :=
  (Pipeline.withArrays_arr spec0 (by decide) c (V0 m c) (fun w => (dats m 0 c).arrAt w cfg0.N) 1).trans (w_eq m c)

theorem V1_arg (c : Dev nD) (b : Ref sig .tc) (hb : ∀ w, Pipeline.arrRef spec0 w ≠ b) : V1 m c (Proc.devRef .tc b) = V0 m c (Proc.devRef .tc b) :=
  Pipeline.withArrays_of_ne _ c (V0 m c) _ b hb

/-- The first result, of the memory. -/
def resOut (c : Dev nD) : FVec Ideal S12x3x128x256 .bf16 :=
  fOut (fun i => m ((c : Thread nD τ).loc main_arg4) i) (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg6)) (m ((c : Thread nD τ).loc main_arg7))

/-- The second result, of the memory. -/
def resLse (c : Dev nD) : FVec Ideal S12x3x128x1 .f32 :=
  fLse (fun i => m ((c : Thread nD τ).loc main_arg4) i) (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg6)) (m ((c : Thread nD τ).loc main_arg7))

theorem tail_v88 (c : Dev nD) :
    Pipeline.afterTail₀ cfgs (dats m) 0 (V0 m) [hostOps1, hostOps1_1, hostOps1_2, hostOps1_3, hostOps1_4] c main_v88 = resOut m c :=
  run_v88 (V1 m c) _ _ _ _ _ _ _ _ (V1_w m c)
    ((V1_arg m c main_arg0 (by decide)).trans (V_main_arg0 m c)) ((V1_arg m c main_arg1 (by decide)).trans (V_main_arg1 m c))
    ((V1_arg m c main_arg2 (by decide)).trans (V_main_arg2 m c)) ((V1_arg m c main_arg3 (by decide)).trans (V_main_arg3 m c))
    ((V1_arg m c main_arg5 (by decide)).trans (V_main_arg5 m c)) ((V1_arg m c main_arg6 (by decide)).trans (V_main_arg6 m c))
    ((V1_arg m c main_arg7 (by decide)).trans (V_main_arg7 m c))

theorem tail_v89 (c : Dev nD) :
    Pipeline.afterTail₀ cfgs (dats m) 0 (V0 m) [hostOps1, hostOps1_1, hostOps1_2, hostOps1_3, hostOps1_4] c main_v89 = resLse m c :=
  run_v89 (V1 m c) _ _ _ _ _ _ _ _ (V1_w m c)
    ((V1_arg m c main_arg0 (by decide)).trans (V_main_arg0 m c)) ((V1_arg m c main_arg1 (by decide)).trans (V_main_arg1 m c))
    ((V1_arg m c main_arg2 (by decide)).trans (V_main_arg2 m c)) ((V1_arg m c main_arg3 (by decide)).trans (V_main_arg3 m c))
    ((V1_arg m c main_arg5 (by decide)).trans (V_main_arg5 m c)) ((V1_arg m c main_arg6 (by decide)).trans (V_main_arg6 m c))
    ((V1_arg m c main_arg7 (by decide)).trans (V_main_arg7 m c))

/-- The reference's run: its two results, of the memory. -/
theorem run_results (ρ : Dev nD → PrngReg) : θ_run defs (onTc (τ := τ) (main (F := Ideal))) ⟨m, fun _ => 0, ρ⟩ (fun r => ∀ c : Dev nD,
    r.2.mem ((c.tc : Thread nD τ).loc main_v88) = resOut m c ∧ r.2.mem ((c.tc : Thread nD τ).loc main_v89) = resLse m c) :=
  (θ_run defs _ _).mono (fun _ h c =>
    ⟨((h c).2 main_v88 (Pipeline.mem_restRefs_of main_v88 (by decide) (by decide))).trans (tail_v88 m c),
     ((h c).2 main_v89 (Pipeline.mem_restRefs_of main_v89 (by decide) (by decide))).trans (tail_v89 m c)⟩) (run_main m ρ)

end Cert.ReferenceIdeal.Value

end

end
-- ==== Proof.RefVal.lean ====
/-
  The reference's arrays, index by index.
-/
module

public import proofs.«01_k».proof.Proof.RefRun
public import proofs.«01_k».proof.Proof.Last
public import Idealize.ShloMosaic.Lib.Pointwise

@[expose] public section

set_option maxRecDepth 16384

noncomputable section

open Idealize.ShloMosaic Idealize.ShloMosaic.TcCoe Idealize.SL.Sem

namespace Cert.ReferenceIdeal.Value
open Cert.ReferenceIdeal Cert.ReferenceIdeal.Gen
open Cert.KernelIdeal.Value (latOf headOf pow2 nvis)

/-- The bits of a float32 made of an exponent byte. -/
theorem bits32 : ∀ e : BitVec 8, ((e.setWidth 32 <<< 23).extractLsb' 31 1 == 1#1) = false ∧ ((e.setWidth 32 <<< 23).extractLsb' 23 8).toNat = e.toNat
    ∧ ((e.setWidth 32 <<< 23).extractLsb' 0 23).toNat = 0 ∧ IntOp.shli ArithUnit.host (e.setWidth 32) 23#32 = e.setWidth 32 <<< 23 := by
  decide +kernel

/-- The bits of a bfloat16 made of an exponent byte. -/
theorem bits16 : ∀ e : BitVec 8, ((e.setWidth 16 <<< 7).extractLsb' 15 1 == 1#1) = false ∧ ((e.setWidth 16 <<< 7).extractLsb' 7 8).toNat = e.toNat
    ∧ ((e.setWidth 16 <<< 7).extractLsb' 0 7).toNat = 0 := by
  decide +kernel

/-- A power of two does not depend on the width of the fraction. -/
theorem ieee_pow2 {w : ℕ} (m : ℕ) (x : BitVec w) (n : ℕ) (h1 : (x.extractLsb' (8 + m) 1 == 1#1) = false) (h2 : (x.extractLsb' m 8).toNat = n)
    (h3 : (x.extractLsb' 0 m).toNat = 0) :
    Ideal.ieee 8 m x = if n = 255 then ⊤ else if n = 0 then 0 else (((2 : ℝ) ^ ((n : ℤ) - 127) : ℝ) : EReal) := by
  unfold Ideal.ieee
  simp only [h1, h2, h3]
  norm_num [-EReal.coe_mul]
  split_ifs
  · rfl
  · rfl
  · rw [zpow_sub₀ (by norm_num) _ (m : ℤ)]
    congr 1
    field_simp
    norm_num

theorem pow2_eq (e : BitVec 8) : Ideal.ofBits FTy.f32 (IntOp.shli ArithUnit.host (BitVec.setWidth 32 e) 23#32) = pow2 e := by
  obtain ⟨h1, h2, h3, h4⟩ := bits32 e
  obtain ⟨g1, g2, g3⟩ := bits16 e
  rw [h4]
  exact (ieee_pow2 23 _ _ h1 h2 h3).trans (ieee_pow2 7 _ _ g1 g2 g3).symm

/-- Minus infinity. -/
theorem neg_inf : Ideal.ofBits .f32 0xFF800000#32 = ⊥ := by simp [Ideal.ofBits, Ideal.ieee]

/-- The host's maximum over the last of four axes. -/
theorem reduce_max {n0 n1 n2 n3 : ℕ} (h : (⟨4, ![n0, n1, n2, n3]⟩ : Shape).ReducesTo [3] ⟨3, ![n0, n1, n2]⟩) (hu : 0 < S_.numel)
    (x : FVec Ideal ⟨4, ![n0, n1, n2, n3]⟩ .f32) (b : Fin n0) (j : Fin n1) (k : Fin n2) :
    (Host.reduce (FloatOps.maximumf (F := Ideal) (φ := .f32)) x (constant (F := Ideal) S_ .f32 0xFF800000#32) h hu (ix3 b j k) : Ideal .f32)
      = Finset.univ.sup fun s : Fin n3 => (x (ix4 b j k s) : EReal) := by
  pointwise
  rw [neg_inf]
  rfl

/-- A small number as a word is that number. -/
theorem toInt_small (s : Fin 24576) : (BitVec.ofNat 32 s.val).toInt = (s.val : ℤ) := by
  rw [BitVec.toInt_eq_toNat_cond, BitVec.toNat_ofNat, Nat.mod_eq_of_lt (by omega), if_pos (by omega)]

/-- The larger of two arrays' elements. -/
theorem maximumf_apply {S : Shape} (u v : FVec Ideal S .f32) (i : S.Idx) : (maximumf u v i : EReal) = max (u i : EReal) (v i : EReal) := rfl

/-- Which of three a token sees. -/
theorem sle_tok : ∀ s j : Fin 3, IntOp.cmpi .sle (BitVec.ofNat 32 s.val) (BitVec.ofNat 32 j.val) = if s.val ≤ j.val then 1#1 else 0#1 := by
  decide +kernel

/-- A latent's element: the code times its scale. -/
theorem rC_apply (w : FVec Ideal S12x24576x4x256 .bf16) (e : IVec S12x24576x4x8 8) (b : Fin 12) (s : Fin 24576) (l : Fin 4) (d : Fin 256) :
    (rC w e (ix4 b s l d) : EReal) = w (ix4 b s l d) * pow2 (e (ix4 b s l ⟨d.val / 32, by omega⟩)) := by
  pointwise [rC]
  rw [pow2_eq]

/-- A score against the cache. -/
theorem rS_apply (C : FVec Ideal S12x24576x4x256 .bf16) (a0 : FVec Ideal S12x3x128x256 .bf16) (a1 : FVec Ideal S12x3x128x64 .bf16)
    (a6 : FVec Ideal S12x24576x64 .bf16) (b : Fin 12) (j : Fin 3) (h : Fin 128) (s : Fin 24576) :
    (rS C a0 a1 a6 (ix4 b j h s) : EReal) = ((∑ d : Fin 256, (C (ix4 b s (latOf h) d) : EReal) * a0 (ix4 b j h d)) + ∑ r : Fin 64, (a1 (ix4 b j h r) : EReal) * a6 (ix3 b s r)) * rSm ix0 := by
  pointwise [rS, rQ]
  rfl

/-- A masked score against the cache. -/
theorem rX_apply (x : FVec Ideal S12x3x128x24576 .f32) (a7 : IVec S12 32) (b : Fin 12) (j : Fin 3) (h : Fin 128) (s : Fin 24576) :
    (rX x a7 (ix4 b j h s) : EReal) = if (s.val : ℤ) < (a7 (ix1 b) : BitVec 32).toInt then x (ix4 b j h s) else ⊥ := by
  pointwise [rX, rMask]
  rw [neg_inf]
  rw [WordCmp.cmpi_slt_eq, Cert.KernelIdeal.Value.select_ofBool, toInt_small]

/-- A new latent's element. -/
theorem rCn_apply (a2 : FVec Ideal S144x256 .bf16) (b : Fin 12) (j : Fin 3) (l : Fin 4) (d : Fin 256) :
    (rCn a2 (ix4 b j l d) : EReal) = a2 (ix2 ⟨b.val * 12 + j.val * 4 + l.val, by omega⟩ d) := by
  pointwise [rCn]

/-- A score against a new token. -/
theorem rSn_apply (Cn : FVec Ideal S12x3x4x256 .bf16) (a0 : FVec Ideal S12x3x128x256 .bf16) (a1 : FVec Ideal S12x3x128x64 .bf16)
    (a3 : FVec Ideal S12x3x64 .bf16) (sm : FVec Ideal S_ .f32) (b : Fin 12) (j : Fin 3) (h : Fin 128) (s : Fin 3) :
    (rSn Cn (rQ a0) a1 a3 sm (ix4 b j h s) : EReal) = ((∑ d : Fin 256, (Cn (ix4 b s (latOf h) d) : EReal) * a0 (ix4 b j h d)) + ∑ r : Fin 64, (a1 (ix4 b j h r) : EReal) * a3 (ix3 b s r)) * sm ix0 := by
  pointwise [rSn, rQ]
  rfl

/-- A masked score against a new token. -/
theorem rXn_apply (x : FVec Ideal S12x3x128x3 .f32) (b : Fin 12) (j : Fin 3) (h : Fin 128) (s : Fin 3) :
    (rXn x (ix4 b j h s) : EReal) = if s.val ≤ j.val then x (ix4 b j h s) else ⊥ := by
  pointwise [rXn, rCausal]
  rw [neg_inf, sle_tok]
  by_cases e : s.val ≤ j.val
  · rw [if_pos e, if_pos e]; rfl
  · rw [if_neg e, if_neg e]; rfl

/-- A row's maximum. -/
theorem rM_apply (x : FVec Ideal S12x3x128x24576 .f32) (xn : FVec Ideal S12x3x128x3 .f32) (b : Fin 12) (j : Fin 3) (h : Fin 128) :
    (rM x xn (ix3 b j h) : EReal) = max (Finset.univ.sup fun s : Fin 24576 => (x (ix4 b j h s) : EReal)) (Finset.univ.sup fun s : Fin 3 => (xn (ix4 b j h s) : EReal)) :=
  (maximumf_apply _ _ _).trans (congrArg₂ max (reduce_max _ _ x b j h) (reduce_max _ _ xn b j h))

/-- The weight of a cache position. -/
theorem rP_apply (x : FVec Ideal S12x3x128x24576 .f32) (M : FVec Ideal S12x3x128 .f32) (b : Fin 12) (j : Fin 3) (h : Fin 128) (s : Fin 24576) :
    (rP x M (ix4 b j h s) : EReal) = Ideal.exp (x (ix4 b j h s) - M (ix3 b j h)) := by
  pointwise [rP]

/-- The weight of a new token. -/
theorem rPn_apply (x : FVec Ideal S12x3x128x3 .f32) (M : FVec Ideal S12x3x128 .f32) (b : Fin 12) (j : Fin 3) (h : Fin 128) (s : Fin 3) :
    (rPn x M (ix4 b j h s) : EReal) = Ideal.exp (x (ix4 b j h s) - M (ix3 b j h)) := by
  pointwise [rPn]

/-- A row's total. -/
theorem rL_apply (p : FVec Ideal S12x3x128x24576 .f32) (pn : FVec Ideal S12x3x128x3 .f32) (b : Fin 12) (j : Fin 3) (h : Fin 128) :
    (rL p pn (ix3 b j h) : EReal) = (∑ s : Fin 24576, (p (ix4 b j h s) : EReal)) + ∑ s : Fin 3, (pn (ix4 b j h s) : EReal) := by
  pointwise [rL]

/-- An element of the first result. -/
theorem rOut_apply (C : FVec Ideal S12x24576x4x256 .bf16) (Cn : FVec Ideal S12x3x4x256 .bf16) (p : FVec Ideal S12x3x128x24576 .f32)
    (pn : FVec Ideal S12x3x128x3 .f32) (L : FVec Ideal S12x3x128 .f32) (b : Fin 12) (j : Fin 3) (h : Fin 128) (x : Fin 256) :
    (rOut C Cn p pn L (ix4 b j h x) : EReal) = Ideal.div ((∑ s : Fin 24576, (C (ix4 b s (latOf h) x) : EReal) * p (ix4 b j h s))
      + ∑ s : Fin 3, (Cn (ix4 b s (latOf h) x) : EReal) * pn (ix4 b j h s)) (L (ix3 b j h)) := by
  pointwise [rOut]
  rfl

/-- An element of the second result. -/
theorem rLse_apply (M L : FVec Ideal S12x3x128 .f32) (a7 : IVec S12 32) (b : Fin 12) (j : Fin 3) (h : Fin 128) :
    (rLse M L a7 (ix4 b j h 0) : EReal) = M (ix3 b j h) + Ideal.log (L (ix3 b j h)) - Ideal.log (nvis (a7 (ix1 b)) j) := by
  pointwise [rLse, rN]
  rfl

end Cert.ReferenceIdeal.Value

end

end
-- ==== Proof.Reindex.lean ====
/-
  The index sets of the kernel against those of the reference: the cache in 48 blocks of 512 keys, sixteen rows of new tokens of
  which three are real, and the permuted columns of a latent.
-/
module

public import proofs.«01_k».proof.Proof.Blocks
public import proofs.«01_k».proof.Proof.Final

@[expose] public section

noncomputable section

open Idealize.ShloMosaic

namespace Cert.KernelIdeal.Value

/-- A block and a key within it, as a position of the cache. -/
def posE : Fin 48 × Fin 512 ≃ Fin 24576 where
  toFun x := pos x.1.val x.2
  invFun s := (⟨s.val / 512, by omega⟩, ⟨s.val % 512, by omega⟩)
  left_inv := fun ⟨u, p⟩ => Prod.ext
    (Fin.ext (by show (512 * (u.val % 48) + p.val) / 512 = u.val; omega)) (Fin.ext (by show (512 * (u.val % 48) + p.val) % 512 = p.val; omega))
  right_inv := fun s => Fin.ext (by show 512 * (s.val / 512 % 48) + s.val % 512 = s.val; omega)

/-- A position is a key of one of the blocks. -/
theorem exists_pos (s : Fin 24576) : ∃ u, u < 48 ∧ ∃ p, s = pos u p :=
  ⟨s.val / 512, by omega, ⟨s.val % 512, by omega⟩, Fin.ext (by show s.val = 512 * (s.val / 512 % 48) + s.val % 512; omega)⟩

/-- A sum over the positions is one over the blocks and their keys. -/
theorem sum_pos (f : Fin 24576 → EReal) : ∑ s, f s = ∑ u ∈ Finset.range 48, ∑ p : Fin 512, f (pos u p) := by
  rw [← Equiv.sum_comp posE f, Fintype.sum_prod_type, Finset.sum_range]
  rfl

/-- A maximum over the positions is one over the blocks and their keys. -/
theorem sup_pos (f : Fin 24576 → EReal) :
    Finset.univ.sup f = (Finset.range 48).sup fun u => Finset.univ.sup fun p : Fin 512 => f (pos u p) := by
  refine le_antisymm (Finset.sup_le fun s _ => ?_) (Finset.sup_le fun u _ => Finset.sup_le fun p _ => Finset.le_sup (f := f) (Finset.mem_univ _))
  obtain ⟨u, hu, p, rfl⟩ := exists_pos s
  exact le_trans (Finset.le_sup (f := fun p : Fin 512 => f (pos u p)) (Finset.mem_univ p))
    (Finset.le_sup (f := fun u => Finset.univ.sup fun p : Fin 512 => f (pos u p)) (Finset.mem_range.mpr hu))

/-- A new token among the sixteen rows. -/
def row16 (j : Fin 3) : Fin 16 := ⟨j.val, by omega⟩

/-- A sum over sixteen rows of which only three count. -/
theorem sum_tok (g : Fin 16 → EReal) (h : ∀ j : Fin 16, ¬ j.val < 3 → g j = 0) : ∑ j, g j = ∑ j : Fin 3, g (row16 j) := by
  refine (Fin.sum_univ_add (a := 3) (b := 13) g).trans ?_
  rw [Finset.sum_eq_zero (s := (Finset.univ : Finset (Fin 13))) fun j _ => h _ (by show ¬ 3 + j.val < 3; omega), add_zero]
  rfl

/-- A maximum over sixteen rows of which only three count. -/
theorem sup_tok (g : Fin 16 → EReal) (h : ∀ j : Fin 16, ¬ j.val < 3 → g j = ⊥) : Finset.univ.sup g = Finset.univ.sup fun j : Fin 3 => g (row16 j) := by
  refine le_antisymm (Finset.sup_le fun j _ => ?_) (Finset.sup_le fun j _ => Finset.le_sup (f := g) (Finset.mem_univ _))
  by_cases e : j.val < 3
  · exact Finset.le_sup (f := fun j : Fin 3 => g (row16 j)) (Finset.mem_univ ⟨j.val, e⟩)
  · rw [h j e]; exact bot_le

/-- The permutation of the columns. -/
def permE : Fin 256 ≃ Fin 256 := ⟨perm, unperm, unperm_perm, perm_unperm⟩

/-- A dot product with its columns permuted and its factors exchanged. -/
theorem dot_perm (f g : Fin 256 → EReal) : ∑ d, f d * g d = ∑ d, g (perm d) * f (perm d) := by
  rw [← Equiv.sum_comp permE fun d => f d * g d]
  exact Finset.sum_congr rfl fun d _ => mul_comm _ _

/-- The permutation keeps a column in its group of thirty-two. -/
theorem perm_div (d : Fin 256) : (perm d).val / 32 = d.val / 32 := by
  show (d.val / 32 * 32 + (d.val % 32 % 4 * 8 + d.val % 32 / 4)) / 32 = d.val / 32
  omega

/-- So does its inverse. -/
theorem unperm_div (d : Fin 256) : (unperm d).val / 32 = d.val / 32 := by
  rw [← perm_div (unperm d), perm_unperm]

end Cert.KernelIdeal.Value

end

end
-- ==== Proof.Equal.lean ====
/-
  The two programs' results are the same function of the argument arrays: the scores of the reference are the kernel's times the
  logarithm of two, so are the maxima, and the weights agree.
-/
module

public import proofs.«01_k».proof.Proof.RefVal
public import proofs.«01_k».proof.Proof.Reindex

@[expose] public section

set_option maxRecDepth 16384

noncomputable section

open Idealize.ShloMosaic Idealize.ShloMosaic.TcCoe Idealize.SL.Sem Cert.Online

namespace Cert.ReferenceIdeal.Value
open Cert.ReferenceIdeal Cert.ReferenceIdeal.Gen
open Cert.KernelIdeal.Value (latOf rowOf pow2 nvis perm unperm perm_unperm perm_div unperm_div pos exists_pos sum_pos sup_pos row16 sum_tok sup_tok dot_perm
  qK qrK cK scK vnK vnK_of snK MK LK AK outK lseK c2)

/-- The logarithm of two. -/
def ln2 : EReal := ((Real.log 2 : ℝ) : EReal)

theorem log2_pos : (0 : ℝ) < Real.log 2 := Real.log_pos (by norm_num)

theorem bot_mul_ln2 : (⊥ : EReal) * ln2 = ⊥ := EReal.bot_mul_coe_of_pos log2_pos

/-- The pattern of three hundred and twenty. -/
theorem bits_320 : Ideal.ofBits .f32 0x43A00000#32 = ((320 : ℝ) : EReal) := by
  simp [Ideal.ofBits, Ideal.ieee, -EReal.coe_mul]
  norm_num

/-- The reference's scale is the kernel's times the logarithm of two. -/
theorem sm_eq : (rSm ix0 : EReal) = c2 * ln2 := by
  have hl : Real.log 2 ≠ 0 := log2_pos.ne'
  have hs : Real.sqrt 320 ≠ 0 := (Real.sqrt_pos.mpr (by norm_num)).ne'
  pointwise [rSm]
  rw [bits_320]
  unfold c2 ln2
  rw [← EReal.coe_mul, mul_assoc, inv_mul_cancel₀ hl, mul_one]
  have e : Ideal.sqrt ((320 : ℝ) : EReal) = ((Real.sqrt 320 : ℝ) : EReal) := by simp
  rw [e]
  unfold Ideal.div
  rw [if_neg (by exact_mod_cast hs), one_mul, EReal.coe_inv]

variable (w : FVec Ideal S12x24576x4x256 .bf16) (a0 : FVec Ideal S12x3x128x256 .bf16) (a1 : FVec Ideal S12x3x128x64 .bf16)
  (a2 : FVec Ideal S144x256 .bf16) (a3 : FVec Ideal S12x3x64 .bf16) (a4 : FVec Ideal S12x24576x4x256 .fp8e4m3) (a5 : IVec S12x24576x4x8 8)
  (a6 : FVec Ideal S12x24576x64 .bf16) (a7 : IVec S12 32)
  (b : Fin 12) (j : Fin 3) (h : Fin 128)

theorem tok_row : (⟨(rowOf j h).val / 32, by omega⟩ : Fin 3) = j := Fin.ext (by show (32 * j.val + h.val % 32) / 32 = j.val; omega)

theorem head_row : (⟨32 * (latOf h).val + (rowOf j h).val % 32, by omega⟩ : Fin 128) = h :=
  Fin.ext (by show 32 * (h.val / 32) + (32 * j.val + h.val % 32) % 32 = h.val; omega)

theorem qK_eq (d : Fin 256) : qK a0 b (latOf h) (rowOf j h) d = a0 (ix4 b j h (perm d)) := by
  unfold qK
  rw [tok_row, head_row]

theorem qrK_eq (r : Fin 64) : qrK a1 b (latOf h) (rowOf j h) r = a1 (ix4 b j h r) := by
  unfold qrK
  rw [tok_row, head_row]

/-- A latent of the cache, at a permuted column. -/
theorem cK_eq (hw : ∀ i, (w i : EReal) = a4 i) (l : Fin 4) (s : Fin 24576) (d : Fin 256) : cK a4 a5 b l s d = rC w a5 (ix4 b s l (perm d)) := by
  rw [rC_apply, hw]
  unfold cK
  have e : (⟨d.val / 32, by omega⟩ : Fin 8) = ⟨(perm d).val / 32, by omega⟩ := Fin.ext (perm_div d).symm
  rw [e]

/-- A latent of a new token, at a permuted column. -/
theorem vnK_eq (l : Fin 4) (d : Fin 256) (s : Fin 3) : vnK a2 b l d (row16 s) = rCn a2 (ix4 b s l (perm d)) := by
  rw [rCn_apply, vnK_of _ _ _ _ _ s.isLt]
  rfl

/-- The reference's score against the cache is the kernel's times the logarithm of two. -/
theorem x_score (hw : ∀ i, (w i : EReal) = a4 i) (u : ℕ) (hu : u < 48) (p : Fin 512) :
    (fX w a0 a1 a5 a6 a7 (ix4 b j h (pos u p)) : EReal) = scK a0 a1 a4 a5 a6 a7 b (latOf h) (rowOf j h) u p * ln2 := by
  have hp : ((pos u p).val : ℤ) = 512 * u + p.val := by
    show ((512 * (u % 48) + p.val : ℕ) : ℤ) = _
    rw [Nat.mod_eq_of_lt hu]; push_cast; rfl
  unfold fX
  rw [rX_apply, hp]
  unfold scK
  by_cases e : (512 * u + p.val : ℤ) < (a7 (ix1 b) : BitVec 32).toInt
  · rw [if_pos e, if_pos e, rS_apply, sm_eq, mul_assoc, dot_perm]
    refine congrArg₂ (· * ·) (congrArg₂ (· + ·) (Finset.sum_congr rfl fun d _ => ?_) (Finset.sum_congr rfl fun r _ => ?_)) rfl
    · rw [qK_eq, cK_eq w a4 a5 b hw]
    · rw [qrK_eq]
  · rw [if_neg e, if_neg e, bot_mul_ln2]

/-- The reference's score against a new token is the kernel's times the logarithm of two. -/
theorem xn_score (s : Fin 3) : (fXn a0 a1 a2 a3 (ix4 b j h s) : EReal) = snK a0 a1 a2 a3 b (latOf h) (rowOf j h) (row16 s) * ln2 := by
  have hj : (rowOf j h).val / 32 = j.val := by show (32 * j.val + h.val % 32) / 32 = j.val; omega
  unfold fXn
  rw [rXn_apply]
  unfold snK
  by_cases e : s.val ≤ j.val
  · have e' : (row16 s).val ≤ (rowOf j h).val / 32 ∧ (row16 s).val < 3 := ⟨by rw [hj]; exact e, s.isLt⟩
    rw [if_pos e, dif_pos e', rSn_apply, sm_eq, mul_assoc, dot_perm]
    refine congrArg₂ (· * ·) (congrArg₂ (· + ·) (Finset.sum_congr rfl fun d _ => ?_) (Finset.sum_congr rfl fun r _ => ?_)) rfl
    · rw [qK_eq, vnK_eq]
    · rw [qrK_eq]; rfl
  · have e' : ¬ ((row16 s).val ≤ (rowOf j h).val / 32 ∧ (row16 s).val < 3) := fun c => e (by rw [hj] at c; exact c.1)
    rw [if_neg e, dif_neg e', bot_mul_ln2]

/-- A row past the third is masked. -/
theorem snK_past (l : Fin 4) (i : Fin 96) (s : Fin 16) (hs : ¬ s.val < 3) : snK a0 a1 a2 a3 b l i s = ⊥ := by
  unfold snK
  rw [dif_neg (fun e => hs e.2)]

/-- The reference's row maximum is the kernel's times the logarithm of two. -/
theorem m_eq (hw : ∀ i, (w i : EReal) = a4 i) :
    (fM w a0 a1 a2 a3 a5 a6 a7 (ix3 b j h) : EReal) = MK a0 a1 a2 a3 a4 a5 a6 a7 b (latOf h) (rowOf j h) * ln2 := by
  have hmono : Monotone fun x : EReal => x * ln2 := fun x y e => mul_le_mul_of_nonneg_right e (EReal.coe_nonneg.mpr log2_pos.le)
  unfold fM MK mx
  rw [rM_apply, sup_pos, max_comm]
  refine Eq.trans ?_ (hmono.map_max).symm
  refine congrArg₂ max ?_ ?_
  · rw [sup_tok _ (snK_past a0 a1 a2 a3 b _ _)]
    refine Eq.trans ?_ (sup_mul _ _ log2_pos).symm
    exact Finset.sup_congr rfl fun s _ => xn_score a0 a1 a2 a3 b j h s
  · refine Eq.trans ?_ (sup_mul _ _ log2_pos).symm
    refine Finset.sup_congr rfl fun u hu => ?_
    refine Eq.trans ?_ (sup_mul _ _ log2_pos).symm
    exact Finset.sup_congr rfl fun p _ => x_score w a0 a1 a4 a5 a6 a7 b j h hw u (Finset.mem_range.mp hu) p

/-- The weight of a cache position. -/
theorem p_eq (hw : ∀ i, (w i : EReal) = a4 i) (u : ℕ) (hu : u < 48) (p : Fin 512) :
    (rP (fX w a0 a1 a5 a6 a7) (fM w a0 a1 a2 a3 a5 a6 a7) (ix4 b j h (pos u p)) : EReal)
      = wt (scK a0 a1 a4 a5 a6 a7 b (latOf h) (rowOf j h) u p) (MK a0 a1 a2 a3 a4 a5 a6 a7 b (latOf h) (rowOf j h)) := by
  rw [rP_apply, x_score w a0 a1 a4 a5 a6 a7 b j h hw u hu p, m_eq w a0 a1 a2 a3 a4 a5 a6 a7 b j h hw]
  exact exp_sub_mul_log2 _ _

/-- The weight of a new token. -/
theorem pn_eq (hw : ∀ i, (w i : EReal) = a4 i) (s : Fin 3) :
    (rPn (fXn a0 a1 a2 a3) (fM w a0 a1 a2 a3 a5 a6 a7) (ix4 b j h s) : EReal)
      = wt (snK a0 a1 a2 a3 b (latOf h) (rowOf j h) (row16 s)) (MK a0 a1 a2 a3 a4 a5 a6 a7 b (latOf h) (rowOf j h)) := by
  rw [rPn_apply, xn_score, m_eq w a0 a1 a2 a3 a4 a5 a6 a7 b j h hw]
  exact exp_sub_mul_log2 _ _

/-- The total of the weights. -/
theorem l_eq (hw : ∀ i, (w i : EReal) = a4 i) :
    (fL w a0 a1 a2 a3 a5 a6 a7 (ix3 b j h) : EReal) = LK a0 a1 a2 a3 a4 a5 a6 a7 b (latOf h) (rowOf j h) := by
  unfold fL LK tot
  rw [rL_apply, sum_pos, add_comm]
  refine congrArg₂ (· + ·) ?_ (Finset.sum_congr rfl fun u hu => Finset.sum_congr rfl fun p _ => ?_)
  · rw [sum_tok _ fun s hs => by rw [snK_past a0 a1 a2 a3 b _ _ s hs, wt_bot, zero_mul]]
    refine Finset.sum_congr rfl fun s _ => ?_
    rw [mul_one]
    exact pn_eq w a0 a1 a2 a3 a4 a5 a6 a7 b j h hw s
  · rw [mul_one]
    exact p_eq w a0 a1 a2 a3 a4 a5 a6 a7 b j h hw u (Finset.mem_range.mp hu) p

/-- The two programs' first results. -/
theorem out_eq (hw : ∀ i, (w i : EReal) = a4 i) (x : Fin 256) :
    (fOut w a0 a1 a2 a3 a5 a6 a7 (ix4 b j h x) : EReal) = outK a0 a1 a2 a3 a4 a5 a6 a7 b j h x := by
  unfold fOut outK AK tot
  rw [rOut_apply, l_eq w a0 a1 a2 a3 a4 a5 a6 a7 b j h hw, sum_pos, add_comm]
  refine congrArg₂ Ideal.div (congrArg₂ (· + ·) ?_ (Finset.sum_congr rfl fun u hu => Finset.sum_congr rfl fun p _ => ?_)) rfl
  · rw [sum_tok _ fun s hs => by rw [snK_past a0 a1 a2 a3 b _ _ s hs, wt_bot, zero_mul]]
    refine Finset.sum_congr rfl fun s _ => ?_
    rw [pn_eq w a0 a1 a2 a3 a4 a5 a6 a7 b j h hw s, vnK_eq, perm_unperm, mul_comm]
    rfl
  · dsimp only
    rw [p_eq w a0 a1 a2 a3 a4 a5 a6 a7 b j h hw u (Finset.mem_range.mp hu) p, cK_eq w a4 a5 b hw, perm_unperm, mul_comm]
    rfl

/-- The two programs' second results. -/
theorem lse_eq (hw : ∀ i, (w i : EReal) = a4 i) :
    (fLse w a0 a1 a2 a3 a5 a6 a7 (ix4 b j h 0) : EReal) = lseK a0 a1 a2 a3 a4 a5 a6 a7 b j h := by
  unfold fLse lseK
  rw [rLse_apply, l_eq w a0 a1 a2 a3 a4 a5 a6 a7 b j h hw, m_eq w a0 a1 a2 a3 a4 a5 a6 a7 b j h hw]
  rfl

end Cert.ReferenceIdeal.Value

end

end
-- ==== Proof.Algebraic.lean ====
/-
  The value claim: from memories that agree at the arguments, the kernel's two results and the reference's are equal.
-/
module

public import proofs.«01_k».proof.Defs
public import proofs.«01_k».proof.Proof.Arrays
public import proofs.«01_k».proof.Proof.Equal
public import Idealize.ShloMosaic.Adequacy
public import Idealize.ShloMosaic.Init

@[expose] public section

set_option maxRecDepth 16384

noncomputable section

open Idealize.ShloMosaic Idealize.ShloMosaic.TcCoe Idealize.SL.Sem

namespace Cert.Proof

open Cert.KernelIdeal.Value (outG lseG)
open Cert.ReferenceIdeal.Value (fOut fLse resOut resLse out_eq lse_eq)

variable (m : (ℓ : Loc Cert.KernelIdeal.nD Cert.KernelIdeal.τ Cert.KernelIdeal.sig) → Buf (Elt Ideal) ℓ)

/-- The kernel's first result, of its arguments on one device, is the reference's. -/
theorem out_arr (c : Dev Cert.KernelIdeal.nD) : outG m c
    = fOut (fun i => Cert.KernelIdeal.Value.A4 m c i) (Cert.KernelIdeal.Value.A0 m c) (Cert.KernelIdeal.Value.A1 m c) (Cert.KernelIdeal.Value.A2 m c)
        (Cert.KernelIdeal.Value.A3 m c) (Cert.KernelIdeal.Value.A5 m c) (Cert.KernelIdeal.Value.A6 m c) (Cert.KernelIdeal.Value.A7 m) := by
  funext i
  refine Eq.trans ?_ (congrArg _ (ix4_eta i))
  exact (out_eq (fun i => Cert.KernelIdeal.Value.A4 m c i) _ _ _ _ (Cert.KernelIdeal.Value.A4 m c) _ _ _ (i 0) (i 1) (i 2) (fun _ => rfl) (i 3)).symm

/-- The kernel's second result, of its arguments on one device, is the reference's. -/
theorem lse_arr (c : Dev Cert.KernelIdeal.nD) : lseG m c
    = fLse (fun i => Cert.KernelIdeal.Value.A4 m c i) (Cert.KernelIdeal.Value.A0 m c) (Cert.KernelIdeal.Value.A1 m c) (Cert.KernelIdeal.Value.A2 m c)
        (Cert.KernelIdeal.Value.A3 m c) (Cert.KernelIdeal.Value.A5 m c) (Cert.KernelIdeal.Value.A6 m c) (Cert.KernelIdeal.Value.A7 m) := by
  funext i
  have e : i = ix4 (i 0) (i 1) (i 2) 0 := by
    funext a
    match a with
    | 0 => rfl
    | 1 => rfl
    | 2 => rfl
    | 3 => exact Fin.ext (Nat.lt_one_iff.mp (i 3).isLt)
  refine Eq.trans ?_ (congrArg _ e.symm)
  exact (lse_eq (fun i => Cert.KernelIdeal.Value.A4 m c i) _ _ _ _ (Cert.KernelIdeal.Value.A4 m c) _ _ _ (i 0) (i 1) (i 2) (fun _ => rfl)).symm

/-- At the ideal values the kernel computes the reference. -/
theorem algebraic : Cert.algebraic_KernelIdeal_ReferenceIdeal := by
  intro m g m' g' _ hm
  refine ⟨fun c => outG m c, fun c => lseG m c, ?_, ?_⟩
  · refine (θ_run _ _ _).mono (fun r h c => ?_) (θ_run_and (Cert.KernelIdeal.Value.run_results m (Cert.KernelIdeal.Value.ok m) g)
      (Cert.KernelIdeal.Gen.unchanged m g (Cert.KernelIdeal.Value.ok m)))
    exact ⟨(h.1 c).1, (h.1 c).2, h.2 c⟩
  · refine (θ_run _ _ _).mono (fun r h c => ?_) (θ_run_and (Cert.ReferenceIdeal.Value.run_results m' g') (Cert.ReferenceIdeal.Gen.unchanged m' g'))
    obtain ⟨e0, e1, e2, e3, e4, e5, e6, e7⟩ := hm c
    obtain rfl : c = 0 := Subsingleton.elim (α := Fin 1) _ _
    refine ⟨(h.1 0).1.trans ?_, (h.1 0).2.trans ?_, h.2 0⟩
    · refine Eq.trans ?_ (out_arr m 0).symm
      unfold resOut
      rw [e0, e1, e2, e3, e4, e5, e6, e7]
    · refine Eq.trans ?_ (lse_arr m 0).symm
      unfold resLse
      rw [e0, e1, e2, e3, e4, e5, e6, e7]

end Cert.Proof

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.OkKernel
public import proofs.«01_k».proof.Proof.OkKernelIdeal
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The named constants of the ideal kernel are the table's values. -/
theorem preserves : Cert.preserves_Kernel_KernelIdeal :=
  ⟨IdealRules.named_const.statement _ _ _ _ _ rfl, IdealRules.named_const.statement _ _ _ _ _ rfl⟩

theorem claim : Cert.Claim := ⟨Cert.Kernel.Gen.facts, Cert.KernelIdeal.Gen.facts, Cert.ReferenceIdeal.Gen.facts,
  fun m ρ _ => Cert.Kernel.Gen.frame m ρ (Cert.Kernel.Value.ok m),
  fun m ρ _ => Cert.KernelIdeal.Gen.frame m ρ (Cert.KernelIdeal.Value.ok m),
  fun m ρ _ => Cert.ReferenceIdeal.Gen.frame m ρ,
  preserves, algebraic⟩

end Cert.Proof

end
